-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_as_initialised [hPre_as_initialised : Cert.Pre_as_initialised.Facts] (m : (ℓ : Loc Cert.KernelIdeal.nD Cert.KernelIdeal.τ Cert.KernelIdeal.sig) → Buf (Elt Ideal) ℓ) : Prop :=
  ∀ c : Dev Cert.KernelIdeal.nD,
    (Cert.Pre_as_initialised.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_as_initialised [hPre_as_initialised : Cert.Pre_as_initialised.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_as_initialised.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_as_initialised [hKernelIdeal : Cert.KernelIdeal.Facts] [hPre_as_initialised : Cert.Pre_as_initialised.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_as_initialised m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_as_initialised [hReferenceIdeal : Cert.ReferenceIdeal.Facts] [hPre_as_initialised : Cert.Pre_as_initialised.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_as_initialised m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_as_initialised [hKernelIdeal : Cert.KernelIdeal.Facts] [hReferenceIdeal : Cert.ReferenceIdeal.Facts] [hPre_as_initialised : Cert.Pre_as_initialised.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_as_initialised m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_as_initialised : Cert.Pre_as_initialised.Facts),
    quiescent_Kernel (hKernel := hKernel)
    ∧ quiescent_KernelIdeal (hKernelIdeal := hKernelIdeal)
    ∧ quiescent_KernelIdeal_pre_as_initialised (hKernelIdeal := hKernelIdeal) (hPre_as_initialised := hPre_as_initialised)
    ∧ quiescent_ReferenceIdeal (hReferenceIdeal := hReferenceIdeal)
    ∧ quiescent_ReferenceIdeal_pre_as_initialised (hReferenceIdeal := hReferenceIdeal) (hPre_as_initialised := hPre_as_initialised)
    ∧ preserves_Kernel_KernelIdeal
    ∧ algebraic_KernelIdeal_ReferenceIdeal_pre_as_initialised (hKernelIdeal := hKernelIdeal) (hReferenceIdeal := hReferenceIdeal) (hPre_as_initialised := hPre_as_initialised)
-- ==== Pre_as_initialised.lean ====
abbrev S64x64 : Shape := ⟨2, ![64, 64]⟩
abbrev S64x64x3 : Shape := ⟨3, ![64, 64, 3]⟩
abbrev S64 : Shape := ⟨1, ![64]⟩
abbrev S64x64x1 : Shape := ⟨3, ![64, 64, 1]⟩
abbrev S_ : Shape := ⟨0, ![]⟩
abbrev S64x1 : Shape := ⟨2, ![64, 1]⟩

class Facts : Prop where
  slices_S64x64x3_S64x64x1_0_0_0 : S64x64x3.Slices ![0, 0, 0] S64x64x1
  shapeCasts_S64x64x1_S64x64 : S64x64x1.ShapeCasts S64x64
  slices_S64x64x3_S64x64x1_0_0_1 : S64x64x3.Slices ![0, 0, 1] S64x64x1
  slices_S64x64x3_S64x64x1_0_0_2 : S64x64x3.Slices ![0, 0, 2] S64x64x1
  bcast_S_S64 : S_.BroadcastsInDim S64 (![] : Fin 0 → Fin S64.rank)
  bcast_S_S64x64 : S_.BroadcastsInDim S64x64 (![] : Fin 0 → Fin S64x64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)

variable [Facts]

def fn_part1 {F : FTy → Type} [FloatOps F] (main_arg2 : IVec S64 32) (main_v10 : IVec S64 1) (main_v19 : IVec S64x64 1) : IVec S64x64 1 :=
  let main_c_2 : IVec S_ 32 := constantI S_ 32 1#32
  let main_v20 : IVec S64 32 := broadcastInDim S64 ![] bcast_S_S64 main_c_2
  let main_v21 : IVec S64 1 := cmpi .eq main_arg2 main_v20
  let main_v22 : IVec S64 1 := cmpi .eq main_v21 main_v10
  let main_v23 : IVec S64x1 1 := broadcastInDim S64x1 ![0] bcast_S64_S64x1_0 main_v22
  let main_v24 : IVec S64x64 1 := broadcastInDim S64x64 ![0, 1] bcast_S64x1_S64x64_0_1 main_v23
  let main_v25 : IVec S64x64 1 := andi main_v19 main_v24
  main_v25

def fn {F : FTy → Type} [FloatOps F] (main_arg0 : FVec F S64x64 .f32) (main_arg1 : FVec F S64x64x3 .f32) (main_arg2 : IVec S64 32) : IVec S64x64 1 :=
  let main_v0 : FVec F S64x64x1 .f32 := (extractStridedSlice S64x64x1 ![0, 0, 0] · slices_S64x64x3_S64x64x1_0_0_0) main_arg1
  let main_v1 : FVec F S64x64 .f32 := shapeCast S64x64 main_v0 shapeCasts_S64x64x1_S64x64
  let main_v2 : FVec F S64x64x1 .f32 := (extractStridedSlice S64x64x1 ![0, 0, 1] · slices_S64x64x3_S64x64x1_0_0_1) main_arg1
  let main_v3 : FVec F S64x64 .f32 := shapeCast S64x64 main_v2 shapeCasts_S64x64x1_S64x64
  let main_v4 : FVec F S64x64x1 .f32 := (extractStridedSlice S64x64x1 ![0, 0, 2] · slices_S64x64x3_S64x64x1_0_0_2) main_arg1
  let main_v5 : FVec F S64x64 .f32 := shapeCast S64x64 main_v4 shapeCasts_S64x64x1_S64x64
  let main_v6 : IVec S64 32 := iotaInDim S64 32 0
  let main_c : IVec S_ 32 := constantI S_ 32 1#32
  let main_v7 : IVec S64 32 := broadcastInDim S64 ![] bcast_S_S64 main_c
  let main_v8 : IVec S64 32 := andi main_v6 main_v7
  let main_c_0 : IVec S_ 32 := constantI S_ 32 0#32
  let main_v9 : IVec S64 32 := broadcastInDim S64 ![] bcast_S_S64 main_c_0
  let main_v10 : IVec S64 1 := cmpi .eq main_v8 main_v9
  let main_v11 : IVec S64x64 1 := cmpf .oeq main_v1 main_v3
  let main_v12 : IVec S64x64 1 := cmpf .oeq main_v3 main_v5
  let main_v13 : IVec S64x64 1 := andi main_v11 main_v12
  let main_cst : FVec F S_ .f32 := constant S_ .f32 0x00000000#32
  let main_v14 : FVec F S64x64 .f32 := broadcastInDim S64x64 ![] bcast_S_S64x64 main_cst
  let main_v15 : IVec S64x64 1 := cmpf .ogt main_v1 main_v14
  let main_v16 : IVec S64x64 1 := andi main_v13 main_v15
  let main_cst_1 : FVec F S_ .f32 := constant S_ .f32 0x7F800000#32
  let main_v17 : FVec F S64x64 .f32 := broadcastInDim S64x64 ![] bcast_S_S64x64 main_cst_1
  let main_v18 : IVec S64x64 1 := cmpf .olt main_v1 main_v17
  let main_v19 : IVec S64x64 1 := andi main_v16 main_v18
  fn_part1 (F := F) main_arg2 main_v10 main_v19
-- ==== Kernel.lean ====
abbrev S64x64 : Shape := ⟨2, ![64, 64]⟩
abbrev S64x64x3 : Shape := ⟨3, ![64, 64, 3]⟩
abbrev S64 : Shape := ⟨1, ![64]⟩
abbrev S64x128 : Shape := ⟨2, ![64, 128]⟩
abbrev S32x64x128 : Shape := ⟨3, ![32, 64, 128]⟩
abbrev S_ : Shape := ⟨0, ![]⟩
abbrev S1x64x128 : Shape := ⟨3, ![1, 64, 128]⟩
abbrev S32x128 : Shape := ⟨2, ![32, 128]⟩
abbrev S32x64 : Shape := ⟨2, ![32, 64]⟩

abbrev nBuf : Space → Nat
  | .hbm => 44
  | .vmem => 3
  | .smem => 0
  | _ => 0

abbrev bufTy : (tb : Table) → Fin (tcTables nBuf tb) → BufTy
  | .hbm, ⟨0, _⟩ => ⟨S64x64, .f32⟩
  | .hbm, ⟨1, _⟩ => ⟨S64x64x3, .f32⟩
  | .hbm, ⟨2, _⟩ => ⟨S64, .i32⟩
  | .hbm, ⟨3, _⟩ => ⟨S64x128, .i32⟩
  | .hbm, ⟨4, _⟩ => ⟨S64x128, .i32⟩
  | .hbm, ⟨5, _⟩ => ⟨S32x64x128, .i32⟩
  | .hbm, ⟨6, _⟩ => ⟨S32x64x128, .i32⟩
  | .hbm, ⟨7, _⟩ => ⟨S32x64x128, .i32⟩
  | .hbm, ⟨8, _⟩ => ⟨S_, .i32⟩
  | .hbm, ⟨9, _⟩ => ⟨S32x64x128, .i32⟩
  | .hbm, ⟨10, _⟩ => ⟨S32x64x128, .i32⟩
  | .hbm, ⟨11, _⟩ => ⟨S_, .i32⟩
  | .hbm, ⟨12, _⟩ => ⟨S32x64x128, .i32⟩
  | .hbm, ⟨13, _⟩ => ⟨S32x64x128, .i1⟩
  | .hbm, ⟨14, _⟩ => ⟨S32x64x128, .i32⟩
  | .hbm, ⟨15, _⟩ => ⟨S32x64x128, .i32⟩
  | .hbm, ⟨16, _⟩ => ⟨S_, .i32⟩
  | .hbm, ⟨17, _⟩ => ⟨S32x64x128, .i32⟩
  | .hbm, ⟨18, _⟩ => ⟨S32x64x128, .i32⟩
  | .hbm, ⟨19, _⟩ => ⟨S_, .i32⟩
  | .hbm, ⟨20, _⟩ => ⟨S32x64x128, .i32⟩
  | .hbm, ⟨21, _⟩ => ⟨S32x64x128, .i1⟩
  | .hbm, ⟨22, _⟩ => ⟨S_, .i32⟩
  | .hbm, ⟨23, _⟩ => ⟨S32x64x128, .i32⟩
  | .hbm, ⟨24, _⟩ => ⟨S32x64x128, .i32⟩
  | .hbm, ⟨25, _⟩ => ⟨S_, .i32⟩
  | .hbm, ⟨26, _⟩ => ⟨S32x64x128, .i32⟩
  | .hbm, ⟨27, _⟩ => ⟨S32x64x128, .i1⟩
  | .hbm, ⟨28, _⟩ => ⟨S_, .f32⟩
  | .hbm, ⟨29, _⟩ => ⟨S_, .f32⟩
  | .hbm, ⟨30, _⟩ => ⟨S32x64x128, .f32⟩
  | .hbm, ⟨31, _⟩ => ⟨S32x64x128, .f32⟩
  | .hbm, ⟨32, _⟩ => ⟨S32x64x128, .f32⟩
  | .hbm, ⟨33, _⟩ => ⟨S_, .f32⟩
  | .hbm, ⟨34, _⟩ => ⟨S_, .f32⟩
  | .hbm, ⟨35, _⟩ => ⟨S32x64x128, .f32⟩
  | .hbm, ⟨36, _⟩ => ⟨S32x64x128, .f32⟩
  | .hbm, ⟨37, _⟩ => ⟨S32x64x128, .f32⟩
  | .hbm, ⟨38, _⟩ => ⟨S_, .f32⟩
  | .hbm, ⟨39, _⟩ => ⟨S32x64x128, .f32⟩
  | .hbm, ⟨40, _⟩ => ⟨S32x64x128, .f32⟩
  | .hbm, ⟨41, _⟩ => ⟨S32x64x128, .f32⟩
  | .hbm, ⟨42, _⟩ => ⟨S32x64x128, .bf16⟩
  | .hbm, ⟨43, _⟩ => ⟨S64x64, .f32⟩
  | .local _ .vmem, ⟨0, _⟩ => ⟨S64x64, .f32⟩
  | .local _ .vmem, ⟨1, _⟩ => ⟨S32x64x128, .bf16⟩
  | .local _ .vmem, ⟨2, _⟩ => ⟨S64x64, .f32⟩
  | _, _ => ⟨S64x64, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c_1 : Ref sig .tc := ⟨.hbm, 8, rfl⟩
abbrev main_v3 : Ref sig .tc := ⟨.hbm, 9, rfl⟩
abbrev main_v4 : Ref sig .tc := ⟨.hbm, 10, rfl⟩
abbrev main_c_2 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_3 : Ref sig .tc := ⟨.hbm, 16, rfl⟩
abbrev main_v9 : Ref sig .tc := ⟨.hbm, 17, rfl⟩
abbrev main_v10 : Ref sig .tc := ⟨.hbm, 18, rfl⟩
abbrev main_c_4 : Ref sig .tc := ⟨.hbm, 19, rfl⟩
abbrev main_v11 : Ref sig .tc := ⟨.hbm, 20, rfl⟩
abbrev main_v12 : Ref sig .tc := ⟨.hbm, 21, rfl⟩
abbrev main_c_5 : Ref sig .tc := ⟨.hbm, 22, rfl⟩
abbrev main_v13 : Ref sig .tc := ⟨.hbm, 23, rfl⟩
abbrev main_v14 : Ref sig .tc := ⟨.hbm, 24, rfl⟩
abbrev main_c_6 : Ref sig .tc := ⟨.hbm, 25, rfl⟩
abbrev main_v15 : Ref sig .tc := ⟨.hbm, 26, rfl⟩
abbrev main_v16 : Ref sig .tc := ⟨.hbm, 27, rfl⟩
abbrev main_cst : Ref sig .tc := ⟨.hbm, 28, rfl⟩
abbrev main_cst_7 : Ref sig .tc := ⟨.hbm, 29, rfl⟩
abbrev main_call0_v0 : Ref sig .tc := ⟨.hbm, 30, rfl⟩
abbrev main_call0_v1 : Ref sig .tc := ⟨.hbm, 31, rfl⟩
abbrev main_v17 : Ref sig .tc := ⟨.hbm, 32, rfl⟩
abbrev main_cst_8 : Ref sig .tc := ⟨.hbm, 33, rfl⟩
abbrev main_cst_9 : Ref sig .tc := ⟨.hbm, 34, rfl⟩
abbrev main_call1_v0 : Ref sig .tc := ⟨.hbm, 35, rfl⟩
abbrev main_call1_v1 : Ref sig .tc := ⟨.hbm, 36, rfl⟩
abbrev main_v18 : Ref sig .tc := ⟨.hbm, 37, rfl⟩
abbrev main_cst_10 : Ref sig .tc := ⟨.hbm, 38, rfl⟩
abbrev main_call2_v0 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S64x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x64x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S64x64 : Shape := ⟨2, ![64, 64]⟩
abbrev S64x64x3 : Shape := ⟨3, ![64, 64, 3]⟩
abbrev S64 : Shape := ⟨1, ![64]⟩
abbrev S_ : Shape := ⟨0, ![]⟩
abbrev S1 : Shape := ⟨1, ![1]⟩
abbrev S2 : Shape := ⟨1, ![2]⟩
abbrev S2x1 : Shape := ⟨2, ![2, 1]⟩
abbrev S2x2 : Shape := ⟨2, ![2, 2]⟩
abbrev S1x2 : Shape := ⟨2, ![1, 2]⟩
abbrev S1x64x64x3 : Shape := ⟨4, ![1, 64, 64, 3]⟩
abbrev S1x1x1x1 : Shape := ⟨4, ![1, 1, 1, 1]⟩
abbrev S64x64x64x3 : Shape := ⟨4, ![64, 64, 64, 3]⟩
abbrev S64x64x64 : Shape := ⟨3, ![64, 64, 64]⟩
abbrev S1x1 : Shape := ⟨2, ![1, 1]⟩
abbrev S64x64x1 : Shape := ⟨3, ![64, 64, 1]⟩
abbrev S1x1x64 : Shape := ⟨3, ![1, 1, 64]⟩
abbrev S64x1x64 : Shape := ⟨3, ![64, 1, 64]⟩
abbrev S1x64x1 : Shape := ⟨3, ![1, 64, 1]⟩
abbrev S1x64 : Shape := ⟨2, ![1, 64]⟩

abbrev nBuf : Space → Nat
  | .hbm => 1376
  | .vmem => 0
  | .smem => 0
  | _ => 0

abbrev hbmTy0_0 (i : Nat) : BufTy := match i % 128 with
  | 0 => ⟨S64x64, .f32⟩
  | 1 => ⟨S64x64x3, .f32⟩
  | 2 => ⟨S64, .i32⟩
  | 3 => ⟨S_, .i32⟩
  | 4 => ⟨S_, .i32⟩
  | 5 => ⟨S_, .i32⟩
  | 6 => ⟨S_, .i32⟩
  | 7 => ⟨S1, .i32⟩
  | 8 => ⟨S_, .i32⟩
  | 9 => ⟨S_, .i32⟩
  | 10 => ⟨S_, .i32⟩
  | 11 => ⟨S1, .i32⟩
  | 12 => ⟨S2, .i32⟩
  | 13 => ⟨S1, .i32⟩
  | 14 => ⟨S_, .i32⟩
  | 15 => ⟨S1, .i32⟩
  | 16 => ⟨S_, .i32⟩
  | 17 => ⟨S2, .i64⟩
  | 18 => ⟨S_, .i64⟩
  | 19 => ⟨S2, .i64⟩
  | 20 => ⟨S2, .i64⟩
  | 21 => ⟨S_, .i64⟩
  | 22 => ⟨S2, .i64⟩
  | 23 => ⟨S2, .i64⟩
  | 24 => ⟨S2, .i32⟩
  | 25 => ⟨S2, .i32⟩
  | 26 => ⟨S_, .i32⟩
  | 27 => ⟨S_, .i32⟩
  | 28 => ⟨S_, .i32⟩
  | 29 => ⟨S2, .i32⟩
  | 30 => ⟨S2, .i32⟩
  | 31 => ⟨S2, .i32⟩
  | 32 => ⟨S2, .i32⟩
  | 33 => ⟨S2, .i32⟩
  | 34 => ⟨S_, .i32⟩
  | 35 => ⟨S2, .i32⟩
  | 36 => ⟨S2, .i32⟩
  | 37 => ⟨S_, .i32⟩
  | 38 => ⟨S2, .i32⟩
  | 39 => ⟨S2, .i32⟩
  | 40 => ⟨S2, .i32⟩
  | 41 => ⟨S2, .i32⟩
  | 42 => ⟨S2, .i32⟩
  | 43 => ⟨S_, .i32⟩
  | 44 => ⟨S2, .i32⟩
  | 45 => ⟨S2, .i32⟩
  | 46 => ⟨S_, .i32⟩
  | 47 => ⟨S2, .i32⟩
  | 48 => ⟨S2, .i32⟩
  | 49 => ⟨S2, .i32⟩
  | 50 => ⟨S2, .i32⟩
  | 51 => ⟨S2, .i32⟩
  | 52 => ⟨S_, .i32⟩
  | 53 => ⟨S2, .i32⟩
  | 54 => ⟨S2, .i32⟩
  | 55 => ⟨S_, .i32⟩
  | 56 => ⟨S2, .i32⟩
  | 57 => ⟨S2, .i32⟩
  | 58 => ⟨S2, .i32⟩
  | 59 => ⟨S2, .i32⟩
  | 60 => ⟨S2, .i32⟩
  | 61 => ⟨S_, .i32⟩
  | 62 => ⟨S2, .i32⟩
  | 63 => ⟨S2, .i32⟩
  | 64 => ⟨S_, .i32⟩
  | 65 => ⟨S2, .i32⟩
  | 66 => ⟨S2, .i32⟩
  | 67 => ⟨S2, .i32⟩
  | 68 => ⟨S2, .i32⟩
  | 69 => ⟨S2, .i32⟩
  | 70 => ⟨S2, .i32⟩
  | 71 => ⟨S2, .i32⟩
  | 72 => ⟨S2, .i32⟩
  | 73 => ⟨S_, .i32⟩
  | 74 => ⟨S2, .i32⟩
  | 75 => ⟨S2, .i32⟩
  | 76 => ⟨S2, .i32⟩
  | 77 => ⟨S_, .i32⟩
  | 78 => ⟨S2, .i32⟩
  | 79 => ⟨S2, .i32⟩
  | 80 => ⟨S_, .i32⟩
  | 81 => ⟨S2, .i32⟩
  | 82 => ⟨S2, .i32⟩
  | 83 => ⟨S2, .i32⟩
  | 84 => ⟨S2, .i32⟩
  | 85 => ⟨S2, .i32⟩
  | 86 => ⟨S_, .i32⟩
  | 87 => ⟨S2, .i32⟩
  | 88 => ⟨S2, .i32⟩
  | 89 => ⟨S_, .i32⟩
  | 90 => ⟨S2, .i32⟩
  | 91 => ⟨S2, .i32⟩
  | 92 => ⟨S2, .i32⟩
  | 93 => ⟨S2, .i32⟩
  | 94 => ⟨S2, .i32⟩
  | 95 => ⟨S_, .i32⟩
  | 96 => ⟨S2, .i32⟩
  | 97 => ⟨S2, .i32⟩
  | 98 => ⟨S_, .i32⟩
  | 99 => ⟨S2, .i32⟩
  | 100 => ⟨S2, .i32⟩
  | 101 => ⟨S2, .i32⟩
  | 102 => ⟨S2, .i32⟩
  | 103 => ⟨S2, .i32⟩
  | 104 => ⟨S_, .i32⟩
  | 105 => ⟨S2, .i32⟩
  | 106 => ⟨S2, .i32⟩
  | 107 => ⟨S_, .i32⟩
  | 108 => ⟨S2, .i32⟩
  | 109 => ⟨S2, .i32⟩
  | 110 => ⟨S2, .i32⟩
  | 111 => ⟨S2, .i32⟩
  | 112 => ⟨S2, .i32⟩
  | 113 => ⟨S2, .i32⟩
  | 114 => ⟨S2, .i32⟩
  | 115 => ⟨S2, .i32⟩
  | 116 => ⟨S_, .i32⟩
  | 117 => ⟨S2, .i32⟩
  | 118 => ⟨S2, .i32⟩
  | 119 => ⟨S2, .i32⟩
  | 120 => ⟨S_, .i32⟩
  | 121 => ⟨S2, .i32⟩
  | 122 => ⟨S2, .i32⟩
  | 123 => ⟨S_, .i32⟩
  | 124 => ⟨S2, .i32⟩
  | 125 => ⟨S2, .i32⟩
  | 126 => ⟨S2, .i32⟩
  | 127 => ⟨S2, .i32⟩
  | _ => ⟨S64x64, .f32⟩

abbrev hbmTy0_1 (i : Nat) : BufTy := match i % 128 with
  | 0 => ⟨S2, .i32⟩
  | 1 => ⟨S_, .i32⟩
  | 2 => ⟨S2, .i32⟩
  | 3 => ⟨S2, .i32⟩
  | 4 => ⟨S_, .i32⟩
  | 5 => ⟨S2, .i32⟩
  | 6 => ⟨S2, .i32⟩
  | 7 => ⟨S2, .i32⟩
  | 8 => ⟨S2, .i32⟩
  | 9 => ⟨S2, .i32⟩
  | 10 => ⟨S_, .i32⟩
  | 11 => ⟨S2, .i32⟩
  | 12 => ⟨S2, .i32⟩
  | 13 => ⟨S_, .i32⟩
  | 14 => ⟨S2, .i32⟩
  | 15 => ⟨S2, .i32⟩
  | 16 => ⟨S2, .i32⟩
  | 17 => ⟨S2, .i32⟩
  | 18 => ⟨S2, .i32⟩
  | 19 => ⟨S_, .i32⟩
  | 20 => ⟨S2, .i32⟩
  | 21 => ⟨S2, .i32⟩
  | 22 => ⟨S_, .i32⟩
  | 23 => ⟨S2, .i32⟩
  | 24 => ⟨S2, .i32⟩
  | 25 => ⟨S2, .i32⟩
  | 26 => ⟨S2, .i32⟩
  | 27 => ⟨S2, .i32⟩
  | 28 => ⟨S2, .i32⟩
  | 29 => ⟨S2, .i32⟩
  | 30 => ⟨S2, .i32⟩
  | 31 => ⟨S_, .i32⟩
  | 32 => ⟨S2, .i32⟩
  | 33 => ⟨S2, .i32⟩
  | 34 => ⟨S2, .i32⟩
  | 35 => ⟨S_, .i32⟩
  | 36 => ⟨S2, .i32⟩
  | 37 => ⟨S2, .i32⟩
  | 38 => ⟨S_, .i32⟩
  | 39 => ⟨S2, .i32⟩
  | 40 => ⟨S2, .i32⟩
  | 41 => ⟨S2, .i32⟩
  | 42 => ⟨S2, .i32⟩
  | 43 => ⟨S2, .i32⟩
  | 44 => ⟨S_, .i32⟩
  | 45 => ⟨S2, .i32⟩
  | 46 => ⟨S2, .i32⟩
  | 47 => ⟨S_, .i32⟩
  | 48 => ⟨S2, .i32⟩
  | 49 => ⟨S2, .i32⟩
  | 50 => ⟨S2, .i32⟩
  | 51 => ⟨S2, .i32⟩
  | 52 => ⟨S2, .i32⟩
  | 53 => ⟨S_, .i32⟩
  | 54 => ⟨S2, .i32⟩
  | 55 => ⟨S2, .i32⟩
  | 56 => ⟨S_, .i32⟩
  | 57 => ⟨S2, .i32⟩
  | 58 => ⟨S2, .i32⟩
  | 59 => ⟨S2, .i32⟩
  | 60 => ⟨S2, .i32⟩
  | 61 => ⟨S2, .i32⟩
  | 62 => ⟨S_, .i32⟩
  | 63 => ⟨S2, .i32⟩
  | 64 => ⟨S2, .i32⟩
  | 65 => ⟨S_, .i32⟩
  | 66 => ⟨S2, .i32⟩
  | 67 => ⟨S2, .i32⟩
  | 68 => ⟨S2, .i32⟩
  | 69 => ⟨S2, .i32⟩
  | 70 => ⟨S2, .i32⟩
  | 71 => ⟨S2, .i32⟩
  | 72 => ⟨S2, .i32⟩
  | 73 => ⟨S2, .i32⟩
  | 74 => ⟨S_, .i32⟩
  | 75 => ⟨S2, .i32⟩
  | 76 => ⟨S2, .i32⟩
  | 77 => ⟨S2, .i32⟩
  | 78 => ⟨S_, .i32⟩
  | 79 => ⟨S2, .i32⟩
  | 80 => ⟨S2, .i32⟩
  | 81 => ⟨S_, .i32⟩
  | 82 => ⟨S2, .i32⟩
  | 83 => ⟨S2, .i32⟩
  | 84 => ⟨S2, .i32⟩
  | 85 => ⟨S2, .i32⟩
  | 86 => ⟨S2, .i32⟩
  | 87 => ⟨S_, .i32⟩
  | 88 => ⟨S2, .i32⟩
  | 89 => ⟨S2, .i32⟩
  | 90 => ⟨S_, .i32⟩
  | 91 => ⟨S2, .i32⟩
  | 92 => ⟨S2, .i32⟩
  | 93 => ⟨S2, .i32⟩
  | 94 => ⟨S2, .i32⟩
  | 95 => ⟨S2, .i32⟩
  | 96 => ⟨S_, .i32⟩
  | 97 => ⟨S2, .i32⟩
  | 98 => ⟨S2, .i32⟩
  | 99 => ⟨S_, .i32⟩
  | 100 => ⟨S2, .i32⟩
  | 101 => ⟨S2, .i32⟩
  | 102 => ⟨S2, .i32⟩
  | 103 => ⟨S2, .i32⟩
  | 104 => ⟨S2, .i32⟩
  | 105 => ⟨S_, .i32⟩
  | 106 => ⟨S2, .i32⟩
  | 107 => ⟨S2, .i32⟩
  | 108 => ⟨S_, .i32⟩
  | 109 => ⟨S2, .i32⟩
  | 110 => ⟨S2, .i32⟩
  | 111 => ⟨S2, .i32⟩
  | 112 => ⟨S2, .i32⟩
  | 113 => ⟨S2, .i32⟩
  | 114 => ⟨S2, .i32⟩
  | 115 => ⟨S2, .i32⟩
  | 116 => ⟨S2, .i32⟩
  | 117 => ⟨S_, .i32⟩
  | 118 => ⟨S2, .i32⟩
  | 119 => ⟨S2, .i32⟩
  | 120 => ⟨S2x1, .i32⟩
  | 121 => ⟨S2x1, .i32⟩
  | 122 => ⟨S2x2, .i32⟩
  | 123 => ⟨S1x2, .i32⟩
  | 124 => ⟨S2, .i32⟩
  | 125 => ⟨S1x2, .i32⟩
  | 126 => ⟨S2, .i32⟩
  | 127 => ⟨S64x64x3, .f32⟩
  | _ => ⟨S64x64, .f32⟩

abbrev hbmTy0_2 (i : Nat) : BufTy := match i % 128 with
  | 0 => ⟨S1x64x64x3, .f32⟩
  | 1 => ⟨S_, .f32⟩
  | 2 => ⟨S_, .f32⟩
  | 3 => ⟨S_, .f32⟩
  | 4 => ⟨S1x1x1x1, .f32⟩
  | 5 => ⟨S1x1x1x1, .f32⟩
  | 6 => ⟨S1, .i32⟩
  | 7 => ⟨S_, .i32⟩
  | 8 => ⟨S1, .i32⟩
  | 9 => ⟨S_, .i32⟩
  | 10 => ⟨S64x64x64x3, .i64⟩
  | 11 => ⟨S64x64x64x3, .i64⟩
  | 12 => ⟨S64x64x64x3, .i64⟩
  | 13 => ⟨S64x64x64x3, .i64⟩
  | 14 => ⟨S_, .i64⟩
  | 15 => ⟨S64x64x64x3, .i64⟩
  | 16 => ⟨S64x64x64x3, .i64⟩
  | 17 => ⟨S_, .i64⟩
  | 18 => ⟨S64x64x64x3, .i64⟩
  | 19 => ⟨S64x64x64x3, .i64⟩
  | 20 => ⟨S_, .i64⟩
  | 21 => ⟨S64x64x64x3, .i64⟩
  | 22 => ⟨S64x64x64x3, .i64⟩
  | 23 => ⟨S_, .i64⟩
  | 24 => ⟨S64x64x64x3, .i64⟩
  | 25 => ⟨S64x64x64x3, .i64⟩
  | 26 => ⟨S64x64x64x3, .i64⟩
  | 27 => ⟨S64x64x64x3, .i64⟩
  | 28 => ⟨S64x64x64x3, .i64⟩
  | 29 => ⟨S_, .i64⟩
  | 30 => ⟨S64x64x64x3, .i64⟩
  | 31 => ⟨S64x64x64x3, .i64⟩
  | 32 => ⟨S64x64x64x3, .i32⟩
  | 33 => ⟨S64x64x64x3, .i32⟩
  | 34 => ⟨S_, .i32⟩
  | 35 => ⟨S_, .i32⟩
  | 36 => ⟨S_, .i32⟩
  | 37 => ⟨S64x64x64x3, .i32⟩
  | 38 => ⟨S64x64x64x3, .i32⟩
  | 39 => ⟨S64x64x64x3, .i32⟩
  | 40 => ⟨S64x64x64x3, .i32⟩
  | 41 => ⟨S64x64x64x3, .i32⟩
  | 42 => ⟨S_, .i32⟩
  | 43 => ⟨S64x64x64x3, .i32⟩
  | 44 => ⟨S64x64x64x3, .i32⟩
  | 45 => ⟨S_, .i32⟩
  | 46 => ⟨S64x64x64x3, .i32⟩
  | 47 => ⟨S64x64x64x3, .i32⟩
  | 48 => ⟨S64x64x64x3, .i32⟩
  | 49 => ⟨S64x64x64x3, .i32⟩
  | 50 => ⟨S64x64x64x3, .i32⟩
  | 51 => ⟨S_, .i32⟩
  | 52 => ⟨S64x64x64x3, .i32⟩
  | 53 => ⟨S64x64x64x3, .i32⟩
  | 54 => ⟨S_, .i32⟩
  | 55 => ⟨S64x64x64x3, .i32⟩
  | 56 => ⟨S64x64x64x3, .i32⟩
  | 57 => ⟨S64x64x64x3, .i32⟩
  | 58 => ⟨S64x64x64x3, .i32⟩
  | 59 => ⟨S64x64x64x3, .i32⟩
  | 60 => ⟨S_, .i32⟩
  | 61 => ⟨S64x64x64x3, .i32⟩
  | 62 => ⟨S64x64x64x3, .i32⟩
  | 63 => ⟨S_, .i32⟩
  | 64 => ⟨S64x64x64x3, .i32⟩
  | 65 => ⟨S64x64x64x3, .i32⟩
  | 66 => ⟨S64x64x64x3, .i32⟩
  | 67 => ⟨S64x64x64x3, .i32⟩
  | 68 => ⟨S64x64x64x3, .i32⟩
  | 69 => ⟨S_, .i32⟩
  | 70 => ⟨S64x64x64x3, .i32⟩
  | 71 => ⟨S64x64x64x3, .i32⟩
  | 72 => ⟨S_, .i32⟩
  | 73 => ⟨S64x64x64x3, .i32⟩
  | 74 => ⟨S64x64x64x3, .i32⟩
  | 75 => ⟨S64x64x64x3, .i32⟩
  | 76 => ⟨S64x64x64x3, .i32⟩
  | 77 => ⟨S64x64x64x3, .i32⟩
  | 78 => ⟨S64x64x64x3, .i32⟩
  | 79 => ⟨S64x64x64x3, .i32⟩
  | 80 => ⟨S64x64x64x3, .i32⟩
  | 81 => ⟨S_, .i32⟩
  | 82 => ⟨S64x64x64x3, .i32⟩
  | 83 => ⟨S64x64x64x3, .i32⟩
  | 84 => ⟨S64x64x64x3, .i32⟩
  | 85 => ⟨S_, .i32⟩
  | 86 => ⟨S64x64x64x3, .i32⟩
  | 87 => ⟨S64x64x64x3, .i32⟩
  | 88 => ⟨S_, .i32⟩
  | 89 => ⟨S64x64x64x3, .i32⟩
  | 90 => ⟨S64x64x64x3, .i32⟩
  | 91 => ⟨S64x64x64x3, .i32⟩
  | 92 => ⟨S64x64x64x3, .i32⟩
  | 93 => ⟨S64x64x64x3, .i32⟩
  | 94 => ⟨S_, .i32⟩
  | 95 => ⟨S64x64x64x3, .i32⟩
  | 96 => ⟨S64x64x64x3, .i32⟩
  | 97 => ⟨S_, .i32⟩
  | 98 => ⟨S64x64x64x3, .i32⟩
  | 99 => ⟨S64x64x64x3, .i32⟩
  | 100 => ⟨S64x64x64x3, .i32⟩
  | 101 => ⟨S64x64x64x3, .i32⟩
  | 102 => ⟨S64x64x64x3, .i32⟩
  | 103 => ⟨S_, .i32⟩
  | 104 => ⟨S64x64x64x3, .i32⟩
  | 105 => ⟨S64x64x64x3, .i32⟩
  | 106 => ⟨S_, .i32⟩
  | 107 => ⟨S64x64x64x3, .i32⟩
  | 108 => ⟨S64x64x64x3, .i32⟩
  | 109 => ⟨S64x64x64x3, .i32⟩
  | 110 => ⟨S64x64x64x3, .i32⟩
  | 111 => ⟨S64x64x64x3, .i32⟩
  | 112 => ⟨S_, .i32⟩
  | 113 => ⟨S64x64x64x3, .i32⟩
  | 114 => ⟨S64x64x64x3, .i32⟩
  | 115 => ⟨S_, .i32⟩
  | 116 => ⟨S64x64x64x3, .i32⟩
  | 117 => ⟨S64x64x64x3, .i32⟩
  | 118 => ⟨S64x64x64x3, .i32⟩
  | 119 => ⟨S64x64x64x3, .i32⟩
  | 120 => ⟨S64x64x64x3, .i32⟩
  | 121 => ⟨S64x64x64x3, .i32⟩
  | 122 => ⟨S64x64x64x3, .i32⟩
  | 123 => ⟨S64x64x64x3, .i32⟩
  | 124 => ⟨S_, .i32⟩
  | 125 => ⟨S64x64x64x3, .i32⟩
  | 126 => ⟨S64x64x64x3, .i32⟩
  | 127 => ⟨S64x64x64x3, .i32⟩
  | _ => ⟨S64x64, .f32⟩

abbrev hbmTy0_3 (i : Nat) : BufTy := match i % 128 with
  | 0 => ⟨S_, .i32⟩
  | 1 => ⟨S64x64x64x3, .i32⟩
  | 2 => ⟨S64x64x64x3, .i32⟩
  | 3 => ⟨S_, .i32⟩
  | 4 => ⟨S64x64x64x3, .i32⟩
  | 5 => ⟨S64x64x64x3, .i32⟩
  | 6 => ⟨S64x64x64x3, .i32⟩
  | 7 => ⟨S64x64x64x3, .i32⟩
  | 8 => ⟨S64x64x64x3, .i32⟩
  | 9 => ⟨S_, .i32⟩
  | 10 => ⟨S64x64x64x3, .i32⟩
  | 11 => ⟨S64x64x64x3, .i32⟩
  | 12 => ⟨S_, .i32⟩
  | 13 => ⟨S64x64x64x3, .i32⟩
  | 14 => ⟨S64x64x64x3, .i32⟩
  | 15 => ⟨S64x64x64x3, .i32⟩
  | 16 => ⟨S64x64x64x3, .i32⟩
  | 17 => ⟨S64x64x64x3, .i32⟩
  | 18 => ⟨S_, .i32⟩
  | 19 => ⟨S64x64x64x3, .i32⟩
  | 20 => ⟨S64x64x64x3, .i32⟩
  | 21 => ⟨S_, .i32⟩
  | 22 => ⟨S64x64x64x3, .i32⟩
  | 23 => ⟨S64x64x64x3, .i32⟩
  | 24 => ⟨S64x64x64x3, .i32⟩
  | 25 => ⟨S64x64x64x3, .i32⟩
  | 26 => ⟨S64x64x64x3, .i32⟩
  | 27 => ⟨S_, .i32⟩
  | 28 => ⟨S64x64x64x3, .i32⟩
  | 29 => ⟨S64x64x64x3, .i32⟩
  | 30 => ⟨S_, .i32⟩
  | 31 => ⟨S64x64x64x3, .i32⟩
  | 32 => ⟨S64x64x64x3, .i32⟩
  | 33 => ⟨S64x64x64x3, .i32⟩
  | 34 => ⟨S64x64x64x3, .i32⟩
  | 35 => ⟨S64x64x64x3, .i32⟩
  | 36 => ⟨S64x64x64x3, .i32⟩
  | 37 => ⟨S64x64x64x3, .i32⟩
  | 38 => ⟨S64x64x64x3, .i32⟩
  | 39 => ⟨S_, .i32⟩
  | 40 => ⟨S64x64x64x3, .i32⟩
  | 41 => ⟨S64x64x64x3, .i32⟩
  | 42 => ⟨S64x64x64x3, .i32⟩
  | 43 => ⟨S_, .i32⟩
  | 44 => ⟨S64x64x64x3, .i32⟩
  | 45 => ⟨S64x64x64x3, .i32⟩
  | 46 => ⟨S_, .i32⟩
  | 47 => ⟨S64x64x64x3, .i32⟩
  | 48 => ⟨S64x64x64x3, .i32⟩
  | 49 => ⟨S64x64x64x3, .i32⟩
  | 50 => ⟨S64x64x64x3, .i32⟩
  | 51 => ⟨S64x64x64x3, .i32⟩
  | 52 => ⟨S_, .i32⟩
  | 53 => ⟨S64x64x64x3, .i32⟩
  | 54 => ⟨S64x64x64x3, .i32⟩
  | 55 => ⟨S_, .i32⟩
  | 56 => ⟨S64x64x64x3, .i32⟩
  | 57 => ⟨S64x64x64x3, .i32⟩
  | 58 => ⟨S64x64x64x3, .i32⟩
  | 59 => ⟨S64x64x64x3, .i32⟩
  | 60 => ⟨S64x64x64x3, .i32⟩
  | 61 => ⟨S_, .i32⟩
  | 62 => ⟨S64x64x64x3, .i32⟩
  | 63 => ⟨S64x64x64x3, .i32⟩
  | 64 => ⟨S_, .i32⟩
  | 65 => ⟨S64x64x64x3, .i32⟩
  | 66 => ⟨S64x64x64x3, .i32⟩
  | 67 => ⟨S64x64x64x3, .i32⟩
  | 68 => ⟨S64x64x64x3, .i32⟩
  | 69 => ⟨S64x64x64x3, .i32⟩
  | 70 => ⟨S_, .i32⟩
  | 71 => ⟨S64x64x64x3, .i32⟩
  | 72 => ⟨S64x64x64x3, .i32⟩
  | 73 => ⟨S_, .i32⟩
  | 74 => ⟨S64x64x64x3, .i32⟩
  | 75 => ⟨S64x64x64x3, .i32⟩
  | 76 => ⟨S64x64x64x3, .i32⟩
  | 77 => ⟨S64x64x64x3, .i32⟩
  | 78 => ⟨S64x64x64x3, .i32⟩
  | 79 => ⟨S64x64x64x3, .i32⟩
  | 80 => ⟨S64x64x64x3, .i32⟩
  | 81 => ⟨S64x64x64x3, .i32⟩
  | 82 => ⟨S_, .i32⟩
  | 83 => ⟨S64x64x64x3, .i32⟩
  | 84 => ⟨S64x64x64x3, .i32⟩
  | 85 => ⟨S64x64x64x3, .i32⟩
  | 86 => ⟨S_, .i32⟩
  | 87 => ⟨S64x64x64x3, .i32⟩
  | 88 => ⟨S64x64x64x3, .i32⟩
  | 89 => ⟨S_, .i32⟩
  | 90 => ⟨S64x64x64x3, .i32⟩
  | 91 => ⟨S64x64x64x3, .i32⟩
  | 92 => ⟨S64x64x64x3, .i32⟩
  | 93 => ⟨S64x64x64x3, .i32⟩
  | 94 => ⟨S64x64x64x3, .i32⟩
  | 95 => ⟨S_, .i32⟩
  | 96 => ⟨S64x64x64x3, .i32⟩
  | 97 => ⟨S64x64x64x3, .i32⟩
  | 98 => ⟨S_, .i32⟩
  | 99 => ⟨S64x64x64x3, .i32⟩
  | 100 => ⟨S64x64x64x3, .i32⟩
  | 101 => ⟨S64x64x64x3, .i32⟩
  | 102 => ⟨S64x64x64x3, .i32⟩
  | 103 => ⟨S64x64x64x3, .i32⟩
  | 104 => ⟨S_, .i32⟩
  | 105 => ⟨S64x64x64x3, .i32⟩
  | 106 => ⟨S64x64x64x3, .i32⟩
  | 107 => ⟨S_, .i32⟩
  | 108 => ⟨S64x64x64x3, .i32⟩
  | 109 => ⟨S64x64x64x3, .i32⟩
  | 110 => ⟨S64x64x64x3, .i32⟩
  | 111 => ⟨S64x64x64x3, .i32⟩
  | 112 => ⟨S64x64x64x3, .i32⟩
  | 113 => ⟨S_, .i32⟩
  | 114 => ⟨S64x64x64x3, .i32⟩
  | 115 => ⟨S64x64x64x3, .i32⟩
  | 116 => ⟨S_, .i32⟩
  | 117 => ⟨S64x64x64x3, .i32⟩
  | 118 => ⟨S64x64x64x3, .i32⟩
  | 119 => ⟨S64x64x64x3, .i32⟩
  | 120 => ⟨S64x64x64x3, .i32⟩
  | 121 => ⟨S64x64x64x3, .i32⟩
  | 122 => ⟨S64x64x64x3, .i32⟩
  | 123 => ⟨S64x64x64x3, .i32⟩
  | 124 => ⟨S64x64x64x3, .i32⟩
  | 125 => ⟨S_, .i32⟩
  | 126 => ⟨S64x64x64x3, .i32⟩
  | 127 => ⟨S64x64x64x3, .i32⟩
  | _ => ⟨S64x64, .f32⟩

abbrev hbmTy0_4 (i : Nat) : BufTy := match i % 128 with
  | 0 => ⟨S64x64x64x3, .i32⟩
  | 1 => ⟨S_, .i32⟩
  | 2 => ⟨S64x64x64x3, .i32⟩
  | 3 => ⟨S64x64x64x3, .i32⟩
  | 4 => ⟨S_, .i32⟩
  | 5 => ⟨S64x64x64x3, .i32⟩
  | 6 => ⟨S64x64x64x3, .i32⟩
  | 7 => ⟨S64x64x64x3, .f32⟩
  | 8 => ⟨S_, .f32⟩
  | 9 => ⟨S64x64x64x3, .f32⟩
  | 10 => ⟨S64x64x64x3, .f32⟩
  | 11 => ⟨S1x1x1x1, .f32⟩
  | 12 => ⟨S64x64x64x3, .f32⟩
  | 13 => ⟨S64x64x64x3, .f32⟩
  | 14 => ⟨S64x64x64x3, .f32⟩
  | 15 => ⟨S64x64x64x3, .f32⟩
  | 16 => ⟨S64x64x64x3, .f32⟩
  | 17 => ⟨S64x64x64x3, .f32⟩
  | 18 => ⟨S64x64x64x3, .f32⟩
  | 19 => ⟨S64x64x64x3, .f32⟩
  | 20 => ⟨S64x64x64x3, .f32⟩
  | 21 => ⟨S64x64x64x3, .f32⟩
  | 22 => ⟨S64x64x64x3, .f32⟩
  | 23 => ⟨S64x64x64x3, .f32⟩
  | 24 => ⟨S64x64x64x3, .i32⟩
  | 25 => ⟨S_, .f32⟩
  | 26 => ⟨S_, .i32⟩
  | 27 => ⟨S64x64x64, .f32⟩
  | 28 => ⟨S64x64x64, .i32⟩
  | 29 => ⟨S_, .i32⟩
  | 30 => ⟨S64x64x64, .i32⟩
  | 31 => ⟨S64x64x64, .i1⟩
  | 32 => ⟨S_, .i1⟩
  | 33 => ⟨S64x64, .i1⟩
  | 34 => ⟨S_, .i32⟩
  | 35 => ⟨S_, .i32⟩
  | 36 => ⟨S_, .i32⟩
  | 37 => ⟨S_, .i32⟩
  | 38 => ⟨S_, .i32⟩
  | 39 => ⟨S_, .i32⟩
  | 40 => ⟨S_, .i32⟩
  | 41 => ⟨S_, .i1⟩
  | 42 => ⟨S_, .i32⟩
  | 43 => ⟨S_, .i32⟩
  | 44 => ⟨S_, .i32⟩
  | 45 => ⟨S_, .i32⟩
  | 46 => ⟨S_, .i32⟩
  | 47 => ⟨S_, .i32⟩
  | 48 => ⟨S_, .i32⟩
  | 49 => ⟨S_, .i32⟩
  | 50 => ⟨S_, .i32⟩
  | 51 => ⟨S_, .i32⟩
  | 52 => ⟨S1x1, .i32⟩
  | 53 => ⟨S1x1, .i32⟩
  | 54 => ⟨S1, .i32⟩
  | 55 => ⟨S_, .i32⟩
  | 56 => ⟨S1, .i32⟩
  | 57 => ⟨S_, .i32⟩
  | 58 => ⟨S2, .i64⟩
  | 59 => ⟨S_, .i64⟩
  | 60 => ⟨S2, .i64⟩
  | 61 => ⟨S2, .i64⟩
  | 62 => ⟨S_, .i64⟩
  | 63 => ⟨S2, .i64⟩
  | 64 => ⟨S2, .i64⟩
  | 65 => ⟨S2, .i32⟩
  | 66 => ⟨S2, .i32⟩
  | 67 => ⟨S_, .i32⟩
  | 68 => ⟨S_, .i32⟩
  | 69 => ⟨S_, .i32⟩
  | 70 => ⟨S2, .i32⟩
  | 71 => ⟨S2, .i32⟩
  | 72 => ⟨S2, .i32⟩
  | 73 => ⟨S2, .i32⟩
  | 74 => ⟨S2, .i32⟩
  | 75 => ⟨S_, .i32⟩
  | 76 => ⟨S2, .i32⟩
  | 77 => ⟨S2, .i32⟩
  | 78 => ⟨S_, .i32⟩
  | 79 => ⟨S2, .i32⟩
  | 80 => ⟨S2, .i32⟩
  | 81 => ⟨S2, .i32⟩
  | 82 => ⟨S2, .i32⟩
  | 83 => ⟨S2, .i32⟩
  | 84 => ⟨S_, .i32⟩
  | 85 => ⟨S2, .i32⟩
  | 86 => ⟨S2, .i32⟩
  | 87 => ⟨S_, .i32⟩
  | 88 => ⟨S2, .i32⟩
  | 89 => ⟨S2, .i32⟩
  | 90 => ⟨S2, .i32⟩
  | 91 => ⟨S2, .i32⟩
  | 92 => ⟨S2, .i32⟩
  | 93 => ⟨S_, .i32⟩
  | 94 => ⟨S2, .i32⟩
  | 95 => ⟨S2, .i32⟩
  | 96 => ⟨S_, .i32⟩
  | 97 => ⟨S2, .i32⟩
  | 98 => ⟨S2, .i32⟩
  | 99 => ⟨S2, .i32⟩
  | 100 => ⟨S2, .i32⟩
  | 101 => ⟨S2, .i32⟩
  | 102 => ⟨S_, .i32⟩
  | 103 => ⟨S2, .i32⟩
  | 104 => ⟨S2, .i32⟩
  | 105 => ⟨S_, .i32⟩
  | 106 => ⟨S2, .i32⟩
  | 107 => ⟨S2, .i32⟩
  | 108 => ⟨S2, .i32⟩
  | 109 => ⟨S2, .i32⟩
  | 110 => ⟨S2, .i32⟩
  | 111 => ⟨S2, .i32⟩
  | 112 => ⟨S2, .i32⟩
  | 113 => ⟨S2, .i32⟩
  | 114 => ⟨S_, .i32⟩
  | 115 => ⟨S2, .i32⟩
  | 116 => ⟨S2, .i32⟩
  | 117 => ⟨S2, .i32⟩
  | 118 => ⟨S_, .i32⟩
  | 119 => ⟨S2, .i32⟩
  | 120 => ⟨S2, .i32⟩
  | 121 => ⟨S_, .i32⟩
  | 122 => ⟨S2, .i32⟩
  | 123 => ⟨S2, .i32⟩
  | 124 => ⟨S2, .i32⟩
  | 125 => ⟨S2, .i32⟩
  | 126 => ⟨S2, .i32⟩
  | 127 => ⟨S_, .i32⟩
  | _ => ⟨S64x64, .f32⟩

abbrev hbmTy0_5 (i : Nat) : BufTy := match i % 128 with
  | 0 => ⟨S2, .i32⟩
  | 1 => ⟨S2, .i32⟩
  | 2 => ⟨S_, .i32⟩
  | 3 => ⟨S2, .i32⟩
  | 4 => ⟨S2, .i32⟩
  | 5 => ⟨S2, .i32⟩
  | 6 => ⟨S2, .i32⟩
  | 7 => ⟨S2, .i32⟩
  | 8 => ⟨S_, .i32⟩
  | 9 => ⟨S2, .i32⟩
  | 10 => ⟨S2, .i32⟩
  | 11 => ⟨S_, .i32⟩
  | 12 => ⟨S2, .i32⟩
  | 13 => ⟨S2, .i32⟩
  | 14 => ⟨S2, .i32⟩
  | 15 => ⟨S2, .i32⟩
  | 16 => ⟨S2, .i32⟩
  | 17 => ⟨S_, .i32⟩
  | 18 => ⟨S2, .i32⟩
  | 19 => ⟨S2, .i32⟩
  | 20 => ⟨S_, .i32⟩
  | 21 => ⟨S2, .i32⟩
  | 22 => ⟨S2, .i32⟩
  | 23 => ⟨S2, .i32⟩
  | 24 => ⟨S2, .i32⟩
  | 25 => ⟨S2, .i32⟩
  | 26 => ⟨S2, .i32⟩
  | 27 => ⟨S2, .i32⟩
  | 28 => ⟨S2, .i32⟩
  | 29 => ⟨S_, .i32⟩
  | 30 => ⟨S2, .i32⟩
  | 31 => ⟨S2, .i32⟩
  | 32 => ⟨S2, .i32⟩
  | 33 => ⟨S_, .i32⟩
  | 34 => ⟨S2, .i32⟩
  | 35 => ⟨S2, .i32⟩
  | 36 => ⟨S_, .i32⟩
  | 37 => ⟨S2, .i32⟩
  | 38 => ⟨S2, .i32⟩
  | 39 => ⟨S2, .i32⟩
  | 40 => ⟨S2, .i32⟩
  | 41 => ⟨S2, .i32⟩
  | 42 => ⟨S_, .i32⟩
  | 43 => ⟨S2, .i32⟩
  | 44 => ⟨S2, .i32⟩
  | 45 => ⟨S_, .i32⟩
  | 46 => ⟨S2, .i32⟩
  | 47 => ⟨S2, .i32⟩
  | 48 => ⟨S2, .i32⟩
  | 49 => ⟨S2, .i32⟩
  | 50 => ⟨S2, .i32⟩
  | 51 => ⟨S_, .i32⟩
  | 52 => ⟨S2, .i32⟩
  | 53 => ⟨S2, .i32⟩
  | 54 => ⟨S_, .i32⟩
  | 55 => ⟨S2, .i32⟩
  | 56 => ⟨S2, .i32⟩
  | 57 => ⟨S2, .i32⟩
  | 58 => ⟨S2, .i32⟩
  | 59 => ⟨S2, .i32⟩
  | 60 => ⟨S_, .i32⟩
  | 61 => ⟨S2, .i32⟩
  | 62 => ⟨S2, .i32⟩
  | 63 => ⟨S_, .i32⟩
  | 64 => ⟨S2, .i32⟩
  | 65 => ⟨S2, .i32⟩
  | 66 => ⟨S2, .i32⟩
  | 67 => ⟨S2, .i32⟩
  | 68 => ⟨S2, .i32⟩
  | 69 => ⟨S2, .i32⟩
  | 70 => ⟨S2, .i32⟩
  | 71 => ⟨S2, .i32⟩
  | 72 => ⟨S_, .i32⟩
  | 73 => ⟨S2, .i32⟩
  | 74 => ⟨S2, .i32⟩
  | 75 => ⟨S2, .i32⟩
  | 76 => ⟨S_, .i32⟩
  | 77 => ⟨S2, .i32⟩
  | 78 => ⟨S2, .i32⟩
  | 79 => ⟨S_, .i32⟩
  | 80 => ⟨S2, .i32⟩
  | 81 => ⟨S2, .i32⟩
  | 82 => ⟨S2, .i32⟩
  | 83 => ⟨S2, .i32⟩
  | 84 => ⟨S2, .i32⟩
  | 85 => ⟨S_, .i32⟩
  | 86 => ⟨S2, .i32⟩
  | 87 => ⟨S2, .i32⟩
  | 88 => ⟨S_, .i32⟩
  | 89 => ⟨S2, .i32⟩
  | 90 => ⟨S2, .i32⟩
  | 91 => ⟨S2, .i32⟩
  | 92 => ⟨S2, .i32⟩
  | 93 => ⟨S2, .i32⟩
  | 94 => ⟨S_, .i32⟩
  | 95 => ⟨S2, .i32⟩
  | 96 => ⟨S2, .i32⟩
  | 97 => ⟨S_, .i32⟩
  | 98 => ⟨S2, .i32⟩
  | 99 => ⟨S2, .i32⟩
  | 100 => ⟨S2, .i32⟩
  | 101 => ⟨S2, .i32⟩
  | 102 => ⟨S2, .i32⟩
  | 103 => ⟨S_, .i32⟩
  | 104 => ⟨S2, .i32⟩
  | 105 => ⟨S2, .i32⟩
  | 106 => ⟨S_, .i32⟩
  | 107 => ⟨S2, .i32⟩
  | 108 => ⟨S2, .i32⟩
  | 109 => ⟨S2, .i32⟩
  | 110 => ⟨S2, .i32⟩
  | 111 => ⟨S2, .i32⟩
  | 112 => ⟨S2, .i32⟩
  | 113 => ⟨S2, .i32⟩
  | 114 => ⟨S2, .i32⟩
  | 115 => ⟨S_, .i32⟩
  | 116 => ⟨S2, .i32⟩
  | 117 => ⟨S2, .i32⟩
  | 118 => ⟨S2, .i32⟩
  | 119 => ⟨S_, .i32⟩
  | 120 => ⟨S2, .i32⟩
  | 121 => ⟨S2, .i32⟩
  | 122 => ⟨S_, .i32⟩
  | 123 => ⟨S2, .i32⟩
  | 124 => ⟨S2, .i32⟩
  | 125 => ⟨S2, .i32⟩
  | 126 => ⟨S2, .i32⟩
  | 127 => ⟨S2, .i32⟩
  | _ => ⟨S64x64, .f32⟩

abbrev hbmTy0_6 (i : Nat) : BufTy := match i % 128 with
  | 0 => ⟨S_, .i32⟩
  | 1 => ⟨S2, .i32⟩
  | 2 => ⟨S2, .i32⟩
  | 3 => ⟨S_, .i32⟩
  | 4 => ⟨S2, .i32⟩
  | 5 => ⟨S2, .i32⟩
  | 6 => ⟨S2, .i32⟩
  | 7 => ⟨S2, .i32⟩
  | 8 => ⟨S2, .i32⟩
  | 9 => ⟨S_, .i32⟩
  | 10 => ⟨S2, .i32⟩
  | 11 => ⟨S2, .i32⟩
  | 12 => ⟨S_, .i32⟩
  | 13 => ⟨S2, .i32⟩
  | 14 => ⟨S2, .i32⟩
  | 15 => ⟨S2, .i32⟩
  | 16 => ⟨S2, .i32⟩
  | 17 => ⟨S2, .i32⟩
  | 18 => ⟨S_, .i32⟩
  | 19 => ⟨S2, .i32⟩
  | 20 => ⟨S2, .i32⟩
  | 21 => ⟨S_, .i32⟩
  | 22 => ⟨S2, .i32⟩
  | 23 => ⟨S2, .i32⟩
  | 24 => ⟨S2, .i32⟩
  | 25 => ⟨S2, .i32⟩
  | 26 => ⟨S2, .i32⟩
  | 27 => ⟨S2, .i32⟩
  | 28 => ⟨S2, .i32⟩
  | 29 => ⟨S2, .i32⟩
  | 30 => ⟨S_, .i32⟩
  | 31 => ⟨S2, .i32⟩
  | 32 => ⟨S2, .i32⟩
  | 33 => ⟨S2x1, .i32⟩
  | 34 => ⟨S2x1, .i32⟩
  | 35 => ⟨S2x2, .i32⟩
  | 36 => ⟨S1x2, .i32⟩
  | 37 => ⟨S2, .i32⟩
  | 38 => ⟨S1x2, .i32⟩
  | 39 => ⟨S2, .i32⟩
  | 40 => ⟨S1, .i32⟩
  | 41 => ⟨S_, .i32⟩
  | 42 => ⟨S1, .i32⟩
  | 43 => ⟨S_, .i32⟩
  | 44 => ⟨S64x64, .i64⟩
  | 45 => ⟨S64x64, .i64⟩
  | 46 => ⟨S_, .i64⟩
  | 47 => ⟨S64x64, .i64⟩
  | 48 => ⟨S64x64, .i64⟩
  | 49 => ⟨S_, .i64⟩
  | 50 => ⟨S64x64, .i64⟩
  | 51 => ⟨S64x64, .i64⟩
  | 52 => ⟨S64x64, .i64⟩
  | 53 => ⟨S_, .i64⟩
  | 54 => ⟨S64x64, .i64⟩
  | 55 => ⟨S64x64, .i64⟩
  | 56 => ⟨S64x64, .i32⟩
  | 57 => ⟨S64x64, .i32⟩
  | 58 => ⟨S_, .i32⟩
  | 59 => ⟨S_, .i32⟩
  | 60 => ⟨S_, .i32⟩
  | 61 => ⟨S64x64, .i32⟩
  | 62 => ⟨S64x64, .i32⟩
  | 63 => ⟨S64x64, .i32⟩
  | 64 => ⟨S64x64, .i32⟩
  | 65 => ⟨S64x64, .i32⟩
  | 66 => ⟨S_, .i32⟩
  | 67 => ⟨S64x64, .i32⟩
  | 68 => ⟨S64x64, .i32⟩
  | 69 => ⟨S_, .i32⟩
  | 70 => ⟨S64x64, .i32⟩
  | 71 => ⟨S64x64, .i32⟩
  | 72 => ⟨S64x64, .i32⟩
  | 73 => ⟨S64x64, .i32⟩
  | 74 => ⟨S64x64, .i32⟩
  | 75 => ⟨S_, .i32⟩
  | 76 => ⟨S64x64, .i32⟩
  | 77 => ⟨S64x64, .i32⟩
  | 78 => ⟨S_, .i32⟩
  | 79 => ⟨S64x64, .i32⟩
  | 80 => ⟨S64x64, .i32⟩
  | 81 => ⟨S64x64, .i32⟩
  | 82 => ⟨S64x64, .i32⟩
  | 83 => ⟨S64x64, .i32⟩
  | 84 => ⟨S_, .i32⟩
  | 85 => ⟨S64x64, .i32⟩
  | 86 => ⟨S64x64, .i32⟩
  | 87 => ⟨S_, .i32⟩
  | 88 => ⟨S64x64, .i32⟩
  | 89 => ⟨S64x64, .i32⟩
  | 90 => ⟨S64x64, .i32⟩
  | 91 => ⟨S64x64, .i32⟩
  | 92 => ⟨S64x64, .i32⟩
  | 93 => ⟨S_, .i32⟩
  | 94 => ⟨S64x64, .i32⟩
  | 95 => ⟨S64x64, .i32⟩
  | 96 => ⟨S_, .i32⟩
  | 97 => ⟨S64x64, .i32⟩
  | 98 => ⟨S64x64, .i32⟩
  | 99 => ⟨S64x64, .i32⟩
  | 100 => ⟨S64x64, .i32⟩
  | 101 => ⟨S64x64, .i32⟩
  | 102 => ⟨S64x64, .i32⟩
  | 103 => ⟨S64x64, .i32⟩
  | 104 => ⟨S64x64, .i32⟩
  | 105 => ⟨S_, .i32⟩
  | 106 => ⟨S64x64, .i32⟩
  | 107 => ⟨S64x64, .i32⟩
  | 108 => ⟨S64x64, .i32⟩
  | 109 => ⟨S_, .i32⟩
  | 110 => ⟨S64x64, .i32⟩
  | 111 => ⟨S64x64, .i32⟩
  | 112 => ⟨S_, .i32⟩
  | 113 => ⟨S64x64, .i32⟩
  | 114 => ⟨S64x64, .i32⟩
  | 115 => ⟨S64x64, .i32⟩
  | 116 => ⟨S64x64, .i32⟩
  | 117 => ⟨S64x64, .i32⟩
  | 118 => ⟨S_, .i32⟩
  | 119 => ⟨S64x64, .i32⟩
  | 120 => ⟨S64x64, .i32⟩
  | 121 => ⟨S_, .i32⟩
  | 122 => ⟨S64x64, .i32⟩
  | 123 => ⟨S64x64, .i32⟩
  | 124 => ⟨S64x64, .i32⟩
  | 125 => ⟨S64x64, .i32⟩
  | 126 => ⟨S64x64, .i32⟩
  | 127 => ⟨S_, .i32⟩
  | _ => ⟨S64x64, .f32⟩

abbrev hbmTy0_7 (i : Nat) : BufTy := match i % 128 with
  | 0 => ⟨S64x64, .i32⟩
  | 1 => ⟨S64x64, .i32⟩
  | 2 => ⟨S_, .i32⟩
  | 3 => ⟨S64x64, .i32⟩
  | 4 => ⟨S64x64, .i32⟩
  | 5 => ⟨S64x64, .i32⟩
  | 6 => ⟨S64x64, .i32⟩
  | 7 => ⟨S64x64, .i32⟩
  | 8 => ⟨S_, .i32⟩
  | 9 => ⟨S64x64, .i32⟩
  | 10 => ⟨S64x64, .i32⟩
  | 11 => ⟨S_, .i32⟩
  | 12 => ⟨S64x64, .i32⟩
  | 13 => ⟨S64x64, .i32⟩
  | 14 => ⟨S64x64, .i32⟩
  | 15 => ⟨S64x64, .i32⟩
  | 16 => ⟨S64x64, .i32⟩
  | 17 => ⟨S64x64, .i32⟩
  | 18 => ⟨S64x64, .i32⟩
  | 19 => ⟨S64x64, .i32⟩
  | 20 => ⟨S_, .i32⟩
  | 21 => ⟨S64x64, .i32⟩
  | 22 => ⟨S64x64, .i32⟩
  | 23 => ⟨S64x64, .i32⟩
  | 24 => ⟨S_, .i32⟩
  | 25 => ⟨S64x64, .i32⟩
  | 26 => ⟨S64x64, .i32⟩
  | 27 => ⟨S_, .i32⟩
  | 28 => ⟨S64x64, .i32⟩
  | 29 => ⟨S64x64, .i32⟩
  | 30 => ⟨S64x64, .i32⟩
  | 31 => ⟨S64x64, .i32⟩
  | 32 => ⟨S64x64, .i32⟩
  | 33 => ⟨S_, .i32⟩
  | 34 => ⟨S64x64, .i32⟩
  | 35 => ⟨S64x64, .i32⟩
  | 36 => ⟨S_, .i32⟩
  | 37 => ⟨S64x64, .i32⟩
  | 38 => ⟨S64x64, .i32⟩
  | 39 => ⟨S64x64, .i32⟩
  | 40 => ⟨S64x64, .i32⟩
  | 41 => ⟨S64x64, .i32⟩
  | 42 => ⟨S_, .i32⟩
  | 43 => ⟨S64x64, .i32⟩
  | 44 => ⟨S64x64, .i32⟩
  | 45 => ⟨S_, .i32⟩
  | 46 => ⟨S64x64, .i32⟩
  | 47 => ⟨S64x64, .i32⟩
  | 48 => ⟨S64x64, .i32⟩
  | 49 => ⟨S64x64, .i32⟩
  | 50 => ⟨S64x64, .i32⟩
  | 51 => ⟨S_, .i32⟩
  | 52 => ⟨S64x64, .i32⟩
  | 53 => ⟨S64x64, .i32⟩
  | 54 => ⟨S_, .i32⟩
  | 55 => ⟨S64x64, .i32⟩
  | 56 => ⟨S64x64, .i32⟩
  | 57 => ⟨S64x64, .i32⟩
  | 58 => ⟨S64x64, .i32⟩
  | 59 => ⟨S64x64, .i32⟩
  | 60 => ⟨S64x64, .i32⟩
  | 61 => ⟨S64x64, .i32⟩
  | 62 => ⟨S64x64, .i32⟩
  | 63 => ⟨S_, .i32⟩
  | 64 => ⟨S64x64, .i32⟩
  | 65 => ⟨S64x64, .i32⟩
  | 66 => ⟨S64x64, .i32⟩
  | 67 => ⟨S_, .i32⟩
  | 68 => ⟨S64x64, .i32⟩
  | 69 => ⟨S64x64, .i32⟩
  | 70 => ⟨S_, .i32⟩
  | 71 => ⟨S64x64, .i32⟩
  | 72 => ⟨S64x64, .i32⟩
  | 73 => ⟨S64x64, .i32⟩
  | 74 => ⟨S64x64, .i32⟩
  | 75 => ⟨S64x64, .i32⟩
  | 76 => ⟨S_, .i32⟩
  | 77 => ⟨S64x64, .i32⟩
  | 78 => ⟨S64x64, .i32⟩
  | 79 => ⟨S_, .i32⟩
  | 80 => ⟨S64x64, .i32⟩
  | 81 => ⟨S64x64, .i32⟩
  | 82 => ⟨S64x64, .i32⟩
  | 83 => ⟨S64x64, .i32⟩
  | 84 => ⟨S64x64, .i32⟩
  | 85 => ⟨S_, .i32⟩
  | 86 => ⟨S64x64, .i32⟩
  | 87 => ⟨S64x64, .i32⟩
  | 88 => ⟨S_, .i32⟩
  | 89 => ⟨S64x64, .i32⟩
  | 90 => ⟨S64x64, .i32⟩
  | 91 => ⟨S64x64, .i32⟩
  | 92 => ⟨S64x64, .i32⟩
  | 93 => ⟨S64x64, .i32⟩
  | 94 => ⟨S_, .i32⟩
  | 95 => ⟨S64x64, .i32⟩
  | 96 => ⟨S64x64, .i32⟩
  | 97 => ⟨S_, .i32⟩
  | 98 => ⟨S64x64, .i32⟩
  | 99 => ⟨S64x64, .i32⟩
  | 100 => ⟨S64x64, .i32⟩
  | 101 => ⟨S64x64, .i32⟩
  | 102 => ⟨S64x64, .i32⟩
  | 103 => ⟨S64x64, .i32⟩
  | 104 => ⟨S64x64, .i32⟩
  | 105 => ⟨S64x64, .i32⟩
  | 106 => ⟨S_, .i32⟩
  | 107 => ⟨S64x64, .i32⟩
  | 108 => ⟨S64x64, .i32⟩
  | 109 => ⟨S64x64, .i32⟩
  | 110 => ⟨S_, .i32⟩
  | 111 => ⟨S64x64, .i32⟩
  | 112 => ⟨S64x64, .i32⟩
  | 113 => ⟨S_, .i32⟩
  | 114 => ⟨S64x64, .i32⟩
  | 115 => ⟨S64x64, .i32⟩
  | 116 => ⟨S64x64, .i32⟩
  | 117 => ⟨S64x64, .i32⟩
  | 118 => ⟨S64x64, .i32⟩
  | 119 => ⟨S_, .i32⟩
  | 120 => ⟨S64x64, .i32⟩
  | 121 => ⟨S64x64, .i32⟩
  | 122 => ⟨S_, .i32⟩
  | 123 => ⟨S64x64, .i32⟩
  | 124 => ⟨S64x64, .i32⟩
  | 125 => ⟨S64x64, .i32⟩
  | 126 => ⟨S64x64, .i32⟩
  | 127 => ⟨S64x64, .i32⟩
  | _ => ⟨S64x64, .f32⟩

abbrev hbmTy0_8 (i : Nat) : BufTy := match i % 128 with
  | 0 => ⟨S_, .i32⟩
  | 1 => ⟨S64x64, .i32⟩
  | 2 => ⟨S64x64, .i32⟩
  | 3 => ⟨S_, .i32⟩
  | 4 => ⟨S64x64, .i32⟩
  | 5 => ⟨S64x64, .i32⟩
  | 6 => ⟨S64x64, .i32⟩
  | 7 => ⟨S64x64, .i32⟩
  | 8 => ⟨S64x64, .i32⟩
  | 9 => ⟨S_, .i32⟩
  | 10 => ⟨S64x64, .i32⟩
  | 11 => ⟨S64x64, .i32⟩
  | 12 => ⟨S_, .i32⟩
  | 13 => ⟨S64x64, .i32⟩
  | 14 => ⟨S64x64, .i32⟩
  | 15 => ⟨S64x64, .i32⟩
  | 16 => ⟨S64x64, .i32⟩
  | 17 => ⟨S64x64, .i32⟩
  | 18 => ⟨S64x64, .i32⟩
  | 19 => ⟨S64x64, .i32⟩
  | 20 => ⟨S64x64, .i32⟩
  | 21 => ⟨S_, .i32⟩
  | 22 => ⟨S64x64, .i32⟩
  | 23 => ⟨S64x64, .i32⟩
  | 24 => ⟨S64x64, .i32⟩
  | 25 => ⟨S1, .i32⟩
  | 26 => ⟨S_, .i32⟩
  | 27 => ⟨S1, .i32⟩
  | 28 => ⟨S_, .i32⟩
  | 29 => ⟨S64x64, .i64⟩
  | 30 => ⟨S64x64, .i64⟩
  | 31 => ⟨S_, .i64⟩
  | 32 => ⟨S64x64, .i64⟩
  | 33 => ⟨S64x64, .i64⟩
  | 34 => ⟨S_, .i64⟩
  | 35 => ⟨S64x64, .i64⟩
  | 36 => ⟨S64x64, .i64⟩
  | 37 => ⟨S64x64, .i64⟩
  | 38 => ⟨S_, .i64⟩
  | 39 => ⟨S64x64, .i64⟩
  | 40 => ⟨S64x64, .i64⟩
  | 41 => ⟨S64x64, .i32⟩
  | 42 => ⟨S64x64, .i32⟩
  | 43 => ⟨S_, .i32⟩
  | 44 => ⟨S_, .i32⟩
  | 45 => ⟨S_, .i32⟩
  | 46 => ⟨S64x64, .i32⟩
  | 47 => ⟨S64x64, .i32⟩
  | 48 => ⟨S64x64, .i32⟩
  | 49 => ⟨S64x64, .i32⟩
  | 50 => ⟨S64x64, .i32⟩
  | 51 => ⟨S_, .i32⟩
  | 52 => ⟨S64x64, .i32⟩
  | 53 => ⟨S64x64, .i32⟩
  | 54 => ⟨S_, .i32⟩
  | 55 => ⟨S64x64, .i32⟩
  | 56 => ⟨S64x64, .i32⟩
  | 57 => ⟨S64x64, .i32⟩
  | 58 => ⟨S64x64, .i32⟩
  | 59 => ⟨S64x64, .i32⟩
  | 60 => ⟨S_, .i32⟩
  | 61 => ⟨S64x64, .i32⟩
  | 62 => ⟨S64x64, .i32⟩
  | 63 => ⟨S_, .i32⟩
  | 64 => ⟨S64x64, .i32⟩
  | 65 => ⟨S64x64, .i32⟩
  | 66 => ⟨S64x64, .i32⟩
  | 67 => ⟨S64x64, .i32⟩
  | 68 => ⟨S64x64, .i32⟩
  | 69 => ⟨S_, .i32⟩
  | 70 => ⟨S64x64, .i32⟩
  | 71 => ⟨S64x64, .i32⟩
  | 72 => ⟨S_, .i32⟩
  | 73 => ⟨S64x64, .i32⟩
  | 74 => ⟨S64x64, .i32⟩
  | 75 => ⟨S64x64, .i32⟩
  | 76 => ⟨S64x64, .i32⟩
  | 77 => ⟨S64x64, .i32⟩
  | 78 => ⟨S_, .i32⟩
  | 79 => ⟨S64x64, .i32⟩
  | 80 => ⟨S64x64, .i32⟩
  | 81 => ⟨S_, .i32⟩
  | 82 => ⟨S64x64, .i32⟩
  | 83 => ⟨S64x64, .i32⟩
  | 84 => ⟨S64x64, .i32⟩
  | 85 => ⟨S64x64, .i32⟩
  | 86 => ⟨S64x64, .i32⟩
  | 87 => ⟨S64x64, .i32⟩
  | 88 => ⟨S64x64, .i32⟩
  | 89 => ⟨S64x64, .i32⟩
  | 90 => ⟨S_, .i32⟩
  | 91 => ⟨S64x64, .i32⟩
  | 92 => ⟨S64x64, .i32⟩
  | 93 => ⟨S64x64, .i32⟩
  | 94 => ⟨S_, .i32⟩
  | 95 => ⟨S64x64, .i32⟩
  | 96 => ⟨S64x64, .i32⟩
  | 97 => ⟨S_, .i32⟩
  | 98 => ⟨S64x64, .i32⟩
  | 99 => ⟨S64x64, .i32⟩
  | 100 => ⟨S64x64, .i32⟩
  | 101 => ⟨S64x64, .i32⟩
  | 102 => ⟨S64x64, .i32⟩
  | 103 => ⟨S_, .i32⟩
  | 104 => ⟨S64x64, .i32⟩
  | 105 => ⟨S64x64, .i32⟩
  | 106 => ⟨S_, .i32⟩
  | 107 => ⟨S64x64, .i32⟩
  | 108 => ⟨S64x64, .i32⟩
  | 109 => ⟨S64x64, .i32⟩
  | 110 => ⟨S64x64, .i32⟩
  | 111 => ⟨S64x64, .i32⟩
  | 112 => ⟨S_, .i32⟩
  | 113 => ⟨S64x64, .i32⟩
  | 114 => ⟨S64x64, .i32⟩
  | 115 => ⟨S_, .i32⟩
  | 116 => ⟨S64x64, .i32⟩
  | 117 => ⟨S64x64, .i32⟩
  | 118 => ⟨S64x64, .i32⟩
  | 119 => ⟨S64x64, .i32⟩
  | 120 => ⟨S64x64, .i32⟩
  | 121 => ⟨S_, .i32⟩
  | 122 => ⟨S64x64, .i32⟩
  | 123 => ⟨S64x64, .i32⟩
  | 124 => ⟨S_, .i32⟩
  | 125 => ⟨S64x64, .i32⟩
  | 126 => ⟨S64x64, .i32⟩
  | 127 => ⟨S64x64, .i32⟩
  | _ => ⟨S64x64, .f32⟩

abbrev hbmTy0_9 (i : Nat) : BufTy := match i % 128 with
  | 0 => ⟨S64x64, .i32⟩
  | 1 => ⟨S64x64, .i32⟩
  | 2 => ⟨S64x64, .i32⟩
  | 3 => ⟨S64x64, .i32⟩
  | 4 => ⟨S64x64, .i32⟩
  | 5 => ⟨S_, .i32⟩
  | 6 => ⟨S64x64, .i32⟩
  | 7 => ⟨S64x64, .i32⟩
  | 8 => ⟨S64x64, .i32⟩
  | 9 => ⟨S_, .i32⟩
  | 10 => ⟨S64x64, .i32⟩
  | 11 => ⟨S64x64, .i32⟩
  | 12 => ⟨S_, .i32⟩
  | 13 => ⟨S64x64, .i32⟩
  | 14 => ⟨S64x64, .i32⟩
  | 15 => ⟨S64x64, .i32⟩
  | 16 => ⟨S64x64, .i32⟩
  | 17 => ⟨S64x64, .i32⟩
  | 18 => ⟨S_, .i32⟩
  | 19 => ⟨S64x64, .i32⟩
  | 20 => ⟨S64x64, .i32⟩
  | 21 => ⟨S_, .i32⟩
  | 22 => ⟨S64x64, .i32⟩
  | 23 => ⟨S64x64, .i32⟩
  | 24 => ⟨S64x64, .i32⟩
  | 25 => ⟨S64x64, .i32⟩
  | 26 => ⟨S64x64, .i32⟩
  | 27 => ⟨S_, .i32⟩
  | 28 => ⟨S64x64, .i32⟩
  | 29 => ⟨S64x64, .i32⟩
  | 30 => ⟨S_, .i32⟩
  | 31 => ⟨S64x64, .i32⟩
  | 32 => ⟨S64x64, .i32⟩
  | 33 => ⟨S64x64, .i32⟩
  | 34 => ⟨S64x64, .i32⟩
  | 35 => ⟨S64x64, .i32⟩
  | 36 => ⟨S_, .i32⟩
  | 37 => ⟨S64x64, .i32⟩
  | 38 => ⟨S64x64, .i32⟩
  | 39 => ⟨S_, .i32⟩
  | 40 => ⟨S64x64, .i32⟩
  | 41 => ⟨S64x64, .i32⟩
  | 42 => ⟨S64x64, .i32⟩
  | 43 => ⟨S64x64, .i32⟩
  | 44 => ⟨S64x64, .i32⟩
  | 45 => ⟨S64x64, .i32⟩
  | 46 => ⟨S64x64, .i32⟩
  | 47 => ⟨S64x64, .i32⟩
  | 48 => ⟨S_, .i32⟩
  | 49 => ⟨S64x64, .i32⟩
  | 50 => ⟨S64x64, .i32⟩
  | 51 => ⟨S64x64, .i32⟩
  | 52 => ⟨S_, .i32⟩
  | 53 => ⟨S64x64, .i32⟩
  | 54 => ⟨S64x64, .i32⟩
  | 55 => ⟨S_, .i32⟩
  | 56 => ⟨S64x64, .i32⟩
  | 57 => ⟨S64x64, .i32⟩
  | 58 => ⟨S64x64, .i32⟩
  | 59 => ⟨S64x64, .i32⟩
  | 60 => ⟨S64x64, .i32⟩
  | 61 => ⟨S_, .i32⟩
  | 62 => ⟨S64x64, .i32⟩
  | 63 => ⟨S64x64, .i32⟩
  | 64 => ⟨S_, .i32⟩
  | 65 => ⟨S64x64, .i32⟩
  | 66 => ⟨S64x64, .i32⟩
  | 67 => ⟨S64x64, .i32⟩
  | 68 => ⟨S64x64, .i32⟩
  | 69 => ⟨S64x64, .i32⟩
  | 70 => ⟨S_, .i32⟩
  | 71 => ⟨S64x64, .i32⟩
  | 72 => ⟨S64x64, .i32⟩
  | 73 => ⟨S_, .i32⟩
  | 74 => ⟨S64x64, .i32⟩
  | 75 => ⟨S64x64, .i32⟩
  | 76 => ⟨S64x64, .i32⟩
  | 77 => ⟨S64x64, .i32⟩
  | 78 => ⟨S64x64, .i32⟩
  | 79 => ⟨S_, .i32⟩
  | 80 => ⟨S64x64, .i32⟩
  | 81 => ⟨S64x64, .i32⟩
  | 82 => ⟨S_, .i32⟩
  | 83 => ⟨S64x64, .i32⟩
  | 84 => ⟨S64x64, .i32⟩
  | 85 => ⟨S64x64, .i32⟩
  | 86 => ⟨S64x64, .i32⟩
  | 87 => ⟨S64x64, .i32⟩
  | 88 => ⟨S64x64, .i32⟩
  | 89 => ⟨S64x64, .i32⟩
  | 90 => ⟨S64x64, .i32⟩
  | 91 => ⟨S_, .i32⟩
  | 92 => ⟨S64x64, .i32⟩
  | 93 => ⟨S64x64, .i32⟩
  | 94 => ⟨S64x64, .i32⟩
  | 95 => ⟨S_, .i32⟩
  | 96 => ⟨S64x64, .i32⟩
  | 97 => ⟨S64x64, .i32⟩
  | 98 => ⟨S_, .i32⟩
  | 99 => ⟨S64x64, .i32⟩
  | 100 => ⟨S64x64, .i32⟩
  | 101 => ⟨S64x64, .i32⟩
  | 102 => ⟨S64x64, .i32⟩
  | 103 => ⟨S64x64, .i32⟩
  | 104 => ⟨S_, .i32⟩
  | 105 => ⟨S64x64, .i32⟩
  | 106 => ⟨S64x64, .i32⟩
  | 107 => ⟨S_, .i32⟩
  | 108 => ⟨S64x64, .i32⟩
  | 109 => ⟨S64x64, .i32⟩
  | 110 => ⟨S64x64, .i32⟩
  | 111 => ⟨S64x64, .i32⟩
  | 112 => ⟨S64x64, .i32⟩
  | 113 => ⟨S_, .i32⟩
  | 114 => ⟨S64x64, .i32⟩
  | 115 => ⟨S64x64, .i32⟩
  | 116 => ⟨S_, .i32⟩
  | 117 => ⟨S64x64, .i32⟩
  | 118 => ⟨S64x64, .i32⟩
  | 119 => ⟨S64x64, .i32⟩
  | 120 => ⟨S64x64, .i32⟩
  | 121 => ⟨S64x64, .i32⟩
  | 122 => ⟨S_, .i32⟩
  | 123 => ⟨S64x64, .i32⟩
  | 124 => ⟨S64x64, .i32⟩
  | 125 => ⟨S_, .i32⟩
  | 126 => ⟨S64x64, .i32⟩
  | 127 => ⟨S64x64, .i32⟩
  | _ => ⟨S64x64, .f32⟩

abbrev hbmTy0_10 (i : Nat) : BufTy := match i % 128 with
  | 0 => ⟨S64x64, .i32⟩
  | 1 => ⟨S64x64, .i32⟩
  | 2 => ⟨S64x64, .i32⟩
  | 3 => ⟨S64x64, .i32⟩
  | 4 => ⟨S64x64, .i32⟩
  | 5 => ⟨S64x64, .i32⟩
  | 6 => ⟨S_, .i32⟩
  | 7 => ⟨S64x64, .i32⟩
  | 8 => ⟨S64x64, .i32⟩
  | 9 => ⟨S64x64, .i32⟩
  | 10 => ⟨S1x1, .i32⟩
  | 11 => ⟨S1x1, .i32⟩
  | 12 => ⟨S1x1, .i1⟩
  | 13 => ⟨S_, .i32⟩
  | 14 => ⟨S1x1, .i32⟩
  | 15 => ⟨S1x1, .i32⟩
  | 16 => ⟨S1x1, .i1⟩
  | 17 => ⟨S1x1, .i1⟩
  | 18 => ⟨S1x1, .i1⟩
  | 19 => ⟨S_, .i32⟩
  | 20 => ⟨S1x1, .i32⟩
  | 21 => ⟨S1x1, .i32⟩
  | 22 => ⟨S1x1, .i32⟩
  | 23 => ⟨S_, .i32⟩
  | 24 => ⟨S1x1, .i32⟩
  | 25 => ⟨S1x1, .i32⟩
  | 26 => ⟨S1x1, .i32⟩
  | 27 => ⟨S1x1, .i32⟩
  | 28 => ⟨S64x64, .i32⟩
  | 29 => ⟨S64x64, .i32⟩
  | 30 => ⟨S64x64, .i32⟩
  | 31 => ⟨S64x64, .i32⟩
  | 32 => ⟨S64x64, .i32⟩
  | 33 => ⟨S64x64, .i32⟩
  | 34 => ⟨S64x64, .i32⟩
  | 35 => ⟨S64x64, .i32⟩
  | 36 => ⟨S64x64, .i32⟩
  | 37 => ⟨S64x64, .i32⟩
  | 38 => ⟨S64x64, .i32⟩
  | 39 => ⟨S64x64, .i32⟩
  | 40 => ⟨S64x64x1, .i1⟩
  | 41 => ⟨S64, .i32⟩
  | 42 => ⟨S1x1x64, .i32⟩
  | 43 => ⟨S64x64x1, .i32⟩
  | 44 => ⟨S64x64x64, .i32⟩
  | 45 => ⟨S64x64x64, .i32⟩
  | 46 => ⟨S64x64x64, .i1⟩
  | 47 => ⟨S64x64x64, .i1⟩
  | 48 => ⟨S64x64x64, .i1⟩
  | 49 => ⟨S_, .i32⟩
  | 50 => ⟨S_, .i32⟩
  | 51 => ⟨S64x64x64, .i32⟩
  | 52 => ⟨S64x64x64, .i32⟩
  | 53 => ⟨S64x1x64, .f32⟩
  | 54 => ⟨S_, .i32⟩
  | 55 => ⟨S64x64x64, .i32⟩
  | 56 => ⟨S64x64x64, .i1⟩
  | 57 => ⟨S_, .i32⟩
  | 58 => ⟨S64x64x64, .i32⟩
  | 59 => ⟨S64x64x64, .i1⟩
  | 60 => ⟨S64x1x64, .f32⟩
  | 61 => ⟨S_, .f32⟩
  | 62 => ⟨S_, .f32⟩
  | 63 => ⟨S64x64x64, .f32⟩
  | 64 => ⟨S64x64x64, .f32⟩
  | 65 => ⟨S64x64x64, .f32⟩
  | 66 => ⟨S64x64x64, .f32⟩
  | 67 => ⟨S64x64x64, .f32⟩
  | 68 => ⟨S1x64x1, .i32⟩
  | 69 => ⟨S_, .i32⟩
  | 70 => ⟨S1x64x1, .i32⟩
  | 71 => ⟨S1x64x1, .i1⟩
  | 72 => ⟨S_, .i32⟩
  | 73 => ⟨S64x64x64, .i32⟩
  | 74 => ⟨S64x64x64, .i1⟩
  | 75 => ⟨S_, .f32⟩
  | 76 => ⟨S_, .f32⟩
  | 77 => ⟨S1x64x1, .f32⟩
  | 78 => ⟨S1x64x1, .f32⟩
  | 79 => ⟨S1x64x1, .f32⟩
  | 80 => ⟨S_, .f32⟩
  | 81 => ⟨S64x64x64, .f32⟩
  | 82 => ⟨S64x64x64, .f32⟩
  | 83 => ⟨S64x64x64, .f32⟩
  | 84 => ⟨S64x64x64, .f32⟩
  | 85 => ⟨S64x64x64, .f32⟩
  | 86 => ⟨S1x64, .i32⟩
  | 87 => ⟨S_, .i32⟩
  | 88 => ⟨S1x64, .i32⟩
  | 89 => ⟨S1x64, .i1⟩
  | 90 => ⟨S_, .f32⟩
  | 91 => ⟨S64x64, .f32⟩
  | 92 => ⟨S_, .f32⟩
  | 93 => ⟨S64x64, .f32⟩
  | 94 => ⟨S64x64, .i1⟩
  | 95 => ⟨S64x64, .f32⟩
  | _ => ⟨S64x64, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | _ => ⟨S64x64, .f32⟩

abbrev bufTy : (tb : Table) → Fin (tcTables nBuf tb) → BufTy
  | .hbm, ⟨i, _⟩ => hbmTy i
  | _, _ => ⟨S64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_c : Ref sig .tc := ⟨.hbm, 18, rfl⟩
abbrev main_call0_v5 : Ref sig .tc := ⟨.hbm, 19, rfl⟩
abbrev main_call0_v6 : Ref sig .tc := ⟨.hbm, 20, rfl⟩
abbrev main_call0_c_0 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_call0_v0 : Ref sig .tc := ⟨.hbm, 26, rfl⟩
abbrev main_call0_call0_c : Ref sig .tc := ⟨.hbm, 27, rfl⟩
abbrev main_call0_call0_v1 : Ref sig .tc := ⟨.hbm, 28, rfl⟩
abbrev main_call0_call0_v2 : Ref sig .tc := ⟨.hbm, 29, rfl⟩
abbrev main_call0_call0_v3 : Ref sig .tc := ⟨.hbm, 30, rfl⟩
abbrev main_call0_call0_v4 : Ref sig .tc := ⟨.hbm, 31, rfl⟩
abbrev main_call0_call0_v5 : Ref sig .tc := ⟨.hbm, 32, rfl⟩
abbrev main_call0_call0_v6 : Ref sig .tc := ⟨.hbm, 33, rfl⟩
abbrev main_call0_call0_c_0 : Ref sig .tc := ⟨.hbm, 34, rfl⟩
abbrev main_call0_call0_v7 : Ref sig .tc := ⟨.hbm, 35, rfl⟩
abbrev main_call0_call0_v8 : Ref sig .tc := ⟨.hbm, 36, rfl⟩
abbrev main_call0_call0_c_1 : Ref sig .tc := ⟨.hbm, 37, rfl⟩
abbrev main_call0_call0_v9 : Ref sig .tc := ⟨.hbm, 38, rfl⟩
abbrev main_call0_call0_v10 : Ref sig .tc := ⟨.hbm, 39, rfl⟩
abbrev main_call0_call0_v11 : Ref sig .tc := ⟨.hbm, 40, rfl⟩
abbrev main_call0_call0_v12 : Ref sig .tc := ⟨.hbm, 41, rfl⟩
abbrev main_call0_call0_v13 : Ref sig .tc := ⟨.hbm, 42, rfl⟩
abbrev main_call0_call0_c_2 : Ref sig .tc := ⟨.hbm, 43, rfl⟩
abbrev main_call0_call0_v14 : Ref sig .tc := ⟨.hbm, 44, rfl⟩
abbrev main_call0_call0_v15 : Ref sig .tc := ⟨.hbm, 45, rfl⟩
abbrev main_call0_call0_c_3 : Ref sig .tc := ⟨.hbm, 46, rfl⟩
abbrev main_call0_call0_v16 : Ref sig .tc := ⟨.hbm, 47, rfl⟩
abbrev main_call0_call0_v17 : Ref sig .tc := ⟨.hbm, 48, rfl⟩
abbrev main_call0_call0_v18 : Ref sig .tc := ⟨.hbm, 49, rfl⟩
abbrev main_call0_call0_v19 : Ref sig .tc := ⟨.hbm, 50, rfl⟩
abbrev main_call0_call0_v20 : Ref sig .tc := ⟨.hbm, 51, rfl⟩
abbrev main_call0_call0_c_4 : Ref sig .tc := ⟨.hbm, 52, rfl⟩
abbrev main_call0_call0_v21 : Ref sig .tc := ⟨.hbm, 53, rfl⟩
abbrev main_call0_call0_v22 : Ref sig .tc := ⟨.hbm, 54, rfl⟩
abbrev main_call0_call0_c_5 : Ref sig .tc := ⟨.hbm, 55, rfl⟩
abbrev main_call0_call0_v23 : Ref sig .tc := ⟨.hbm, 56, rfl⟩
abbrev main_call0_call0_v24 : Ref sig .tc := ⟨.hbm, 57, rfl⟩
abbrev main_call0_call0_v25 : Ref sig .tc := ⟨.hbm, 58, rfl⟩
abbrev main_call0_call0_v26 : Ref sig .tc := ⟨.hbm, 59, rfl⟩
abbrev main_call0_call0_v27 : Ref sig .tc := ⟨.hbm, 60, rfl⟩
abbrev main_call0_call0_c_6 : Ref sig .tc := ⟨.hbm, 61, rfl⟩
abbrev main_call0_call0_v28 : Ref sig .tc := ⟨.hbm, 62, rfl⟩
abbrev main_call0_call0_v29 : Ref sig .tc := ⟨.hbm, 63, rfl⟩
abbrev main_call0_call0_c_7 : Ref sig .tc := ⟨.hbm, 64, rfl⟩
abbrev main_call0_call0_v30 : Ref sig .tc := ⟨.hbm, 65, rfl⟩
abbrev main_call0_call0_v31 : Ref sig .tc := ⟨.hbm, 66, rfl⟩
abbrev main_call0_call0_v32 : Ref sig .tc := ⟨.hbm, 67, rfl⟩
abbrev main_call0_call0_v33 : Ref sig .tc := ⟨.hbm, 68, rfl⟩
abbrev main_call0_call0_v34 : Ref sig .tc := ⟨.hbm, 69, rfl⟩
abbrev main_call0_call0_v35 : Ref sig .tc := ⟨.hbm, 70, rfl⟩
abbrev main_call0_call0_v36 : Ref sig .tc := ⟨.hbm, 71, rfl⟩
abbrev main_call0_call0_v37 : Ref sig .tc := ⟨.hbm, 72, rfl⟩
abbrev main_call0_call0_c_8 : Ref sig .tc := ⟨.hbm, 73, rfl⟩
abbrev main_call0_call0_v38 : Ref sig .tc := ⟨.hbm, 74, rfl⟩
abbrev main_call0_call0_v39 : Ref sig .tc := ⟨.hbm, 75, rfl⟩
abbrev main_call0_call0_v40 : Ref sig .tc := ⟨.hbm, 76, rfl⟩
abbrev main_call0_call0_c_9 : Ref sig .tc := ⟨.hbm, 77, rfl⟩
abbrev main_call0_call0_v41 : Ref sig .tc := ⟨.hbm, 78, rfl⟩
abbrev main_call0_call0_v42 : Ref sig .tc := ⟨.hbm, 79, rfl⟩
abbrev main_call0_call0_c_10 : Ref sig .tc := ⟨.hbm, 80, rfl⟩
abbrev main_call0_call0_v43 : Ref sig .tc := ⟨.hbm, 81, rfl⟩
abbrev main_call0_call0_v44 : Ref sig .tc := ⟨.hbm, 82, rfl⟩
abbrev main_call0_call0_v45 : Ref sig .tc := ⟨.hbm, 83, rfl⟩
abbrev main_call0_call0_v46 : Ref sig .tc := ⟨.hbm, 84, rfl⟩
abbrev main_call0_call0_v47 : Ref sig .tc := ⟨.hbm, 85, rfl⟩
abbrev main_call0_call0_c_11 : Ref sig .tc := ⟨.hbm, 86, rfl⟩
abbrev main_call0_call0_v48 : Ref sig .tc := ⟨.hbm, 87, rfl⟩
abbrev main_call0_call0_v49 : Ref sig .tc := ⟨.hbm, 88, rfl⟩
abbrev main_call0_call0_c_12 : Ref sig .tc := ⟨.hbm, 89, rfl⟩
abbrev main_call0_call0_v50 : Ref sig .tc := ⟨.hbm, 90, rfl⟩
abbrev main_call0_call0_v51 : Ref sig .tc := ⟨.hbm, 91, rfl⟩
abbrev main_call0_call0_v52 : Ref sig .tc := ⟨.hbm, 92, rfl⟩
abbrev main_call0_call0_v53 : Ref sig .tc := ⟨.hbm, 93, rfl⟩
abbrev main_call0_call0_v54 : Ref sig .tc := ⟨.hbm, 94, rfl⟩
abbrev main_call0_call0_c_13 : Ref sig .tc := ⟨.hbm, 95, rfl⟩
abbrev main_call0_call0_v55 : Ref sig .tc := ⟨.hbm, 96, rfl⟩
abbrev main_call0_call0_v56 : Ref sig .tc := ⟨.hbm, 97, rfl⟩
abbrev main_call0_call0_c_14 : Ref sig .tc := ⟨.hbm, 98, rfl⟩
abbrev main_call0_call0_v57 : Ref sig .tc := ⟨.hbm, 99, rfl⟩
abbrev main_call0_call0_v58 : Ref sig .tc := ⟨.hbm, 100, rfl⟩
abbrev main_call0_call0_v59 : Ref sig .tc := ⟨.hbm, 101, rfl⟩
abbrev main_call0_call0_v60 : Ref sig .tc := ⟨.hbm, 102, rfl⟩
abbrev main_call0_call0_v61 : Ref sig .tc := ⟨.hbm, 103, rfl⟩
abbrev main_call0_call0_c_15 : Ref sig .tc := ⟨.hbm, 104, rfl⟩
abbrev main_call0_call0_v62 : Ref sig .tc := ⟨.hbm, 105, rfl⟩
abbrev main_call0_call0_v63 : Ref sig .tc := ⟨.hbm, 106, rfl⟩
abbrev main_call0_call0_c_16 : Ref sig .tc := ⟨.hbm, 107, rfl⟩
abbrev main_call0_call0_v64 : Ref sig .tc := ⟨.hbm, 108, rfl⟩
abbrev main_call0_call0_v65 : Ref sig .tc := ⟨.hbm, 109, rfl⟩
abbrev main_call0_call0_v66 : Ref sig .tc := ⟨.hbm, 110, rfl⟩
abbrev main_call0_call0_v67 : Ref sig .tc := ⟨.hbm, 111, rfl⟩
abbrev main_call0_call0_v68 : Ref sig .tc := ⟨.hbm, 112, rfl⟩
abbrev main_call0_call0_v69 : Ref sig .tc := ⟨.hbm, 113, rfl⟩
abbrev main_call0_call0_v70 : Ref sig .tc := ⟨.hbm, 114, rfl⟩
abbrev main_call0_call0_v71 : Ref sig .tc := ⟨.hbm, 115, rfl⟩
abbrev main_call0_call0_c_17 : Ref sig .tc := ⟨.hbm, 116, rfl⟩
abbrev main_call0_call0_v72 : Ref sig .tc := ⟨.hbm, 117, rfl⟩
abbrev main_call0_call0_v73 : Ref sig .tc := ⟨.hbm, 118, rfl⟩
abbrev main_call0_call0_v74 : Ref sig .tc := ⟨.hbm, 119, rfl⟩
abbrev main_call0_call0_c_18 : Ref sig .tc := ⟨.hbm, 120, rfl⟩
abbrev main_call0_call0_v75 : Ref sig .tc := ⟨.hbm, 121, rfl⟩
abbrev main_call0_call0_v76 : Ref sig .tc := ⟨.hbm, 122, rfl⟩
abbrev main_call0_call0_c_19 : Ref sig .tc := ⟨.hbm, 123, rfl⟩
abbrev main_call0_call0_v77 : Ref sig .tc := ⟨.hbm, 124, rfl⟩
abbrev main_call0_call0_v78 : Ref sig .tc := ⟨.hbm, 125, rfl⟩
abbrev main_call0_call0_v79 : Ref sig .tc := ⟨.hbm, 126, rfl⟩
abbrev main_call0_call0_v80 : Ref sig .tc := ⟨.hbm, 127, rfl⟩
abbrev main_call0_call0_v81 : Ref sig .tc := ⟨.hbm, 128, rfl⟩
abbrev main_call0_call0_c_20 : Ref sig .tc := ⟨.hbm, 129, rfl⟩
abbrev main_call0_call0_v82 : Ref sig .tc := ⟨.hbm, 130, rfl⟩
abbrev main_call0_call0_v83 : Ref sig .tc := ⟨.hbm, 131, rfl⟩
abbrev main_call0_call0_c_21 : Ref sig .tc := ⟨.hbm, 132, rfl⟩
abbrev main_call0_call0_v84 : Ref sig .tc := ⟨.hbm, 133, rfl⟩
abbrev main_call0_call0_v85 : Ref sig .tc := ⟨.hbm, 134, rfl⟩
abbrev main_call0_call0_v86 : Ref sig .tc := ⟨.hbm, 135, rfl⟩
abbrev main_call0_call0_v87 : Ref sig .tc := ⟨.hbm, 136, rfl⟩
abbrev main_call0_call0_v88 : Ref sig .tc := ⟨.hbm, 137, rfl⟩
abbrev main_call0_call0_c_22 : Ref sig .tc := ⟨.hbm, 138, rfl⟩
abbrev main_call0_call0_v89 : Ref sig .tc := ⟨.hbm, 139, rfl⟩
abbrev main_call0_call0_v90 : Ref sig .tc := ⟨.hbm, 140, rfl⟩
abbrev main_call0_call0_c_23 : Ref sig .tc := ⟨.hbm, 141, rfl⟩
abbrev main_call0_call0_v91 : Ref sig .tc := ⟨.hbm, 142, rfl⟩
abbrev main_call0_call0_v92 : Ref sig .tc := ⟨.hbm, 143, rfl⟩
abbrev main_call0_call0_v93 : Ref sig .tc := ⟨.hbm, 144, rfl⟩
abbrev main_call0_call0_v94 : Ref sig .tc := ⟨.hbm, 145, rfl⟩
abbrev main_call0_call0_v95 : Ref sig .tc := ⟨.hbm, 146, rfl⟩
abbrev main_call0_call0_c_24 : Ref sig .tc := ⟨.hbm, 147, rfl⟩
abbrev main_call0_call0_v96 : Ref sig .tc := ⟨.hbm, 148, rfl⟩
abbrev main_call0_call0_v97 : Ref sig .tc := ⟨.hbm, 149, rfl⟩
abbrev main_call0_call0_c_25 : Ref sig .tc := ⟨.hbm, 150, rfl⟩
abbrev main_call0_call0_v98 : Ref sig .tc := ⟨.hbm, 151, rfl⟩
abbrev main_call0_call0_v99 : Ref sig .tc := ⟨.hbm, 152, rfl⟩
abbrev main_call0_call0_v100 : Ref sig .tc := ⟨.hbm, 153, rfl⟩
abbrev main_call0_call0_v101 : Ref sig .tc := ⟨.hbm, 154, rfl⟩
abbrev main_call0_call0_v102 : Ref sig .tc := ⟨.hbm, 155, rfl⟩
abbrev main_call0_call0_v103 : Ref sig .tc := ⟨.hbm, 156, rfl⟩
abbrev main_call0_call0_v104 : Ref sig .tc := ⟨.hbm, 157, rfl⟩
abbrev main_call0_call0_v105 : Ref sig .tc := ⟨.hbm, 158, rfl⟩
abbrev main_call0_call0_c_26 : Ref sig .tc := ⟨.hbm, 159, rfl⟩
abbrev main_call0_call0_v106 : Ref sig .tc := ⟨.hbm, 160, rfl⟩
abbrev main_call0_call0_v107 : Ref sig .tc := ⟨.hbm, 161, rfl⟩
abbrev main_call0_call0_v108 : Ref sig .tc := ⟨.hbm, 162, rfl⟩
abbrev main_call0_call0_c_27 : Ref sig .tc := ⟨.hbm, 163, rfl⟩
abbrev main_call0_call0_v109 : Ref sig .tc := ⟨.hbm, 164, rfl⟩
abbrev main_call0_call0_v110 : Ref sig .tc := ⟨.hbm, 165, rfl⟩
abbrev main_call0_call0_c_28 : Ref sig .tc := ⟨.hbm, 166, rfl⟩
abbrev main_call0_call0_v111 : Ref sig .tc := ⟨.hbm, 167, rfl⟩
abbrev main_call0_call0_v112 : Ref sig .tc := ⟨.hbm, 168, rfl⟩
abbrev main_call0_call0_v113 : Ref sig .tc := ⟨.hbm, 169, rfl⟩
abbrev main_call0_call0_v114 : Ref sig .tc := ⟨.hbm, 170, rfl⟩
abbrev main_call0_call0_v115 : Ref sig .tc := ⟨.hbm, 171, rfl⟩
abbrev main_call0_call0_c_29 : Ref sig .tc := ⟨.hbm, 172, rfl⟩
abbrev main_call0_call0_v116 : Ref sig .tc := ⟨.hbm, 173, rfl⟩
abbrev main_call0_call0_v117 : Ref sig .tc := ⟨.hbm, 174, rfl⟩
abbrev main_call0_call0_c_30 : Ref sig .tc := ⟨.hbm, 175, rfl⟩
abbrev main_call0_call0_v118 : Ref sig .tc := ⟨.hbm, 176, rfl⟩
abbrev main_call0_call0_v119 : Ref sig .tc := ⟨.hbm, 177, rfl⟩
abbrev main_call0_call0_v120 : Ref sig .tc := ⟨.hbm, 178, rfl⟩
abbrev main_call0_call0_v121 : Ref sig .tc := ⟨.hbm, 179, rfl⟩
abbrev main_call0_call0_v122 : Ref sig .tc := ⟨.hbm, 180, rfl⟩
abbrev main_call0_call0_c_31 : Ref sig .tc := ⟨.hbm, 181, rfl⟩
abbrev main_call0_call0_v123 : Ref sig .tc := ⟨.hbm, 182, rfl⟩
abbrev main_call0_call0_v124 : Ref sig .tc := ⟨.hbm, 183, rfl⟩
abbrev main_call0_call0_c_32 : Ref sig .tc := ⟨.hbm, 184, rfl⟩
abbrev main_call0_call0_v125 : Ref sig .tc := ⟨.hbm, 185, rfl⟩
abbrev main_call0_call0_v126 : Ref sig .tc := ⟨.hbm, 186, rfl⟩
abbrev main_call0_call0_v127 : Ref sig .tc := ⟨.hbm, 187, rfl⟩
abbrev main_call0_call0_v128 : Ref sig .tc := ⟨.hbm, 188, rfl⟩
abbrev main_call0_call0_v129 : Ref sig .tc := ⟨.hbm, 189, rfl⟩
abbrev main_call0_call0_c_33 : Ref sig .tc := ⟨.hbm, 190, rfl⟩
abbrev main_call0_call0_v130 : Ref sig .tc := ⟨.hbm, 191, rfl⟩
abbrev main_call0_call0_v131 : Ref sig .tc := ⟨.hbm, 192, rfl⟩
abbrev main_call0_call0_c_34 : Ref sig .tc := ⟨.hbm, 193, rfl⟩
abbrev main_call0_call0_v132 : Ref sig .tc := ⟨.hbm, 194, rfl⟩
abbrev main_call0_call0_v133 : Ref sig .tc := ⟨.hbm, 195, rfl⟩
abbrev main_call0_call0_v134 : Ref sig .tc := ⟨.hbm, 196, rfl⟩
abbrev main_call0_call0_v135 : Ref sig .tc := ⟨.hbm, 197, rfl⟩
abbrev main_call0_call0_v136 : Ref sig .tc := ⟨.hbm, 198, rfl⟩
abbrev main_call0_call0_v137 : Ref sig .tc := ⟨.hbm, 199, rfl⟩
abbrev main_call0_call0_v138 : Ref sig .tc := ⟨.hbm, 200, rfl⟩
abbrev main_call0_call0_v139 : Ref sig .tc := ⟨.hbm, 201, rfl⟩
abbrev main_call0_call0_c_35 : Ref sig .tc := ⟨.hbm, 202, rfl⟩
abbrev main_call0_call0_v140 : Ref sig .tc := ⟨.hbm, 203, rfl⟩
abbrev main_call0_call0_v141 : Ref sig .tc := ⟨.hbm, 204, rfl⟩
abbrev main_call0_call0_v142 : Ref sig .tc := ⟨.hbm, 205, rfl⟩
abbrev main_call0_call0_c_36 : Ref sig .tc := ⟨.hbm, 206, rfl⟩
abbrev main_call0_call0_v143 : Ref sig .tc := ⟨.hbm, 207, rfl⟩
abbrev main_call0_call0_v144 : Ref sig .tc := ⟨.hbm, 208, rfl⟩
abbrev main_call0_call0_c_37 : Ref sig .tc := ⟨.hbm, 209, rfl⟩
abbrev main_call0_call0_v145 : Ref sig .tc := ⟨.hbm, 210, rfl⟩
abbrev main_call0_call0_v146 : Ref sig .tc := ⟨.hbm, 211, rfl⟩
abbrev main_call0_call0_v147 : Ref sig .tc := ⟨.hbm, 212, rfl⟩
abbrev main_call0_call0_v148 : Ref sig .tc := ⟨.hbm, 213, rfl⟩
abbrev main_call0_call0_v149 : Ref sig .tc := ⟨.hbm, 214, rfl⟩
abbrev main_call0_call0_c_38 : Ref sig .tc := ⟨.hbm, 215, rfl⟩
abbrev main_call0_call0_v150 : Ref sig .tc := ⟨.hbm, 216, rfl⟩
abbrev main_call0_call0_v151 : Ref sig .tc := ⟨.hbm, 217, rfl⟩
abbrev main_call0_call0_c_39 : Ref sig .tc := ⟨.hbm, 218, rfl⟩
abbrev main_call0_call0_v152 : Ref sig .tc := ⟨.hbm, 219, rfl⟩
abbrev main_call0_call0_v153 : Ref sig .tc := ⟨.hbm, 220, rfl⟩
abbrev main_call0_call0_v154 : Ref sig .tc := ⟨.hbm, 221, rfl⟩
abbrev main_call0_call0_v155 : Ref sig .tc := ⟨.hbm, 222, rfl⟩
abbrev main_call0_call0_v156 : Ref sig .tc := ⟨.hbm, 223, rfl⟩
abbrev main_call0_call0_c_40 : Ref sig .tc := ⟨.hbm, 224, rfl⟩
abbrev main_call0_call0_v157 : Ref sig .tc := ⟨.hbm, 225, rfl⟩
abbrev main_call0_call0_v158 : Ref sig .tc := ⟨.hbm, 226, rfl⟩
abbrev main_call0_call0_c_41 : Ref sig .tc := ⟨.hbm, 227, rfl⟩
abbrev main_call0_call0_v159 : Ref sig .tc := ⟨.hbm, 228, rfl⟩
abbrev main_call0_call0_v160 : Ref sig .tc := ⟨.hbm, 229, rfl⟩
abbrev main_call0_call0_v161 : Ref sig .tc := ⟨.hbm, 230, rfl⟩
abbrev main_call0_call0_v162 : Ref sig .tc := ⟨.hbm, 231, rfl⟩
abbrev main_call0_call0_v163 : Ref sig .tc := ⟨.hbm, 232, rfl⟩
abbrev main_call0_call0_c_42 : Ref sig .tc := ⟨.hbm, 233, rfl⟩
abbrev main_call0_call0_v164 : Ref sig .tc := ⟨.hbm, 234, rfl⟩
abbrev main_call0_call0_v165 : Ref sig .tc := ⟨.hbm, 235, rfl⟩
abbrev main_call0_call0_c_43 : Ref sig .tc := ⟨.hbm, 236, rfl⟩
abbrev main_call0_call0_v166 : Ref sig .tc := ⟨.hbm, 237, rfl⟩
abbrev main_call0_call0_v167 : Ref sig .tc := ⟨.hbm, 238, rfl⟩
abbrev main_call0_call0_v168 : Ref sig .tc := ⟨.hbm, 239, rfl⟩
abbrev main_call0_call0_v169 : Ref sig .tc := ⟨.hbm, 240, rfl⟩
abbrev main_call0_call0_v170 : Ref sig .tc := ⟨.hbm, 241, rfl⟩
abbrev main_call0_v11_0 : Ref sig .tc := ⟨.hbm, 242, rfl⟩
abbrev main_call0_call0_v172 : Ref sig .tc := ⟨.hbm, 243, rfl⟩
abbrev main_call0_call0_v173 : Ref sig .tc := ⟨.hbm, 244, rfl⟩
abbrev main_call0_call0_c_44 : Ref sig .tc := ⟨.hbm, 245, rfl⟩
abbrev main_call0_call0_v174 : Ref sig .tc := ⟨.hbm, 246, rfl⟩
abbrev main_call0_v11_1 : Ref sig .tc := ⟨.hbm, 247, rfl⟩
abbrev main_call0_v12 : Ref sig .tc := ⟨.hbm, 248, rfl⟩
abbrev main_call0_v13 : Ref sig .tc := ⟨.hbm, 249, rfl⟩
abbrev main_v7 : Ref sig .tc := ⟨.hbm, 250, rfl⟩
abbrev main_v8 : Ref sig .tc := ⟨.hbm, 251, rfl⟩
abbrev main_v9 : Ref sig .tc := ⟨.hbm, 252, rfl⟩
abbrev main_v10 : Ref sig .tc := ⟨.hbm, 253, rfl⟩
abbrev main_v11 : Ref sig .tc := ⟨.hbm, 254, rfl⟩
abbrev main_v12 : Ref sig .tc := ⟨.hbm, 255, rfl⟩
abbrev main_v13 : Ref sig .tc := ⟨.hbm, 256, rfl⟩
abbrev main_call1_cst : Ref sig .tc := ⟨.hbm, 257, rfl⟩
abbrev main_call1_cst_0 : Ref sig .tc := ⟨.hbm, 258, rfl⟩
abbrev main_call1_call0_v0 : Ref sig .tc := ⟨.hbm, 259, rfl⟩
abbrev main_call1_call0_v1 : Ref sig .tc := ⟨.hbm, 260, rfl⟩
abbrev main_call1_call0_v2 : Ref sig .tc := ⟨.hbm, 261, rfl⟩
abbrev main_call1_call0_v3 : Ref sig .tc := ⟨.hbm, 262, rfl⟩
abbrev main_call1_call0_v4 : Ref sig .tc := ⟨.hbm, 263, rfl⟩
abbrev main_call1_call0_v5 : Ref sig .tc := ⟨.hbm, 264, rfl⟩
abbrev main_call1_call0_v6 : Ref sig .tc := ⟨.hbm, 265, rfl⟩
abbrev main_call1_call0_v7 : Ref sig .tc := ⟨.hbm, 266, rfl⟩
abbrev main_call1_call0_v8 : Ref sig .tc := ⟨.hbm, 267, rfl⟩
abbrev main_call1_call0_v9 : Ref sig .tc := ⟨.hbm, 268, rfl⟩
abbrev main_call1_call0_v10 : Ref sig .tc := ⟨.hbm, 269, rfl⟩
abbrev main_call1_call0_c : Ref sig .tc := ⟨.hbm, 270, rfl⟩
abbrev main_call1_call0_v11 : Ref sig .tc := ⟨.hbm, 271, rfl⟩
abbrev main_call1_call0_v12 : Ref sig .tc := ⟨.hbm, 272, rfl⟩
abbrev main_call1_call0_c_0 : Ref sig .tc := ⟨.hbm, 273, rfl⟩
abbrev main_call1_call0_v13 : Ref sig .tc := ⟨.hbm, 274, rfl⟩
abbrev main_call1_call0_v14 : Ref sig .tc := ⟨.hbm, 275, rfl⟩
abbrev main_call1_call0_c_1 : Ref sig .tc := ⟨.hbm, 276, rfl⟩
abbrev main_call1_call0_v15 : Ref sig .tc := ⟨.hbm, 277, rfl⟩
abbrev main_call1_call0_v16 : Ref sig .tc := ⟨.hbm, 278, rfl⟩
abbrev main_call1_call0_c_2 : Ref sig .tc := ⟨.hbm, 279, rfl⟩
abbrev main_call1_call0_v17 : Ref sig .tc := ⟨.hbm, 280, rfl⟩
abbrev main_call1_call0_v18 : Ref sig .tc := ⟨.hbm, 281, rfl⟩
abbrev main_call1_call0_v19 : Ref sig .tc := ⟨.hbm, 282, rfl⟩
abbrev main_call1_call0_v20 : Ref sig .tc := ⟨.hbm, 283, rfl⟩
abbrev main_call1_call0_v21 : Ref sig .tc := ⟨.hbm, 284, rfl⟩
abbrev main_call1_call0_c_3 : Ref sig .tc := ⟨.hbm, 285, rfl⟩
abbrev main_call1_call0_v22 : Ref sig .tc := ⟨.hbm, 286, rfl⟩
abbrev main_call1_call0_v23 : Ref sig .tc := ⟨.hbm, 287, rfl⟩
abbrev main_call1_call0_v24 : Ref sig .tc := ⟨.hbm, 288, rfl⟩
abbrev main_call1_call0_v25 : Ref sig .tc := ⟨.hbm, 289, rfl⟩
abbrev main_call1_call0_call0_v0 : Ref sig .tc := ⟨.hbm, 290, rfl⟩
abbrev main_call1_call0_call0_c : Ref sig .tc := ⟨.hbm, 291, rfl⟩
abbrev main_call1_call0_call0_v1 : Ref sig .tc := ⟨.hbm, 292, rfl⟩
abbrev main_call1_call0_call0_v2 : Ref sig .tc := ⟨.hbm, 293, rfl⟩
abbrev main_call1_call0_call0_v3 : Ref sig .tc := ⟨.hbm, 294, rfl⟩
abbrev main_call1_call0_call0_v4 : Ref sig .tc := ⟨.hbm, 295, rfl⟩
abbrev main_call1_call0_call0_v5 : Ref sig .tc := ⟨.hbm, 296, rfl⟩
abbrev main_call1_call0_call0_v6 : Ref sig .tc := ⟨.hbm, 297, rfl⟩
abbrev main_call1_call0_call0_c_0 : Ref sig .tc := ⟨.hbm, 298, rfl⟩
abbrev main_call1_call0_call0_v7 : Ref sig .tc := ⟨.hbm, 299, rfl⟩
abbrev main_call1_call0_call0_v8 : Ref sig .tc := ⟨.hbm, 300, rfl⟩
abbrev main_call1_call0_call0_c_1 : Ref sig .tc := ⟨.hbm, 301, rfl⟩
abbrev main_call1_call0_call0_v9 : Ref sig .tc := ⟨.hbm, 302, rfl⟩
abbrev main_call1_call0_call0_v10 : Ref sig .tc := ⟨.hbm, 303, rfl⟩
abbrev main_call1_call0_call0_v11 : Ref sig .tc := ⟨.hbm, 304, rfl⟩
abbrev main_call1_call0_call0_v12 : Ref sig .tc := ⟨.hbm, 305, rfl⟩
abbrev main_call1_call0_call0_v13 : Ref sig .tc := ⟨.hbm, 306, rfl⟩
abbrev main_call1_call0_call0_c_2 : Ref sig .tc := ⟨.hbm, 307, rfl⟩
abbrev main_call1_call0_call0_v14 : Ref sig .tc := ⟨.hbm, 308, rfl⟩
abbrev main_call1_call0_call0_v15 : Ref sig .tc := ⟨.hbm, 309, rfl⟩
abbrev main_call1_call0_call0_c_3 : Ref sig .tc := ⟨.hbm, 310, rfl⟩
abbrev main_call1_call0_call0_v16 : Ref sig .tc := ⟨.hbm, 311, rfl⟩
abbrev main_call1_call0_call0_v17 : Ref sig .tc := ⟨.hbm, 312, rfl⟩
abbrev main_call1_call0_call0_v18 : Ref sig .tc := ⟨.hbm, 313, rfl⟩
abbrev main_call1_call0_call0_v19 : Ref sig .tc := ⟨.hbm, 314, rfl⟩
abbrev main_call1_call0_call0_v20 : Ref sig .tc := ⟨.hbm, 315, rfl⟩
abbrev main_call1_call0_call0_c_4 : Ref sig .tc := ⟨.hbm, 316, rfl⟩
abbrev main_call1_call0_call0_v21 : Ref sig .tc := ⟨.hbm, 317, rfl⟩
abbrev main_call1_call0_call0_v22 : Ref sig .tc := ⟨.hbm, 318, rfl⟩
abbrev main_call1_call0_call0_c_5 : Ref sig .tc := ⟨.hbm, 319, rfl⟩
abbrev main_call1_call0_call0_v23 : Ref sig .tc := ⟨.hbm, 320, rfl⟩
abbrev main_call1_call0_call0_v24 : Ref sig .tc := ⟨.hbm, 321, rfl⟩
abbrev main_call1_call0_call0_v25 : Ref sig .tc := ⟨.hbm, 322, rfl⟩
abbrev main_call1_call0_call0_v26 : Ref sig .tc := ⟨.hbm, 323, rfl⟩
abbrev main_call1_call0_call0_v27 : Ref sig .tc := ⟨.hbm, 324, rfl⟩
abbrev main_call1_call0_call0_c_6 : Ref sig .tc := ⟨.hbm, 325, rfl⟩
abbrev main_call1_call0_call0_v28 : Ref sig .tc := ⟨.hbm, 326, rfl⟩
abbrev main_call1_call0_call0_v29 : Ref sig .tc := ⟨.hbm, 327, rfl⟩
abbrev main_call1_call0_call0_c_7 : Ref sig .tc := ⟨.hbm, 328, rfl⟩
abbrev main_call1_call0_call0_v30 : Ref sig .tc := ⟨.hbm, 329, rfl⟩
abbrev main_call1_call0_call0_v31 : Ref sig .tc := ⟨.hbm, 330, rfl⟩
abbrev main_call1_call0_call0_v32 : Ref sig .tc := ⟨.hbm, 331, rfl⟩
abbrev main_call1_call0_call0_v33 : Ref sig .tc := ⟨.hbm, 332, rfl⟩
abbrev main_call1_call0_call0_v34 : Ref sig .tc := ⟨.hbm, 333, rfl⟩
abbrev main_call1_call0_call0_v35 : Ref sig .tc := ⟨.hbm, 334, rfl⟩
abbrev main_call1_call0_call0_v36 : Ref sig .tc := ⟨.hbm, 335, rfl⟩
abbrev main_call1_call0_call0_v37 : Ref sig .tc := ⟨.hbm, 336, rfl⟩
abbrev main_call1_call0_call0_c_8 : Ref sig .tc := ⟨.hbm, 337, rfl⟩
abbrev main_call1_call0_call0_v38 : Ref sig .tc := ⟨.hbm, 338, rfl⟩
abbrev main_call1_call0_call0_v39 : Ref sig .tc := ⟨.hbm, 339, rfl⟩
abbrev main_call1_call0_call0_v40 : Ref sig .tc := ⟨.hbm, 340, rfl⟩
abbrev main_call1_call0_call0_c_9 : Ref sig .tc := ⟨.hbm, 341, rfl⟩
abbrev main_call1_call0_call0_v41 : Ref sig .tc := ⟨.hbm, 342, rfl⟩
abbrev main_call1_call0_call0_v42 : Ref sig .tc := ⟨.hbm, 343, rfl⟩
abbrev main_call1_call0_call0_c_10 : Ref sig .tc := ⟨.hbm, 344, rfl⟩
abbrev main_call1_call0_call0_v43 : Ref sig .tc := ⟨.hbm, 345, rfl⟩
abbrev main_call1_call0_call0_v44 : Ref sig .tc := ⟨.hbm, 346, rfl⟩
abbrev main_call1_call0_call0_v45 : Ref sig .tc := ⟨.hbm, 347, rfl⟩
abbrev main_call1_call0_call0_v46 : Ref sig .tc := ⟨.hbm, 348, rfl⟩
abbrev main_call1_call0_call0_v47 : Ref sig .tc := ⟨.hbm, 349, rfl⟩
abbrev main_call1_call0_call0_c_11 : Ref sig .tc := ⟨.hbm, 350, rfl⟩
abbrev main_call1_call0_call0_v48 : Ref sig .tc := ⟨.hbm, 351, rfl⟩
abbrev main_call1_call0_call0_v49 : Ref sig .tc := ⟨.hbm, 352, rfl⟩
abbrev main_call1_call0_call0_c_12 : Ref sig .tc := ⟨.hbm, 353, rfl⟩
abbrev main_call1_call0_call0_v50 : Ref sig .tc := ⟨.hbm, 354, rfl⟩
abbrev main_call1_call0_call0_v51 : Ref sig .tc := ⟨.hbm, 355, rfl⟩
abbrev main_call1_call0_call0_v52 : Ref sig .tc := ⟨.hbm, 356, rfl⟩
abbrev main_call1_call0_call0_v53 : Ref sig .tc := ⟨.hbm, 357, rfl⟩
abbrev main_call1_call0_call0_v54 : Ref sig .tc := ⟨.hbm, 358, rfl⟩
abbrev main_call1_call0_call0_c_13 : Ref sig .tc := ⟨.hbm, 359, rfl⟩
abbrev main_call1_call0_call0_v55 : Ref sig .tc := ⟨.hbm, 360, rfl⟩
abbrev main_call1_call0_call0_v56 : Ref sig .tc := ⟨.hbm, 361, rfl⟩
abbrev main_call1_call0_call0_c_14 : Ref sig .tc := ⟨.hbm, 362, rfl⟩
abbrev main_call1_call0_call0_v57 : Ref sig .tc := ⟨.hbm, 363, rfl⟩
abbrev main_call1_call0_call0_v58 : Ref sig .tc := ⟨.hbm, 364, rfl⟩
abbrev main_call1_call0_call0_v59 : Ref sig .tc := ⟨.hbm, 365, rfl⟩
abbrev main_call1_call0_call0_v60 : Ref sig .tc := ⟨.hbm, 366, rfl⟩
abbrev main_call1_call0_call0_v61 : Ref sig .tc := ⟨.hbm, 367, rfl⟩
abbrev main_call1_call0_call0_c_15 : Ref sig .tc := ⟨.hbm, 368, rfl⟩
abbrev main_call1_call0_call0_v62 : Ref sig .tc := ⟨.hbm, 369, rfl⟩
abbrev main_call1_call0_call0_v63 : Ref sig .tc := ⟨.hbm, 370, rfl⟩
abbrev main_call1_call0_call0_c_16 : Ref sig .tc := ⟨.hbm, 371, rfl⟩
abbrev main_call1_call0_call0_v64 : Ref sig .tc := ⟨.hbm, 372, rfl⟩
abbrev main_call1_call0_call0_v65 : Ref sig .tc := ⟨.hbm, 373, rfl⟩
abbrev main_call1_call0_call0_v66 : Ref sig .tc := ⟨.hbm, 374, rfl⟩
abbrev main_call1_call0_call0_v67 : Ref sig .tc := ⟨.hbm, 375, rfl⟩
abbrev main_call1_call0_call0_v68 : Ref sig .tc := ⟨.hbm, 376, rfl⟩
abbrev main_call1_call0_call0_v69 : Ref sig .tc := ⟨.hbm, 377, rfl⟩
abbrev main_call1_call0_call0_v70 : Ref sig .tc := ⟨.hbm, 378, rfl⟩
abbrev main_call1_call0_call0_v71 : Ref sig .tc := ⟨.hbm, 379, rfl⟩
abbrev main_call1_call0_call0_c_17 : Ref sig .tc := ⟨.hbm, 380, rfl⟩
abbrev main_call1_call0_call0_v72 : Ref sig .tc := ⟨.hbm, 381, rfl⟩
abbrev main_call1_call0_call0_v73 : Ref sig .tc := ⟨.hbm, 382, rfl⟩
abbrev main_call1_call0_call0_v74 : Ref sig .tc := ⟨.hbm, 383, rfl⟩
abbrev main_call1_call0_call0_c_18 : Ref sig .tc := ⟨.hbm, 384, rfl⟩
abbrev main_call1_call0_call0_v75 : Ref sig .tc := ⟨.hbm, 385, rfl⟩
abbrev main_call1_call0_call0_v76 : Ref sig .tc := ⟨.hbm, 386, rfl⟩
abbrev main_call1_call0_call0_c_19 : Ref sig .tc := ⟨.hbm, 387, rfl⟩
abbrev main_call1_call0_call0_v77 : Ref sig .tc := ⟨.hbm, 388, rfl⟩
abbrev main_call1_call0_call0_v78 : Ref sig .tc := ⟨.hbm, 389, rfl⟩
abbrev main_call1_call0_call0_v79 : Ref sig .tc := ⟨.hbm, 390, rfl⟩
abbrev main_call1_call0_call0_v80 : Ref sig .tc := ⟨.hbm, 391, rfl⟩
abbrev main_call1_call0_call0_v81 : Ref sig .tc := ⟨.hbm, 392, rfl⟩
abbrev main_call1_call0_call0_c_20 : Ref sig .tc := ⟨.hbm, 393, rfl⟩
abbrev main_call1_call0_call0_v82 : Ref sig .tc := ⟨.hbm, 394, rfl⟩
abbrev main_call1_call0_call0_v83 : Ref sig .tc := ⟨.hbm, 395, rfl⟩
abbrev main_call1_call0_call0_c_21 : Ref sig .tc := ⟨.hbm, 396, rfl⟩
abbrev main_call1_call0_call0_v84 : Ref sig .tc := ⟨.hbm, 397, rfl⟩
abbrev main_call1_call0_call0_v85 : Ref sig .tc := ⟨.hbm, 398, rfl⟩
abbrev main_call1_call0_call0_v86 : Ref sig .tc := ⟨.hbm, 399, rfl⟩
abbrev main_call1_call0_call0_v87 : Ref sig .tc := ⟨.hbm, 400, rfl⟩
abbrev main_call1_call0_call0_v88 : Ref sig .tc := ⟨.hbm, 401, rfl⟩
abbrev main_call1_call0_call0_c_22 : Ref sig .tc := ⟨.hbm, 402, rfl⟩
abbrev main_call1_call0_call0_v89 : Ref sig .tc := ⟨.hbm, 403, rfl⟩
abbrev main_call1_call0_call0_v90 : Ref sig .tc := ⟨.hbm, 404, rfl⟩
abbrev main_call1_call0_call0_c_23 : Ref sig .tc := ⟨.hbm, 405, rfl⟩
abbrev main_call1_call0_call0_v91 : Ref sig .tc := ⟨.hbm, 406, rfl⟩
abbrev main_call1_call0_call0_v92 : Ref sig .tc := ⟨.hbm, 407, rfl⟩
abbrev main_call1_call0_call0_v93 : Ref sig .tc := ⟨.hbm, 408, rfl⟩
abbrev main_call1_call0_call0_v94 : Ref sig .tc := ⟨.hbm, 409, rfl⟩
abbrev main_call1_call0_call0_v95 : Ref sig .tc := ⟨.hbm, 410, rfl⟩
abbrev main_call1_call0_call0_c_24 : Ref sig .tc := ⟨.hbm, 411, rfl⟩
abbrev main_call1_call0_call0_v96 : Ref sig .tc := ⟨.hbm, 412, rfl⟩
abbrev main_call1_call0_call0_v97 : Ref sig .tc := ⟨.hbm, 413, rfl⟩
abbrev main_call1_call0_call0_c_25 : Ref sig .tc := ⟨.hbm, 414, rfl⟩
abbrev main_call1_call0_call0_v98 : Ref sig .tc := ⟨.hbm, 415, rfl⟩
abbrev main_call1_call0_call0_v99 : Ref sig .tc := ⟨.hbm, 416, rfl⟩
abbrev main_call1_call0_call0_v100 : Ref sig .tc := ⟨.hbm, 417, rfl⟩
abbrev main_call1_call0_call0_v101 : Ref sig .tc := ⟨.hbm, 418, rfl⟩
abbrev main_call1_call0_call0_v102 : Ref sig .tc := ⟨.hbm, 419, rfl⟩
abbrev main_call1_call0_call0_v103 : Ref sig .tc := ⟨.hbm, 420, rfl⟩
abbrev main_call1_call0_call0_v104 : Ref sig .tc := ⟨.hbm, 421, rfl⟩
abbrev main_call1_call0_call0_v105 : Ref sig .tc := ⟨.hbm, 422, rfl⟩
abbrev main_call1_call0_call0_c_26 : Ref sig .tc := ⟨.hbm, 423, rfl⟩
abbrev main_call1_call0_call0_v106 : Ref sig .tc := ⟨.hbm, 424, rfl⟩
abbrev main_call1_call0_call0_v107 : Ref sig .tc := ⟨.hbm, 425, rfl⟩
abbrev main_call1_call0_call0_v108 : Ref sig .tc := ⟨.hbm, 426, rfl⟩
abbrev main_call1_call0_call0_c_27 : Ref sig .tc := ⟨.hbm, 427, rfl⟩
abbrev main_call1_call0_call0_v109 : Ref sig .tc := ⟨.hbm, 428, rfl⟩
abbrev main_call1_call0_call0_v110 : Ref sig .tc := ⟨.hbm, 429, rfl⟩
abbrev main_call1_call0_call0_c_28 : Ref sig .tc := ⟨.hbm, 430, rfl⟩
abbrev main_call1_call0_call0_v111 : Ref sig .tc := ⟨.hbm, 431, rfl⟩
abbrev main_call1_call0_call0_v112 : Ref sig .tc := ⟨.hbm, 432, rfl⟩
abbrev main_call1_call0_call0_v113 : Ref sig .tc := ⟨.hbm, 433, rfl⟩
abbrev main_call1_call0_call0_v114 : Ref sig .tc := ⟨.hbm, 434, rfl⟩
abbrev main_call1_call0_call0_v115 : Ref sig .tc := ⟨.hbm, 435, rfl⟩
abbrev main_call1_call0_call0_c_29 : Ref sig .tc := ⟨.hbm, 436, rfl⟩
abbrev main_call1_call0_call0_v116 : Ref sig .tc := ⟨.hbm, 437, rfl⟩
abbrev main_call1_call0_call0_v117 : Ref sig .tc := ⟨.hbm, 438, rfl⟩
abbrev main_call1_call0_call0_c_30 : Ref sig .tc := ⟨.hbm, 439, rfl⟩
abbrev main_call1_call0_call0_v118 : Ref sig .tc := ⟨.hbm, 440, rfl⟩
abbrev main_call1_call0_call0_v119 : Ref sig .tc := ⟨.hbm, 441, rfl⟩
abbrev main_call1_call0_call0_v120 : Ref sig .tc := ⟨.hbm, 442, rfl⟩
abbrev main_call1_call0_call0_v121 : Ref sig .tc := ⟨.hbm, 443, rfl⟩
abbrev main_call1_call0_call0_v122 : Ref sig .tc := ⟨.hbm, 444, rfl⟩
abbrev main_call1_call0_call0_c_31 : Ref sig .tc := ⟨.hbm, 445, rfl⟩
abbrev main_call1_call0_call0_v123 : Ref sig .tc := ⟨.hbm, 446, rfl⟩
abbrev main_call1_call0_call0_v124 : Ref sig .tc := ⟨.hbm, 447, rfl⟩
abbrev main_call1_call0_call0_c_32 : Ref sig .tc := ⟨.hbm, 448, rfl⟩
abbrev main_call1_call0_call0_v125 : Ref sig .tc := ⟨.hbm, 449, rfl⟩
abbrev main_call1_call0_call0_v126 : Ref sig .tc := ⟨.hbm, 450, rfl⟩
abbrev main_call1_call0_call0_v127 : Ref sig .tc := ⟨.hbm, 451, rfl⟩
abbrev main_call1_call0_call0_v128 : Ref sig .tc := ⟨.hbm, 452, rfl⟩
abbrev main_call1_call0_call0_v129 : Ref sig .tc := ⟨.hbm, 453, rfl⟩
abbrev main_call1_call0_call0_c_33 : Ref sig .tc := ⟨.hbm, 454, rfl⟩
abbrev main_call1_call0_call0_v130 : Ref sig .tc := ⟨.hbm, 455, rfl⟩
abbrev main_call1_call0_call0_v131 : Ref sig .tc := ⟨.hbm, 456, rfl⟩
abbrev main_call1_call0_call0_c_34 : Ref sig .tc := ⟨.hbm, 457, rfl⟩
abbrev main_call1_call0_call0_v132 : Ref sig .tc := ⟨.hbm, 458, rfl⟩
abbrev main_call1_call0_call0_v133 : Ref sig .tc := ⟨.hbm, 459, rfl⟩
abbrev main_call1_call0_call0_v134 : Ref sig .tc := ⟨.hbm, 460, rfl⟩
abbrev main_call1_call0_call0_v135 : Ref sig .tc := ⟨.hbm, 461, rfl⟩
abbrev main_call1_call0_call0_v136 : Ref sig .tc := ⟨.hbm, 462, rfl⟩
abbrev main_call1_call0_call0_v137 : Ref sig .tc := ⟨.hbm, 463, rfl⟩
abbrev main_call1_call0_call0_v138 : Ref sig .tc := ⟨.hbm, 464, rfl⟩
abbrev main_call1_call0_call0_v139 : Ref sig .tc := ⟨.hbm, 465, rfl⟩
abbrev main_call1_call0_call0_c_35 : Ref sig .tc := ⟨.hbm, 466, rfl⟩
abbrev main_call1_call0_call0_v140 : Ref sig .tc := ⟨.hbm, 467, rfl⟩
abbrev main_call1_call0_call0_v141 : Ref sig .tc := ⟨.hbm, 468, rfl⟩
abbrev main_call1_call0_call0_v142 : Ref sig .tc := ⟨.hbm, 469, rfl⟩
abbrev main_call1_call0_call0_c_36 : Ref sig .tc := ⟨.hbm, 470, rfl⟩
abbrev main_call1_call0_call0_v143 : Ref sig .tc := ⟨.hbm, 471, rfl⟩
abbrev main_call1_call0_call0_v144 : Ref sig .tc := ⟨.hbm, 472, rfl⟩
abbrev main_call1_call0_call0_c_37 : Ref sig .tc := ⟨.hbm, 473, rfl⟩
abbrev main_call1_call0_call0_v145 : Ref sig .tc := ⟨.hbm, 474, rfl⟩
abbrev main_call1_call0_call0_v146 : Ref sig .tc := ⟨.hbm, 475, rfl⟩
abbrev main_call1_call0_call0_v147 : Ref sig .tc := ⟨.hbm, 476, rfl⟩
abbrev main_call1_call0_call0_v148 : Ref sig .tc := ⟨.hbm, 477, rfl⟩
abbrev main_call1_call0_call0_v149 : Ref sig .tc := ⟨.hbm, 478, rfl⟩
abbrev main_call1_call0_call0_c_38 : Ref sig .tc := ⟨.hbm, 479, rfl⟩
abbrev main_call1_call0_call0_v150 : Ref sig .tc := ⟨.hbm, 480, rfl⟩
abbrev main_call1_call0_call0_v151 : Ref sig .tc := ⟨.hbm, 481, rfl⟩
abbrev main_call1_call0_call0_c_39 : Ref sig .tc := ⟨.hbm, 482, rfl⟩
abbrev main_call1_call0_call0_v152 : Ref sig .tc := ⟨.hbm, 483, rfl⟩
abbrev main_call1_call0_call0_v153 : Ref sig .tc := ⟨.hbm, 484, rfl⟩
abbrev main_call1_call0_call0_v154 : Ref sig .tc := ⟨.hbm, 485, rfl⟩
abbrev main_call1_call0_call0_v155 : Ref sig .tc := ⟨.hbm, 486, rfl⟩
abbrev main_call1_call0_call0_v156 : Ref sig .tc := ⟨.hbm, 487, rfl⟩
abbrev main_call1_call0_call0_c_40 : Ref sig .tc := ⟨.hbm, 488, rfl⟩
abbrev main_call1_call0_call0_v157 : Ref sig .tc := ⟨.hbm, 489, rfl⟩
abbrev main_call1_call0_call0_v158 : Ref sig .tc := ⟨.hbm, 490, rfl⟩
abbrev main_call1_call0_call0_c_41 : Ref sig .tc := ⟨.hbm, 491, rfl⟩
abbrev main_call1_call0_call0_v159 : Ref sig .tc := ⟨.hbm, 492, rfl⟩
abbrev main_call1_call0_call0_v160 : Ref sig .tc := ⟨.hbm, 493, rfl⟩
abbrev main_call1_call0_call0_v161 : Ref sig .tc := ⟨.hbm, 494, rfl⟩
abbrev main_call1_call0_call0_v162 : Ref sig .tc := ⟨.hbm, 495, rfl⟩
abbrev main_call1_call0_call0_v163 : Ref sig .tc := ⟨.hbm, 496, rfl⟩
abbrev main_call1_call0_call0_c_42 : Ref sig .tc := ⟨.hbm, 497, rfl⟩
abbrev main_call1_call0_call0_v164 : Ref sig .tc := ⟨.hbm, 498, rfl⟩
abbrev main_call1_call0_call0_v165 : Ref sig .tc := ⟨.hbm, 499, rfl⟩
abbrev main_call1_call0_call0_c_43 : Ref sig .tc := ⟨.hbm, 500, rfl⟩
abbrev main_call1_call0_call0_v166 : Ref sig .tc := ⟨.hbm, 501, rfl⟩
abbrev main_call1_call0_call0_v167 : Ref sig .tc := ⟨.hbm, 502, rfl⟩
abbrev main_call1_call0_call0_v168 : Ref sig .tc := ⟨.hbm, 503, rfl⟩
abbrev main_call1_call0_call0_v169 : Ref sig .tc := ⟨.hbm, 504, rfl⟩
abbrev main_call1_call0_call0_v170 : Ref sig .tc := ⟨.hbm, 505, rfl⟩
abbrev main_call1_call0_v26_0 : Ref sig .tc := ⟨.hbm, 506, rfl⟩
abbrev main_call1_call0_call0_v172 : Ref sig .tc := ⟨.hbm, 507, rfl⟩
abbrev main_call1_call0_call0_v173 : Ref sig .tc := ⟨.hbm, 508, rfl⟩
abbrev main_call1_call0_call0_c_44 : Ref sig .tc := ⟨.hbm, 509, rfl⟩
abbrev main_call1_call0_call0_v174 : Ref sig .tc := ⟨.hbm, 510, rfl⟩
abbrev main_call1_call0_v26_1 : Ref sig .tc := ⟨.hbm, 511, rfl⟩
abbrev main_call1_call0_v27 : Ref sig .tc := ⟨.hbm, 512, rfl⟩
abbrev main_call1_call0_c_4 : Ref sig .tc := ⟨.hbm, 513, rfl⟩
abbrev main_call1_call0_v28 : Ref sig .tc := ⟨.hbm, 514, rfl⟩
abbrev main_call1_call0_v29 : Ref sig .tc := ⟨.hbm, 515, rfl⟩
abbrev main_call1_call0_c_5 : Ref sig .tc := ⟨.hbm, 516, rfl⟩
abbrev main_call1_call0_v30 : Ref sig .tc := ⟨.hbm, 517, rfl⟩
abbrev main_call1_call0_v31 : Ref sig .tc := ⟨.hbm, 518, rfl⟩
abbrev main_call1_call0_v32 : Ref sig .tc := ⟨.hbm, 519, rfl⟩
abbrev main_call1_call0_cst : Ref sig .tc := ⟨.hbm, 520, rfl⟩
abbrev main_call1_call0_v33 : Ref sig .tc := ⟨.hbm, 521, rfl⟩
abbrev main_call1_call0_v34 : Ref sig .tc := ⟨.hbm, 522, rfl⟩
abbrev main_call1_call0_v35 : Ref sig .tc := ⟨.hbm, 523, rfl⟩
abbrev main_call1_call0_v36 : Ref sig .tc := ⟨.hbm, 524, rfl⟩
abbrev main_call1_call0_v37 : Ref sig .tc := ⟨.hbm, 525, rfl⟩
abbrev main_call1_call0_v38 : Ref sig .tc := ⟨.hbm, 526, rfl⟩
abbrev main_call1_call0_v39 : Ref sig .tc := ⟨.hbm, 527, rfl⟩
abbrev main_call1_call0_v40 : Ref sig .tc := ⟨.hbm, 528, rfl⟩
abbrev main_call1_v0 : Ref sig .tc := ⟨.hbm, 529, rfl⟩
abbrev main_call1_v1 : Ref sig .tc := ⟨.hbm, 530, rfl⟩
abbrev main_call1_v2 : Ref sig .tc := ⟨.hbm, 531, rfl⟩
abbrev main_call1_v3 : Ref sig .tc := ⟨.hbm, 532, rfl⟩
abbrev main_v14 : Ref sig .tc := ⟨.hbm, 533, rfl⟩
abbrev main_v15 : Ref sig .tc := ⟨.hbm, 534, rfl⟩
abbrev main_v16 : Ref sig .tc := ⟨.hbm, 535, rfl⟩
abbrev main_call2_v0 : Ref sig .tc := ⟨.hbm, 536, rfl⟩
abbrev main_call2_cst : Ref sig .tc := ⟨.hbm, 537, rfl⟩
abbrev main_call2_c : Ref sig .tc := ⟨.hbm, 538, rfl⟩
abbrev main_call2_v1_0 : Ref sig .tc := ⟨.hbm, 539, rfl⟩
abbrev main_v17 : Ref sig .tc := ⟨.hbm, 540, rfl⟩
abbrev main_c_2 : Ref sig .tc := ⟨.hbm, 541, rfl⟩
abbrev main_v18 : Ref sig .tc := ⟨.hbm, 542, rfl⟩
abbrev main_v19 : Ref sig .tc := ⟨.hbm, 543, rfl⟩
abbrev main_c_3 : Ref sig .tc := ⟨.hbm, 544, rfl⟩
abbrev main_v20 : Ref sig .tc := ⟨.hbm, 545, rfl⟩
abbrev main_c_4 : Ref sig .tc := ⟨.hbm, 546, rfl⟩
abbrev main_c_5 : Ref sig .tc := ⟨.hbm, 547, rfl⟩
abbrev main_call3_c : Ref sig .tc := ⟨.hbm, 548, rfl⟩
abbrev main_call3_c_0 : Ref sig .tc := ⟨.hbm, 549, rfl⟩
abbrev main_call3_c_1 : Ref sig .tc := ⟨.hbm, 550, rfl⟩
abbrev main_call3_call0_v0 : Ref sig .tc := ⟨.hbm, 551, rfl⟩
abbrev main_call3_v0 : Ref sig .tc := ⟨.hbm, 552, rfl⟩
abbrev main_call3_v1 : Ref sig .tc := ⟨.hbm, 553, rfl⟩
abbrev main_call3_c_2 : Ref sig .tc := ⟨.hbm, 554, rfl⟩
abbrev main_call3_c_3 : Ref sig .tc := ⟨.hbm, 555, rfl⟩
abbrev main_call3_call1_v0 : Ref sig .tc := ⟨.hbm, 556, rfl⟩
abbrev main_call3_v2 : Ref sig .tc := ⟨.hbm, 557, rfl⟩
abbrev main_call3_v3 : Ref sig .tc := ⟨.hbm, 558, rfl⟩
abbrev main_call3_c_4 : Ref sig .tc := ⟨.hbm, 559, rfl⟩
abbrev main_call3_c_5 : Ref sig .tc := ⟨.hbm, 560, rfl⟩
abbrev main_call3_call2_v0 : Ref sig .tc := ⟨.hbm, 561, rfl⟩
abbrev main_call3_v4 : Ref sig .tc := ⟨.hbm, 562, rfl⟩
abbrev main_call3_v5 : Ref sig .tc := ⟨.hbm, 563, rfl⟩
abbrev main_call3_v6 : Ref sig .tc := ⟨.hbm, 564, rfl⟩
abbrev main_call3_v7 : Ref sig .tc := ⟨.hbm, 565, rfl⟩
abbrev main_call3_call3_v0 : Ref sig .tc := ⟨.hbm, 566, rfl⟩
abbrev main_call3_call3_v1 : Ref sig .tc := ⟨.hbm, 567, rfl⟩
abbrev main_call3_call3_v2 : Ref sig .tc := ⟨.hbm, 568, rfl⟩
abbrev main_call3_call3_v3 : Ref sig .tc := ⟨.hbm, 569, rfl⟩
abbrev main_call3_call3_v4 : Ref sig .tc := ⟨.hbm, 570, rfl⟩
abbrev main_call3_call3_c : Ref sig .tc := ⟨.hbm, 571, rfl⟩
abbrev main_call3_call3_v5 : Ref sig .tc := ⟨.hbm, 572, rfl⟩
abbrev main_call3_call3_v6 : Ref sig .tc := ⟨.hbm, 573, rfl⟩
abbrev main_call3_call3_c_0 : Ref sig .tc := ⟨.hbm, 574, rfl⟩
abbrev main_call3_call3_v7 : Ref sig .tc := ⟨.hbm, 575, rfl⟩
abbrev main_call3_call3_v8 : Ref sig .tc := ⟨.hbm, 576, rfl⟩
abbrev main_call3_call3_v9 : Ref sig .tc := ⟨.hbm, 577, rfl⟩
abbrev main_call3_call3_v10 : Ref sig .tc := ⟨.hbm, 578, rfl⟩
abbrev main_call3_call3_call0_v0 : Ref sig .tc := ⟨.hbm, 579, rfl⟩
abbrev main_call3_call3_call0_c : Ref sig .tc := ⟨.hbm, 580, rfl⟩
abbrev main_call3_call3_call0_v1 : Ref sig .tc := ⟨.hbm, 581, rfl⟩
abbrev main_call3_call3_call0_v2 : Ref sig .tc := ⟨.hbm, 582, rfl⟩
abbrev main_call3_call3_call0_v3 : Ref sig .tc := ⟨.hbm, 583, rfl⟩
abbrev main_call3_call3_call0_v4 : Ref sig .tc := ⟨.hbm, 584, rfl⟩
abbrev main_call3_call3_call0_v5 : Ref sig .tc := ⟨.hbm, 585, rfl⟩
abbrev main_call3_call3_call0_v6 : Ref sig .tc := ⟨.hbm, 586, rfl⟩
abbrev main_call3_call3_call0_c_0 : Ref sig .tc := ⟨.hbm, 587, rfl⟩
abbrev main_call3_call3_call0_v7 : Ref sig .tc := ⟨.hbm, 588, rfl⟩
abbrev main_call3_call3_call0_v8 : Ref sig .tc := ⟨.hbm, 589, rfl⟩
abbrev main_call3_call3_call0_c_1 : Ref sig .tc := ⟨.hbm, 590, rfl⟩
abbrev main_call3_call3_call0_v9 : Ref sig .tc := ⟨.hbm, 591, rfl⟩
abbrev main_call3_call3_call0_v10 : Ref sig .tc := ⟨.hbm, 592, rfl⟩
abbrev main_call3_call3_call0_v11 : Ref sig .tc := ⟨.hbm, 593, rfl⟩
abbrev main_call3_call3_call0_v12 : Ref sig .tc := ⟨.hbm, 594, rfl⟩
abbrev main_call3_call3_call0_v13 : Ref sig .tc := ⟨.hbm, 595, rfl⟩
abbrev main_call3_call3_call0_c_2 : Ref sig .tc := ⟨.hbm, 596, rfl⟩
abbrev main_call3_call3_call0_v14 : Ref sig .tc := ⟨.hbm, 597, rfl⟩
abbrev main_call3_call3_call0_v15 : Ref sig .tc := ⟨.hbm, 598, rfl⟩
abbrev main_call3_call3_call0_c_3 : Ref sig .tc := ⟨.hbm, 599, rfl⟩
abbrev main_call3_call3_call0_v16 : Ref sig .tc := ⟨.hbm, 600, rfl⟩
abbrev main_call3_call3_call0_v17 : Ref sig .tc := ⟨.hbm, 601, rfl⟩
abbrev main_call3_call3_call0_v18 : Ref sig .tc := ⟨.hbm, 602, rfl⟩
abbrev main_call3_call3_call0_v19 : Ref sig .tc := ⟨.hbm, 603, rfl⟩
abbrev main_call3_call3_call0_v20 : Ref sig .tc := ⟨.hbm, 604, rfl⟩
abbrev main_call3_call3_call0_c_4 : Ref sig .tc := ⟨.hbm, 605, rfl⟩
abbrev main_call3_call3_call0_v21 : Ref sig .tc := ⟨.hbm, 606, rfl⟩
abbrev main_call3_call3_call0_v22 : Ref sig .tc := ⟨.hbm, 607, rfl⟩
abbrev main_call3_call3_call0_c_5 : Ref sig .tc := ⟨.hbm, 608, rfl⟩
abbrev main_call3_call3_call0_v23 : Ref sig .tc := ⟨.hbm, 609, rfl⟩
abbrev main_call3_call3_call0_v24 : Ref sig .tc := ⟨.hbm, 610, rfl⟩
abbrev main_call3_call3_call0_v25 : Ref sig .tc := ⟨.hbm, 611, rfl⟩
abbrev main_call3_call3_call0_v26 : Ref sig .tc := ⟨.hbm, 612, rfl⟩
abbrev main_call3_call3_call0_v27 : Ref sig .tc := ⟨.hbm, 613, rfl⟩
abbrev main_call3_call3_call0_c_6 : Ref sig .tc := ⟨.hbm, 614, rfl⟩
abbrev main_call3_call3_call0_v28 : Ref sig .tc := ⟨.hbm, 615, rfl⟩
abbrev main_call3_call3_call0_v29 : Ref sig .tc := ⟨.hbm, 616, rfl⟩
abbrev main_call3_call3_call0_c_7 : Ref sig .tc := ⟨.hbm, 617, rfl⟩
abbrev main_call3_call3_call0_v30 : Ref sig .tc := ⟨.hbm, 618, rfl⟩
abbrev main_call3_call3_call0_v31 : Ref sig .tc := ⟨.hbm, 619, rfl⟩
abbrev main_call3_call3_call0_v32 : Ref sig .tc := ⟨.hbm, 620, rfl⟩
abbrev main_call3_call3_call0_v33 : Ref sig .tc := ⟨.hbm, 621, rfl⟩
abbrev main_call3_call3_call0_v34 : Ref sig .tc := ⟨.hbm, 622, rfl⟩
abbrev main_call3_call3_call0_v35 : Ref sig .tc := ⟨.hbm, 623, rfl⟩
abbrev main_call3_call3_call0_v36 : Ref sig .tc := ⟨.hbm, 624, rfl⟩
abbrev main_call3_call3_call0_v37 : Ref sig .tc := ⟨.hbm, 625, rfl⟩
abbrev main_call3_call3_call0_c_8 : Ref sig .tc := ⟨.hbm, 626, rfl⟩
abbrev main_call3_call3_call0_v38 : Ref sig .tc := ⟨.hbm, 627, rfl⟩
abbrev main_call3_call3_call0_v39 : Ref sig .tc := ⟨.hbm, 628, rfl⟩
abbrev main_call3_call3_call0_v40 : Ref sig .tc := ⟨.hbm, 629, rfl⟩
abbrev main_call3_call3_call0_c_9 : Ref sig .tc := ⟨.hbm, 630, rfl⟩
abbrev main_call3_call3_call0_v41 : Ref sig .tc := ⟨.hbm, 631, rfl⟩
abbrev main_call3_call3_call0_v42 : Ref sig .tc := ⟨.hbm, 632, rfl⟩
abbrev main_call3_call3_call0_c_10 : Ref sig .tc := ⟨.hbm, 633, rfl⟩
abbrev main_call3_call3_call0_v43 : Ref sig .tc := ⟨.hbm, 634, rfl⟩
abbrev main_call3_call3_call0_v44 : Ref sig .tc := ⟨.hbm, 635, rfl⟩
abbrev main_call3_call3_call0_v45 : Ref sig .tc := ⟨.hbm, 636, rfl⟩
abbrev main_call3_call3_call0_v46 : Ref sig .tc := ⟨.hbm, 637, rfl⟩
abbrev main_call3_call3_call0_v47 : Ref sig .tc := ⟨.hbm, 638, rfl⟩
abbrev main_call3_call3_call0_c_11 : Ref sig .tc := ⟨.hbm, 639, rfl⟩
abbrev main_call3_call3_call0_v48 : Ref sig .tc := ⟨.hbm, 640, rfl⟩
abbrev main_call3_call3_call0_v49 : Ref sig .tc := ⟨.hbm, 641, rfl⟩
abbrev main_call3_call3_call0_c_12 : Ref sig .tc := ⟨.hbm, 642, rfl⟩
abbrev main_call3_call3_call0_v50 : Ref sig .tc := ⟨.hbm, 643, rfl⟩
abbrev main_call3_call3_call0_v51 : Ref sig .tc := ⟨.hbm, 644, rfl⟩
abbrev main_call3_call3_call0_v52 : Ref sig .tc := ⟨.hbm, 645, rfl⟩
abbrev main_call3_call3_call0_v53 : Ref sig .tc := ⟨.hbm, 646, rfl⟩
abbrev main_call3_call3_call0_v54 : Ref sig .tc := ⟨.hbm, 647, rfl⟩
abbrev main_call3_call3_call0_c_13 : Ref sig .tc := ⟨.hbm, 648, rfl⟩
abbrev main_call3_call3_call0_v55 : Ref sig .tc := ⟨.hbm, 649, rfl⟩
abbrev main_call3_call3_call0_v56 : Ref sig .tc := ⟨.hbm, 650, rfl⟩
abbrev main_call3_call3_call0_c_14 : Ref sig .tc := ⟨.hbm, 651, rfl⟩
abbrev main_call3_call3_call0_v57 : Ref sig .tc := ⟨.hbm, 652, rfl⟩
abbrev main_call3_call3_call0_v58 : Ref sig .tc := ⟨.hbm, 653, rfl⟩
abbrev main_call3_call3_call0_v59 : Ref sig .tc := ⟨.hbm, 654, rfl⟩
abbrev main_call3_call3_call0_v60 : Ref sig .tc := ⟨.hbm, 655, rfl⟩
abbrev main_call3_call3_call0_v61 : Ref sig .tc := ⟨.hbm, 656, rfl⟩
abbrev main_call3_call3_call0_c_15 : Ref sig .tc := ⟨.hbm, 657, rfl⟩
abbrev main_call3_call3_call0_v62 : Ref sig .tc := ⟨.hbm, 658, rfl⟩
abbrev main_call3_call3_call0_v63 : Ref sig .tc := ⟨.hbm, 659, rfl⟩
abbrev main_call3_call3_call0_c_16 : Ref sig .tc := ⟨.hbm, 660, rfl⟩
abbrev main_call3_call3_call0_v64 : Ref sig .tc := ⟨.hbm, 661, rfl⟩
abbrev main_call3_call3_call0_v65 : Ref sig .tc := ⟨.hbm, 662, rfl⟩
abbrev main_call3_call3_call0_v66 : Ref sig .tc := ⟨.hbm, 663, rfl⟩
abbrev main_call3_call3_call0_v67 : Ref sig .tc := ⟨.hbm, 664, rfl⟩
abbrev main_call3_call3_call0_v68 : Ref sig .tc := ⟨.hbm, 665, rfl⟩
abbrev main_call3_call3_call0_v69 : Ref sig .tc := ⟨.hbm, 666, rfl⟩
abbrev main_call3_call3_call0_v70 : Ref sig .tc := ⟨.hbm, 667, rfl⟩
abbrev main_call3_call3_call0_v71 : Ref sig .tc := ⟨.hbm, 668, rfl⟩
abbrev main_call3_call3_call0_c_17 : Ref sig .tc := ⟨.hbm, 669, rfl⟩
abbrev main_call3_call3_call0_v72 : Ref sig .tc := ⟨.hbm, 670, rfl⟩
abbrev main_call3_call3_call0_v73 : Ref sig .tc := ⟨.hbm, 671, rfl⟩
abbrev main_call3_call3_call0_v74 : Ref sig .tc := ⟨.hbm, 672, rfl⟩
abbrev main_call3_call3_call0_c_18 : Ref sig .tc := ⟨.hbm, 673, rfl⟩
abbrev main_call3_call3_call0_v75 : Ref sig .tc := ⟨.hbm, 674, rfl⟩
abbrev main_call3_call3_call0_v76 : Ref sig .tc := ⟨.hbm, 675, rfl⟩
abbrev main_call3_call3_call0_c_19 : Ref sig .tc := ⟨.hbm, 676, rfl⟩
abbrev main_call3_call3_call0_v77 : Ref sig .tc := ⟨.hbm, 677, rfl⟩
abbrev main_call3_call3_call0_v78 : Ref sig .tc := ⟨.hbm, 678, rfl⟩
abbrev main_call3_call3_call0_v79 : Ref sig .tc := ⟨.hbm, 679, rfl⟩
abbrev main_call3_call3_call0_v80 : Ref sig .tc := ⟨.hbm, 680, rfl⟩
abbrev main_call3_call3_call0_v81 : Ref sig .tc := ⟨.hbm, 681, rfl⟩
abbrev main_call3_call3_call0_c_20 : Ref sig .tc := ⟨.hbm, 682, rfl⟩
abbrev main_call3_call3_call0_v82 : Ref sig .tc := ⟨.hbm, 683, rfl⟩
abbrev main_call3_call3_call0_v83 : Ref sig .tc := ⟨.hbm, 684, rfl⟩
abbrev main_call3_call3_call0_c_21 : Ref sig .tc := ⟨.hbm, 685, rfl⟩
abbrev main_call3_call3_call0_v84 : Ref sig .tc := ⟨.hbm, 686, rfl⟩
abbrev main_call3_call3_call0_v85 : Ref sig .tc := ⟨.hbm, 687, rfl⟩
abbrev main_call3_call3_call0_v86 : Ref sig .tc := ⟨.hbm, 688, rfl⟩
abbrev main_call3_call3_call0_v87 : Ref sig .tc := ⟨.hbm, 689, rfl⟩
abbrev main_call3_call3_call0_v88 : Ref sig .tc := ⟨.hbm, 690, rfl⟩
abbrev main_call3_call3_call0_c_22 : Ref sig .tc := ⟨.hbm, 691, rfl⟩
abbrev main_call3_call3_call0_v89 : Ref sig .tc := ⟨.hbm, 692, rfl⟩
abbrev main_call3_call3_call0_v90 : Ref sig .tc := ⟨.hbm, 693, rfl⟩
abbrev main_call3_call3_call0_c_23 : Ref sig .tc := ⟨.hbm, 694, rfl⟩
abbrev main_call3_call3_call0_v91 : Ref sig .tc := ⟨.hbm, 695, rfl⟩
abbrev main_call3_call3_call0_v92 : Ref sig .tc := ⟨.hbm, 696, rfl⟩
abbrev main_call3_call3_call0_v93 : Ref sig .tc := ⟨.hbm, 697, rfl⟩
abbrev main_call3_call3_call0_v94 : Ref sig .tc := ⟨.hbm, 698, rfl⟩
abbrev main_call3_call3_call0_v95 : Ref sig .tc := ⟨.hbm, 699, rfl⟩
abbrev main_call3_call3_call0_c_24 : Ref sig .tc := ⟨.hbm, 700, rfl⟩
abbrev main_call3_call3_call0_v96 : Ref sig .tc := ⟨.hbm, 701, rfl⟩
abbrev main_call3_call3_call0_v97 : Ref sig .tc := ⟨.hbm, 702, rfl⟩
abbrev main_call3_call3_call0_c_25 : Ref sig .tc := ⟨.hbm, 703, rfl⟩
abbrev main_call3_call3_call0_v98 : Ref sig .tc := ⟨.hbm, 704, rfl⟩
abbrev main_call3_call3_call0_v99 : Ref sig .tc := ⟨.hbm, 705, rfl⟩
abbrev main_call3_call3_call0_v100 : Ref sig .tc := ⟨.hbm, 706, rfl⟩
abbrev main_call3_call3_call0_v101 : Ref sig .tc := ⟨.hbm, 707, rfl⟩
abbrev main_call3_call3_call0_v102 : Ref sig .tc := ⟨.hbm, 708, rfl⟩
abbrev main_call3_call3_call0_v103 : Ref sig .tc := ⟨.hbm, 709, rfl⟩
abbrev main_call3_call3_call0_v104 : Ref sig .tc := ⟨.hbm, 710, rfl⟩
abbrev main_call3_call3_call0_v105 : Ref sig .tc := ⟨.hbm, 711, rfl⟩
abbrev main_call3_call3_call0_c_26 : Ref sig .tc := ⟨.hbm, 712, rfl⟩
abbrev main_call3_call3_call0_v106 : Ref sig .tc := ⟨.hbm, 713, rfl⟩
abbrev main_call3_call3_call0_v107 : Ref sig .tc := ⟨.hbm, 714, rfl⟩
abbrev main_call3_call3_call0_v108 : Ref sig .tc := ⟨.hbm, 715, rfl⟩
abbrev main_call3_call3_call0_c_27 : Ref sig .tc := ⟨.hbm, 716, rfl⟩
abbrev main_call3_call3_call0_v109 : Ref sig .tc := ⟨.hbm, 717, rfl⟩
abbrev main_call3_call3_call0_v110 : Ref sig .tc := ⟨.hbm, 718, rfl⟩
abbrev main_call3_call3_call0_c_28 : Ref sig .tc := ⟨.hbm, 719, rfl⟩
abbrev main_call3_call3_call0_v111 : Ref sig .tc := ⟨.hbm, 720, rfl⟩
abbrev main_call3_call3_call0_v112 : Ref sig .tc := ⟨.hbm, 721, rfl⟩
abbrev main_call3_call3_call0_v113 : Ref sig .tc := ⟨.hbm, 722, rfl⟩
abbrev main_call3_call3_call0_v114 : Ref sig .tc := ⟨.hbm, 723, rfl⟩
abbrev main_call3_call3_call0_v115 : Ref sig .tc := ⟨.hbm, 724, rfl⟩
abbrev main_call3_call3_call0_c_29 : Ref sig .tc := ⟨.hbm, 725, rfl⟩
abbrev main_call3_call3_call0_v116 : Ref sig .tc := ⟨.hbm, 726, rfl⟩
abbrev main_call3_call3_call0_v117 : Ref sig .tc := ⟨.hbm, 727, rfl⟩
abbrev main_call3_call3_call0_c_30 : Ref sig .tc := ⟨.hbm, 728, rfl⟩
abbrev main_call3_call3_call0_v118 : Ref sig .tc := ⟨.hbm, 729, rfl⟩
abbrev main_call3_call3_call0_v119 : Ref sig .tc := ⟨.hbm, 730, rfl⟩
abbrev main_call3_call3_call0_v120 : Ref sig .tc := ⟨.hbm, 731, rfl⟩
abbrev main_call3_call3_call0_v121 : Ref sig .tc := ⟨.hbm, 732, rfl⟩
abbrev main_call3_call3_call0_v122 : Ref sig .tc := ⟨.hbm, 733, rfl⟩
abbrev main_call3_call3_call0_c_31 : Ref sig .tc := ⟨.hbm, 734, rfl⟩
abbrev main_call3_call3_call0_v123 : Ref sig .tc := ⟨.hbm, 735, rfl⟩
abbrev main_call3_call3_call0_v124 : Ref sig .tc := ⟨.hbm, 736, rfl⟩
abbrev main_call3_call3_call0_c_32 : Ref sig .tc := ⟨.hbm, 737, rfl⟩
abbrev main_call3_call3_call0_v125 : Ref sig .tc := ⟨.hbm, 738, rfl⟩
abbrev main_call3_call3_call0_v126 : Ref sig .tc := ⟨.hbm, 739, rfl⟩
abbrev main_call3_call3_call0_v127 : Ref sig .tc := ⟨.hbm, 740, rfl⟩
abbrev main_call3_call3_call0_v128 : Ref sig .tc := ⟨.hbm, 741, rfl⟩
abbrev main_call3_call3_call0_v129 : Ref sig .tc := ⟨.hbm, 742, rfl⟩
abbrev main_call3_call3_call0_c_33 : Ref sig .tc := ⟨.hbm, 743, rfl⟩
abbrev main_call3_call3_call0_v130 : Ref sig .tc := ⟨.hbm, 744, rfl⟩
abbrev main_call3_call3_call0_v131 : Ref sig .tc := ⟨.hbm, 745, rfl⟩
abbrev main_call3_call3_call0_c_34 : Ref sig .tc := ⟨.hbm, 746, rfl⟩
abbrev main_call3_call3_call0_v132 : Ref sig .tc := ⟨.hbm, 747, rfl⟩
abbrev main_call3_call3_call0_v133 : Ref sig .tc := ⟨.hbm, 748, rfl⟩
abbrev main_call3_call3_call0_v134 : Ref sig .tc := ⟨.hbm, 749, rfl⟩
abbrev main_call3_call3_call0_v135 : Ref sig .tc := ⟨.hbm, 750, rfl⟩
abbrev main_call3_call3_call0_v136 : Ref sig .tc := ⟨.hbm, 751, rfl⟩
abbrev main_call3_call3_call0_v137 : Ref sig .tc := ⟨.hbm, 752, rfl⟩
abbrev main_call3_call3_call0_v138 : Ref sig .tc := ⟨.hbm, 753, rfl⟩
abbrev main_call3_call3_call0_v139 : Ref sig .tc := ⟨.hbm, 754, rfl⟩
abbrev main_call3_call3_call0_c_35 : Ref sig .tc := ⟨.hbm, 755, rfl⟩
abbrev main_call3_call3_call0_v140 : Ref sig .tc := ⟨.hbm, 756, rfl⟩
abbrev main_call3_call3_call0_v141 : Ref sig .tc := ⟨.hbm, 757, rfl⟩
abbrev main_call3_call3_call0_v142 : Ref sig .tc := ⟨.hbm, 758, rfl⟩
abbrev main_call3_call3_call0_c_36 : Ref sig .tc := ⟨.hbm, 759, rfl⟩
abbrev main_call3_call3_call0_v143 : Ref sig .tc := ⟨.hbm, 760, rfl⟩
abbrev main_call3_call3_call0_v144 : Ref sig .tc := ⟨.hbm, 761, rfl⟩
abbrev main_call3_call3_call0_c_37 : Ref sig .tc := ⟨.hbm, 762, rfl⟩
abbrev main_call3_call3_call0_v145 : Ref sig .tc := ⟨.hbm, 763, rfl⟩
abbrev main_call3_call3_call0_v146 : Ref sig .tc := ⟨.hbm, 764, rfl⟩
abbrev main_call3_call3_call0_v147 : Ref sig .tc := ⟨.hbm, 765, rfl⟩
abbrev main_call3_call3_call0_v148 : Ref sig .tc := ⟨.hbm, 766, rfl⟩
abbrev main_call3_call3_call0_v149 : Ref sig .tc := ⟨.hbm, 767, rfl⟩
abbrev main_call3_call3_call0_c_38 : Ref sig .tc := ⟨.hbm, 768, rfl⟩
abbrev main_call3_call3_call0_v150 : Ref sig .tc := ⟨.hbm, 769, rfl⟩
abbrev main_call3_call3_call0_v151 : Ref sig .tc := ⟨.hbm, 770, rfl⟩
abbrev main_call3_call3_call0_c_39 : Ref sig .tc := ⟨.hbm, 771, rfl⟩
abbrev main_call3_call3_call0_v152 : Ref sig .tc := ⟨.hbm, 772, rfl⟩
abbrev main_call3_call3_call0_v153 : Ref sig .tc := ⟨.hbm, 773, rfl⟩
abbrev main_call3_call3_call0_v154 : Ref sig .tc := ⟨.hbm, 774, rfl⟩
abbrev main_call3_call3_call0_v155 : Ref sig .tc := ⟨.hbm, 775, rfl⟩
abbrev main_call3_call3_call0_v156 : Ref sig .tc := ⟨.hbm, 776, rfl⟩
abbrev main_call3_call3_call0_c_40 : Ref sig .tc := ⟨.hbm, 777, rfl⟩
abbrev main_call3_call3_call0_v157 : Ref sig .tc := ⟨.hbm, 778, rfl⟩
abbrev main_call3_call3_call0_v158 : Ref sig .tc := ⟨.hbm, 779, rfl⟩
abbrev main_call3_call3_call0_c_41 : Ref sig .tc := ⟨.hbm, 780, rfl⟩
abbrev main_call3_call3_call0_v159 : Ref sig .tc := ⟨.hbm, 781, rfl⟩
abbrev main_call3_call3_call0_v160 : Ref sig .tc := ⟨.hbm, 782, rfl⟩
abbrev main_call3_call3_call0_v161 : Ref sig .tc := ⟨.hbm, 783, rfl⟩
abbrev main_call3_call3_call0_v162 : Ref sig .tc := ⟨.hbm, 784, rfl⟩
abbrev main_call3_call3_call0_v163 : Ref sig .tc := ⟨.hbm, 785, rfl⟩
abbrev main_call3_call3_call0_c_42 : Ref sig .tc := ⟨.hbm, 786, rfl⟩
abbrev main_call3_call3_call0_v164 : Ref sig .tc := ⟨.hbm, 787, rfl⟩
abbrev main_call3_call3_call0_v165 : Ref sig .tc := ⟨.hbm, 788, rfl⟩
abbrev main_call3_call3_call0_c_43 : Ref sig .tc := ⟨.hbm, 789, rfl⟩
abbrev main_call3_call3_call0_v166 : Ref sig .tc := ⟨.hbm, 790, rfl⟩
abbrev main_call3_call3_call0_v167 : Ref sig .tc := ⟨.hbm, 791, rfl⟩
abbrev main_call3_call3_call0_v168 : Ref sig .tc := ⟨.hbm, 792, rfl⟩
abbrev main_call3_call3_call0_v169 : Ref sig .tc := ⟨.hbm, 793, rfl⟩
abbrev main_call3_call3_call0_v170 : Ref sig .tc := ⟨.hbm, 794, rfl⟩
abbrev main_call3_call3_v11_0 : Ref sig .tc := ⟨.hbm, 795, rfl⟩
abbrev main_call3_call3_call0_v172 : Ref sig .tc := ⟨.hbm, 796, rfl⟩
abbrev main_call3_call3_call0_v173 : Ref sig .tc := ⟨.hbm, 797, rfl⟩
abbrev main_call3_call3_call0_c_44 : Ref sig .tc := ⟨.hbm, 798, rfl⟩
abbrev main_call3_call3_call0_v174 : Ref sig .tc := ⟨.hbm, 799, rfl⟩
abbrev main_call3_call3_v11_1 : Ref sig .tc := ⟨.hbm, 800, rfl⟩
abbrev main_call3_call3_v12 : Ref sig .tc := ⟨.hbm, 801, rfl⟩
abbrev main_call3_call3_v13 : Ref sig .tc := ⟨.hbm, 802, rfl⟩
abbrev main_call3_v8 : Ref sig .tc := ⟨.hbm, 803, rfl⟩
abbrev main_call3_v9 : Ref sig .tc := ⟨.hbm, 804, rfl⟩
abbrev main_call3_v10 : Ref sig .tc := ⟨.hbm, 805, rfl⟩
abbrev main_call3_v11 : Ref sig .tc := ⟨.hbm, 806, rfl⟩
abbrev main_call3_v12 : Ref sig .tc := ⟨.hbm, 807, rfl⟩
abbrev main_call3_v13 : Ref sig .tc := ⟨.hbm, 808, rfl⟩
abbrev main_call3_v14 : Ref sig .tc := ⟨.hbm, 809, rfl⟩
abbrev main_call3_v15 : Ref sig .tc := ⟨.hbm, 810, rfl⟩
abbrev main_call3_v16 : Ref sig .tc := ⟨.hbm, 811, rfl⟩
abbrev main_call3_v17 : Ref sig .tc := ⟨.hbm, 812, rfl⟩
abbrev main_call3_v18 : Ref sig .tc := ⟨.hbm, 813, rfl⟩
abbrev main_call3_c_6 : Ref sig .tc := ⟨.hbm, 814, rfl⟩
abbrev main_call3_v19 : Ref sig .tc := ⟨.hbm, 815, rfl⟩
abbrev main_call3_v20 : Ref sig .tc := ⟨.hbm, 816, rfl⟩
abbrev main_call3_c_7 : Ref sig .tc := ⟨.hbm, 817, rfl⟩
abbrev main_call3_v21 : Ref sig .tc := ⟨.hbm, 818, rfl⟩
abbrev main_call3_v22 : Ref sig .tc := ⟨.hbm, 819, rfl⟩
abbrev main_call3_v23 : Ref sig .tc := ⟨.hbm, 820, rfl⟩
abbrev main_call3_c_8 : Ref sig .tc := ⟨.hbm, 821, rfl⟩
abbrev main_call3_v24 : Ref sig .tc := ⟨.hbm, 822, rfl⟩
abbrev main_call3_v25 : Ref sig .tc := ⟨.hbm, 823, rfl⟩
abbrev main_call3_v26 : Ref sig .tc := ⟨.hbm, 824, rfl⟩
abbrev main_call3_v27 : Ref sig .tc := ⟨.hbm, 825, rfl⟩
abbrev main_call3_call4_v0 : Ref sig .tc := ⟨.hbm, 826, rfl⟩
abbrev main_call3_call4_c : Ref sig .tc := ⟨.hbm, 827, rfl⟩
abbrev main_call3_call4_v1 : Ref sig .tc := ⟨.hbm, 828, rfl⟩
abbrev main_call3_call4_v2 : Ref sig .tc := ⟨.hbm, 829, rfl⟩
abbrev main_call3_call4_v3 : Ref sig .tc := ⟨.hbm, 830, rfl⟩
abbrev main_call3_call4_v4 : Ref sig .tc := ⟨.hbm, 831, rfl⟩
abbrev main_call3_call4_v5 : Ref sig .tc := ⟨.hbm, 832, rfl⟩
abbrev main_call3_call4_v6 : Ref sig .tc := ⟨.hbm, 833, rfl⟩
abbrev main_call3_call4_c_0 : Ref sig .tc := ⟨.hbm, 834, rfl⟩
abbrev main_call3_call4_v7 : Ref sig .tc := ⟨.hbm, 835, rfl⟩
abbrev main_call3_call4_v8 : Ref sig .tc := ⟨.hbm, 836, rfl⟩
abbrev main_call3_call4_c_1 : Ref sig .tc := ⟨.hbm, 837, rfl⟩
abbrev main_call3_call4_v9 : Ref sig .tc := ⟨.hbm, 838, rfl⟩
abbrev main_call3_call4_v10 : Ref sig .tc := ⟨.hbm, 839, rfl⟩
abbrev main_call3_call4_v11 : Ref sig .tc := ⟨.hbm, 840, rfl⟩
abbrev main_call3_call4_v12 : Ref sig .tc := ⟨.hbm, 841, rfl⟩
abbrev main_call3_call4_v13 : Ref sig .tc := ⟨.hbm, 842, rfl⟩
abbrev main_call3_call4_c_2 : Ref sig .tc := ⟨.hbm, 843, rfl⟩
abbrev main_call3_call4_v14 : Ref sig .tc := ⟨.hbm, 844, rfl⟩
abbrev main_call3_call4_v15 : Ref sig .tc := ⟨.hbm, 845, rfl⟩
abbrev main_call3_call4_c_3 : Ref sig .tc := ⟨.hbm, 846, rfl⟩
abbrev main_call3_call4_v16 : Ref sig .tc := ⟨.hbm, 847, rfl⟩
abbrev main_call3_call4_v17 : Ref sig .tc := ⟨.hbm, 848, rfl⟩
abbrev main_call3_call4_v18 : Ref sig .tc := ⟨.hbm, 849, rfl⟩
abbrev main_call3_call4_v19 : Ref sig .tc := ⟨.hbm, 850, rfl⟩
abbrev main_call3_call4_v20 : Ref sig .tc := ⟨.hbm, 851, rfl⟩
abbrev main_call3_call4_c_4 : Ref sig .tc := ⟨.hbm, 852, rfl⟩
abbrev main_call3_call4_v21 : Ref sig .tc := ⟨.hbm, 853, rfl⟩
abbrev main_call3_call4_v22 : Ref sig .tc := ⟨.hbm, 854, rfl⟩
abbrev main_call3_call4_c_5 : Ref sig .tc := ⟨.hbm, 855, rfl⟩
abbrev main_call3_call4_v23 : Ref sig .tc := ⟨.hbm, 856, rfl⟩
abbrev main_call3_call4_v24 : Ref sig .tc := ⟨.hbm, 857, rfl⟩
abbrev main_call3_call4_v25 : Ref sig .tc := ⟨.hbm, 858, rfl⟩
abbrev main_call3_call4_v26 : Ref sig .tc := ⟨.hbm, 859, rfl⟩
abbrev main_call3_call4_v27 : Ref sig .tc := ⟨.hbm, 860, rfl⟩
abbrev main_call3_call4_c_6 : Ref sig .tc := ⟨.hbm, 861, rfl⟩
abbrev main_call3_call4_v28 : Ref sig .tc := ⟨.hbm, 862, rfl⟩
abbrev main_call3_call4_v29 : Ref sig .tc := ⟨.hbm, 863, rfl⟩
abbrev main_call3_call4_c_7 : Ref sig .tc := ⟨.hbm, 864, rfl⟩
abbrev main_call3_call4_v30 : Ref sig .tc := ⟨.hbm, 865, rfl⟩
abbrev main_call3_call4_v31 : Ref sig .tc := ⟨.hbm, 866, rfl⟩
abbrev main_call3_call4_v32 : Ref sig .tc := ⟨.hbm, 867, rfl⟩
abbrev main_call3_call4_v33 : Ref sig .tc := ⟨.hbm, 868, rfl⟩
abbrev main_call3_call4_v34 : Ref sig .tc := ⟨.hbm, 869, rfl⟩
abbrev main_call3_call4_v35 : Ref sig .tc := ⟨.hbm, 870, rfl⟩
abbrev main_call3_call4_v36 : Ref sig .tc := ⟨.hbm, 871, rfl⟩
abbrev main_call3_call4_v37 : Ref sig .tc := ⟨.hbm, 872, rfl⟩
abbrev main_call3_call4_c_8 : Ref sig .tc := ⟨.hbm, 873, rfl⟩
abbrev main_call3_call4_v38 : Ref sig .tc := ⟨.hbm, 874, rfl⟩
abbrev main_call3_call4_v39 : Ref sig .tc := ⟨.hbm, 875, rfl⟩
abbrev main_call3_call4_v40 : Ref sig .tc := ⟨.hbm, 876, rfl⟩
abbrev main_call3_call4_c_9 : Ref sig .tc := ⟨.hbm, 877, rfl⟩
abbrev main_call3_call4_v41 : Ref sig .tc := ⟨.hbm, 878, rfl⟩
abbrev main_call3_call4_v42 : Ref sig .tc := ⟨.hbm, 879, rfl⟩
abbrev main_call3_call4_c_10 : Ref sig .tc := ⟨.hbm, 880, rfl⟩
abbrev main_call3_call4_v43 : Ref sig .tc := ⟨.hbm, 881, rfl⟩
abbrev main_call3_call4_v44 : Ref sig .tc := ⟨.hbm, 882, rfl⟩
abbrev main_call3_call4_v45 : Ref sig .tc := ⟨.hbm, 883, rfl⟩
abbrev main_call3_call4_v46 : Ref sig .tc := ⟨.hbm, 884, rfl⟩
abbrev main_call3_call4_v47 : Ref sig .tc := ⟨.hbm, 885, rfl⟩
abbrev main_call3_call4_c_11 : Ref sig .tc := ⟨.hbm, 886, rfl⟩
abbrev main_call3_call4_v48 : Ref sig .tc := ⟨.hbm, 887, rfl⟩
abbrev main_call3_call4_v49 : Ref sig .tc := ⟨.hbm, 888, rfl⟩
abbrev main_call3_call4_c_12 : Ref sig .tc := ⟨.hbm, 889, rfl⟩
abbrev main_call3_call4_v50 : Ref sig .tc := ⟨.hbm, 890, rfl⟩
abbrev main_call3_call4_v51 : Ref sig .tc := ⟨.hbm, 891, rfl⟩
abbrev main_call3_call4_v52 : Ref sig .tc := ⟨.hbm, 892, rfl⟩
abbrev main_call3_call4_v53 : Ref sig .tc := ⟨.hbm, 893, rfl⟩
abbrev main_call3_call4_v54 : Ref sig .tc := ⟨.hbm, 894, rfl⟩
abbrev main_call3_call4_c_13 : Ref sig .tc := ⟨.hbm, 895, rfl⟩
abbrev main_call3_call4_v55 : Ref sig .tc := ⟨.hbm, 896, rfl⟩
abbrev main_call3_call4_v56 : Ref sig .tc := ⟨.hbm, 897, rfl⟩
abbrev main_call3_call4_c_14 : Ref sig .tc := ⟨.hbm, 898, rfl⟩
abbrev main_call3_call4_v57 : Ref sig .tc := ⟨.hbm, 899, rfl⟩
abbrev main_call3_call4_v58 : Ref sig .tc := ⟨.hbm, 900, rfl⟩
abbrev main_call3_call4_v59 : Ref sig .tc := ⟨.hbm, 901, rfl⟩
abbrev main_call3_call4_v60 : Ref sig .tc := ⟨.hbm, 902, rfl⟩
abbrev main_call3_call4_v61 : Ref sig .tc := ⟨.hbm, 903, rfl⟩
abbrev main_call3_call4_c_15 : Ref sig .tc := ⟨.hbm, 904, rfl⟩
abbrev main_call3_call4_v62 : Ref sig .tc := ⟨.hbm, 905, rfl⟩
abbrev main_call3_call4_v63 : Ref sig .tc := ⟨.hbm, 906, rfl⟩
abbrev main_call3_call4_c_16 : Ref sig .tc := ⟨.hbm, 907, rfl⟩
abbrev main_call3_call4_v64 : Ref sig .tc := ⟨.hbm, 908, rfl⟩
abbrev main_call3_call4_v65 : Ref sig .tc := ⟨.hbm, 909, rfl⟩
abbrev main_call3_call4_v66 : Ref sig .tc := ⟨.hbm, 910, rfl⟩
abbrev main_call3_call4_v67 : Ref sig .tc := ⟨.hbm, 911, rfl⟩
abbrev main_call3_call4_v68 : Ref sig .tc := ⟨.hbm, 912, rfl⟩
abbrev main_call3_call4_v69 : Ref sig .tc := ⟨.hbm, 913, rfl⟩
abbrev main_call3_call4_v70 : Ref sig .tc := ⟨.hbm, 914, rfl⟩
abbrev main_call3_call4_v71 : Ref sig .tc := ⟨.hbm, 915, rfl⟩
abbrev main_call3_call4_c_17 : Ref sig .tc := ⟨.hbm, 916, rfl⟩
abbrev main_call3_call4_v72 : Ref sig .tc := ⟨.hbm, 917, rfl⟩
abbrev main_call3_call4_v73 : Ref sig .tc := ⟨.hbm, 918, rfl⟩
abbrev main_call3_call4_v74 : Ref sig .tc := ⟨.hbm, 919, rfl⟩
abbrev main_call3_call4_c_18 : Ref sig .tc := ⟨.hbm, 920, rfl⟩
abbrev main_call3_call4_v75 : Ref sig .tc := ⟨.hbm, 921, rfl⟩
abbrev main_call3_call4_v76 : Ref sig .tc := ⟨.hbm, 922, rfl⟩
abbrev main_call3_call4_c_19 : Ref sig .tc := ⟨.hbm, 923, rfl⟩
abbrev main_call3_call4_v77 : Ref sig .tc := ⟨.hbm, 924, rfl⟩
abbrev main_call3_call4_v78 : Ref sig .tc := ⟨.hbm, 925, rfl⟩
abbrev main_call3_call4_v79 : Ref sig .tc := ⟨.hbm, 926, rfl⟩
abbrev main_call3_call4_v80 : Ref sig .tc := ⟨.hbm, 927, rfl⟩
abbrev main_call3_call4_v81 : Ref sig .tc := ⟨.hbm, 928, rfl⟩
abbrev main_call3_call4_c_20 : Ref sig .tc := ⟨.hbm, 929, rfl⟩
abbrev main_call3_call4_v82 : Ref sig .tc := ⟨.hbm, 930, rfl⟩
abbrev main_call3_call4_v83 : Ref sig .tc := ⟨.hbm, 931, rfl⟩
abbrev main_call3_call4_c_21 : Ref sig .tc := ⟨.hbm, 932, rfl⟩
abbrev main_call3_call4_v84 : Ref sig .tc := ⟨.hbm, 933, rfl⟩
abbrev main_call3_call4_v85 : Ref sig .tc := ⟨.hbm, 934, rfl⟩
abbrev main_call3_call4_v86 : Ref sig .tc := ⟨.hbm, 935, rfl⟩
abbrev main_call3_call4_v87 : Ref sig .tc := ⟨.hbm, 936, rfl⟩
abbrev main_call3_call4_v88 : Ref sig .tc := ⟨.hbm, 937, rfl⟩
abbrev main_call3_call4_c_22 : Ref sig .tc := ⟨.hbm, 938, rfl⟩
abbrev main_call3_call4_v89 : Ref sig .tc := ⟨.hbm, 939, rfl⟩
abbrev main_call3_call4_v90 : Ref sig .tc := ⟨.hbm, 940, rfl⟩
abbrev main_call3_call4_c_23 : Ref sig .tc := ⟨.hbm, 941, rfl⟩
abbrev main_call3_call4_v91 : Ref sig .tc := ⟨.hbm, 942, rfl⟩
abbrev main_call3_call4_v92 : Ref sig .tc := ⟨.hbm, 943, rfl⟩
abbrev main_call3_call4_v93 : Ref sig .tc := ⟨.hbm, 944, rfl⟩
abbrev main_call3_call4_v94 : Ref sig .tc := ⟨.hbm, 945, rfl⟩
abbrev main_call3_call4_v95 : Ref sig .tc := ⟨.hbm, 946, rfl⟩
abbrev main_call3_call4_c_24 : Ref sig .tc := ⟨.hbm, 947, rfl⟩
abbrev main_call3_call4_v96 : Ref sig .tc := ⟨.hbm, 948, rfl⟩
abbrev main_call3_call4_v97 : Ref sig .tc := ⟨.hbm, 949, rfl⟩
abbrev main_call3_call4_c_25 : Ref sig .tc := ⟨.hbm, 950, rfl⟩
abbrev main_call3_call4_v98 : Ref sig .tc := ⟨.hbm, 951, rfl⟩
abbrev main_call3_call4_v99 : Ref sig .tc := ⟨.hbm, 952, rfl⟩
abbrev main_call3_call4_v100 : Ref sig .tc := ⟨.hbm, 953, rfl⟩
abbrev main_call3_call4_v101 : Ref sig .tc := ⟨.hbm, 954, rfl⟩
abbrev main_call3_call4_v102 : Ref sig .tc := ⟨.hbm, 955, rfl⟩
abbrev main_call3_call4_v103 : Ref sig .tc := ⟨.hbm, 956, rfl⟩
abbrev main_call3_call4_v104 : Ref sig .tc := ⟨.hbm, 957, rfl⟩
abbrev main_call3_call4_v105 : Ref sig .tc := ⟨.hbm, 958, rfl⟩
abbrev main_call3_call4_c_26 : Ref sig .tc := ⟨.hbm, 959, rfl⟩
abbrev main_call3_call4_v106 : Ref sig .tc := ⟨.hbm, 960, rfl⟩
abbrev main_call3_call4_v107 : Ref sig .tc := ⟨.hbm, 961, rfl⟩
abbrev main_call3_call4_v108 : Ref sig .tc := ⟨.hbm, 962, rfl⟩
abbrev main_call3_call4_c_27 : Ref sig .tc := ⟨.hbm, 963, rfl⟩
abbrev main_call3_call4_v109 : Ref sig .tc := ⟨.hbm, 964, rfl⟩
abbrev main_call3_call4_v110 : Ref sig .tc := ⟨.hbm, 965, rfl⟩
abbrev main_call3_call4_c_28 : Ref sig .tc := ⟨.hbm, 966, rfl⟩
abbrev main_call3_call4_v111 : Ref sig .tc := ⟨.hbm, 967, rfl⟩
abbrev main_call3_call4_v112 : Ref sig .tc := ⟨.hbm, 968, rfl⟩
abbrev main_call3_call4_v113 : Ref sig .tc := ⟨.hbm, 969, rfl⟩
abbrev main_call3_call4_v114 : Ref sig .tc := ⟨.hbm, 970, rfl⟩
abbrev main_call3_call4_v115 : Ref sig .tc := ⟨.hbm, 971, rfl⟩
abbrev main_call3_call4_c_29 : Ref sig .tc := ⟨.hbm, 972, rfl⟩
abbrev main_call3_call4_v116 : Ref sig .tc := ⟨.hbm, 973, rfl⟩
abbrev main_call3_call4_v117 : Ref sig .tc := ⟨.hbm, 974, rfl⟩
abbrev main_call3_call4_c_30 : Ref sig .tc := ⟨.hbm, 975, rfl⟩
abbrev main_call3_call4_v118 : Ref sig .tc := ⟨.hbm, 976, rfl⟩
abbrev main_call3_call4_v119 : Ref sig .tc := ⟨.hbm, 977, rfl⟩
abbrev main_call3_call4_v120 : Ref sig .tc := ⟨.hbm, 978, rfl⟩
abbrev main_call3_call4_v121 : Ref sig .tc := ⟨.hbm, 979, rfl⟩
abbrev main_call3_call4_v122 : Ref sig .tc := ⟨.hbm, 980, rfl⟩
abbrev main_call3_call4_c_31 : Ref sig .tc := ⟨.hbm, 981, rfl⟩
abbrev main_call3_call4_v123 : Ref sig .tc := ⟨.hbm, 982, rfl⟩
abbrev main_call3_call4_v124 : Ref sig .tc := ⟨.hbm, 983, rfl⟩
abbrev main_call3_call4_c_32 : Ref sig .tc := ⟨.hbm, 984, rfl⟩
abbrev main_call3_call4_v125 : Ref sig .tc := ⟨.hbm, 985, rfl⟩
abbrev main_call3_call4_v126 : Ref sig .tc := ⟨.hbm, 986, rfl⟩
abbrev main_call3_call4_v127 : Ref sig .tc := ⟨.hbm, 987, rfl⟩
abbrev main_call3_call4_v128 : Ref sig .tc := ⟨.hbm, 988, rfl⟩
abbrev main_call3_call4_v129 : Ref sig .tc := ⟨.hbm, 989, rfl⟩
abbrev main_call3_call4_c_33 : Ref sig .tc := ⟨.hbm, 990, rfl⟩
abbrev main_call3_call4_v130 : Ref sig .tc := ⟨.hbm, 991, rfl⟩
abbrev main_call3_call4_v131 : Ref sig .tc := ⟨.hbm, 992, rfl⟩
abbrev main_call3_call4_c_34 : Ref sig .tc := ⟨.hbm, 993, rfl⟩
abbrev main_call3_call4_v132 : Ref sig .tc := ⟨.hbm, 994, rfl⟩
abbrev main_call3_call4_v133 : Ref sig .tc := ⟨.hbm, 995, rfl⟩
abbrev main_call3_call4_v134 : Ref sig .tc := ⟨.hbm, 996, rfl⟩
abbrev main_call3_call4_v135 : Ref sig .tc := ⟨.hbm, 997, rfl⟩
abbrev main_call3_call4_v136 : Ref sig .tc := ⟨.hbm, 998, rfl⟩
abbrev main_call3_call4_v137 : Ref sig .tc := ⟨.hbm, 999, rfl⟩
abbrev main_call3_call4_v138 : Ref sig .tc := ⟨.hbm, 1000, rfl⟩
abbrev main_call3_call4_v139 : Ref sig .tc := ⟨.hbm, 1001, rfl⟩
abbrev main_call3_call4_c_35 : Ref sig .tc := ⟨.hbm, 1002, rfl⟩
abbrev main_call3_call4_v140 : Ref sig .tc := ⟨.hbm, 1003, rfl⟩
abbrev main_call3_call4_v141 : Ref sig .tc := ⟨.hbm, 1004, rfl⟩
abbrev main_call3_call4_v142 : Ref sig .tc := ⟨.hbm, 1005, rfl⟩
abbrev main_call3_call4_c_36 : Ref sig .tc := ⟨.hbm, 1006, rfl⟩
abbrev main_call3_call4_v143 : Ref sig .tc := ⟨.hbm, 1007, rfl⟩
abbrev main_call3_call4_v144 : Ref sig .tc := ⟨.hbm, 1008, rfl⟩
abbrev main_call3_call4_c_37 : Ref sig .tc := ⟨.hbm, 1009, rfl⟩
abbrev main_call3_call4_v145 : Ref sig .tc := ⟨.hbm, 1010, rfl⟩
abbrev main_call3_call4_v146 : Ref sig .tc := ⟨.hbm, 1011, rfl⟩
abbrev main_call3_call4_v147 : Ref sig .tc := ⟨.hbm, 1012, rfl⟩
abbrev main_call3_call4_v148 : Ref sig .tc := ⟨.hbm, 1013, rfl⟩
abbrev main_call3_call4_v149 : Ref sig .tc := ⟨.hbm, 1014, rfl⟩
abbrev main_call3_call4_c_38 : Ref sig .tc := ⟨.hbm, 1015, rfl⟩
abbrev main_call3_call4_v150 : Ref sig .tc := ⟨.hbm, 1016, rfl⟩
abbrev main_call3_call4_v151 : Ref sig .tc := ⟨.hbm, 1017, rfl⟩
abbrev main_call3_call4_c_39 : Ref sig .tc := ⟨.hbm, 1018, rfl⟩
abbrev main_call3_call4_v152 : Ref sig .tc := ⟨.hbm, 1019, rfl⟩
abbrev main_call3_call4_v153 : Ref sig .tc := ⟨.hbm, 1020, rfl⟩
abbrev main_call3_call4_v154 : Ref sig .tc := ⟨.hbm, 1021, rfl⟩
abbrev main_call3_call4_v155 : Ref sig .tc := ⟨.hbm, 1022, rfl⟩
abbrev main_call3_call4_v156 : Ref sig .tc := ⟨.hbm, 1023, rfl⟩
abbrev main_call3_call4_c_40 : Ref sig .tc := ⟨.hbm, 1024, rfl⟩
abbrev main_call3_call4_v157 : Ref sig .tc := ⟨.hbm, 1025, rfl⟩
abbrev main_call3_call4_v158 : Ref sig .tc := ⟨.hbm, 1026, rfl⟩
abbrev main_call3_call4_c_41 : Ref sig .tc := ⟨.hbm, 1027, rfl⟩
abbrev main_call3_call4_v159 : Ref sig .tc := ⟨.hbm, 1028, rfl⟩
abbrev main_call3_call4_v160 : Ref sig .tc := ⟨.hbm, 1029, rfl⟩
abbrev main_call3_call4_v161 : Ref sig .tc := ⟨.hbm, 1030, rfl⟩
abbrev main_call3_call4_v162 : Ref sig .tc := ⟨.hbm, 1031, rfl⟩
abbrev main_call3_call4_v163 : Ref sig .tc := ⟨.hbm, 1032, rfl⟩
abbrev main_call3_call4_c_42 : Ref sig .tc := ⟨.hbm, 1033, rfl⟩
abbrev main_call3_call4_v164 : Ref sig .tc := ⟨.hbm, 1034, rfl⟩
abbrev main_call3_call4_v165 : Ref sig .tc := ⟨.hbm, 1035, rfl⟩
abbrev main_call3_call4_c_43 : Ref sig .tc := ⟨.hbm, 1036, rfl⟩
abbrev main_call3_call4_v166 : Ref sig .tc := ⟨.hbm, 1037, rfl⟩
abbrev main_call3_call4_v167 : Ref sig .tc := ⟨.hbm, 1038, rfl⟩
abbrev main_call3_call4_v168 : Ref sig .tc := ⟨.hbm, 1039, rfl⟩
abbrev main_call3_call4_v169 : Ref sig .tc := ⟨.hbm, 1040, rfl⟩
abbrev main_call3_call4_v170 : Ref sig .tc := ⟨.hbm, 1041, rfl⟩
abbrev main_call3_v28_0 : Ref sig .tc := ⟨.hbm, 1042, rfl⟩
abbrev main_call3_call4_v172 : Ref sig .tc := ⟨.hbm, 1043, rfl⟩
abbrev main_call3_call4_v173 : Ref sig .tc := ⟨.hbm, 1044, rfl⟩
abbrev main_call3_call4_c_44 : Ref sig .tc := ⟨.hbm, 1045, rfl⟩
abbrev main_call3_call4_v174 : Ref sig .tc := ⟨.hbm, 1046, rfl⟩
abbrev main_call3_v28_1 : Ref sig .tc := ⟨.hbm, 1047, rfl⟩
abbrev main_call3_v29 : Ref sig .tc := ⟨.hbm, 1048, rfl⟩
abbrev main_call3_v30 : Ref sig .tc := ⟨.hbm, 1049, rfl⟩
abbrev main_call3_v31 : Ref sig .tc := ⟨.hbm, 1050, rfl⟩
abbrev main_call3_v32 : Ref sig .tc := ⟨.hbm, 1051, rfl⟩
abbrev main_call3_v33 : Ref sig .tc := ⟨.hbm, 1052, rfl⟩
abbrev main_call3_v34 : Ref sig .tc := ⟨.hbm, 1053, rfl⟩
abbrev main_call3_v35 : Ref sig .tc := ⟨.hbm, 1054, rfl⟩
abbrev main_call3_c_9 : Ref sig .tc := ⟨.hbm, 1055, rfl⟩
abbrev main_call3_v36 : Ref sig .tc := ⟨.hbm, 1056, rfl⟩
abbrev main_call3_v37 : Ref sig .tc := ⟨.hbm, 1057, rfl⟩
abbrev main_call3_c_10 : Ref sig .tc := ⟨.hbm, 1058, rfl⟩
abbrev main_call3_v38 : Ref sig .tc := ⟨.hbm, 1059, rfl⟩
abbrev main_call3_v39 : Ref sig .tc := ⟨.hbm, 1060, rfl⟩
abbrev main_call3_v40 : Ref sig .tc := ⟨.hbm, 1061, rfl⟩
abbrev main_call3_c_11 : Ref sig .tc := ⟨.hbm, 1062, rfl⟩
abbrev main_call3_v41 : Ref sig .tc := ⟨.hbm, 1063, rfl⟩
abbrev main_call3_v42 : Ref sig .tc := ⟨.hbm, 1064, rfl⟩
abbrev main_call3_v43 : Ref sig .tc := ⟨.hbm, 1065, rfl⟩
abbrev main_call3_v44 : Ref sig .tc := ⟨.hbm, 1066, rfl⟩
abbrev main_call3_call5_v0 : Ref sig .tc := ⟨.hbm, 1067, rfl⟩
abbrev main_call3_call5_c : Ref sig .tc := ⟨.hbm, 1068, rfl⟩
abbrev main_call3_call5_v1 : Ref sig .tc := ⟨.hbm, 1069, rfl⟩
abbrev main_call3_call5_v2 : Ref sig .tc := ⟨.hbm, 1070, rfl⟩
abbrev main_call3_call5_v3 : Ref sig .tc := ⟨.hbm, 1071, rfl⟩
abbrev main_call3_call5_v4 : Ref sig .tc := ⟨.hbm, 1072, rfl⟩
abbrev main_call3_call5_v5 : Ref sig .tc := ⟨.hbm, 1073, rfl⟩
abbrev main_call3_call5_v6 : Ref sig .tc := ⟨.hbm, 1074, rfl⟩
abbrev main_call3_call5_c_0 : Ref sig .tc := ⟨.hbm, 1075, rfl⟩
abbrev main_call3_call5_v7 : Ref sig .tc := ⟨.hbm, 1076, rfl⟩
abbrev main_call3_call5_v8 : Ref sig .tc := ⟨.hbm, 1077, rfl⟩
abbrev main_call3_call5_c_1 : Ref sig .tc := ⟨.hbm, 1078, rfl⟩
abbrev main_call3_call5_v9 : Ref sig .tc := ⟨.hbm, 1079, rfl⟩
abbrev main_call3_call5_v10 : Ref sig .tc := ⟨.hbm, 1080, rfl⟩
abbrev main_call3_call5_v11 : Ref sig .tc := ⟨.hbm, 1081, rfl⟩
abbrev main_call3_call5_v12 : Ref sig .tc := ⟨.hbm, 1082, rfl⟩
abbrev main_call3_call5_v13 : Ref sig .tc := ⟨.hbm, 1083, rfl⟩
abbrev main_call3_call5_c_2 : Ref sig .tc := ⟨.hbm, 1084, rfl⟩
abbrev main_call3_call5_v14 : Ref sig .tc := ⟨.hbm, 1085, rfl⟩
abbrev main_call3_call5_v15 : Ref sig .tc := ⟨.hbm, 1086, rfl⟩
abbrev main_call3_call5_c_3 : Ref sig .tc := ⟨.hbm, 1087, rfl⟩
abbrev main_call3_call5_v16 : Ref sig .tc := ⟨.hbm, 1088, rfl⟩
abbrev main_call3_call5_v17 : Ref sig .tc := ⟨.hbm, 1089, rfl⟩
abbrev main_call3_call5_v18 : Ref sig .tc := ⟨.hbm, 1090, rfl⟩
abbrev main_call3_call5_v19 : Ref sig .tc := ⟨.hbm, 1091, rfl⟩
abbrev main_call3_call5_v20 : Ref sig .tc := ⟨.hbm, 1092, rfl⟩
abbrev main_call3_call5_c_4 : Ref sig .tc := ⟨.hbm, 1093, rfl⟩
abbrev main_call3_call5_v21 : Ref sig .tc := ⟨.hbm, 1094, rfl⟩
abbrev main_call3_call5_v22 : Ref sig .tc := ⟨.hbm, 1095, rfl⟩
abbrev main_call3_call5_c_5 : Ref sig .tc := ⟨.hbm, 1096, rfl⟩
abbrev main_call3_call5_v23 : Ref sig .tc := ⟨.hbm, 1097, rfl⟩
abbrev main_call3_call5_v24 : Ref sig .tc := ⟨.hbm, 1098, rfl⟩
abbrev main_call3_call5_v25 : Ref sig .tc := ⟨.hbm, 1099, rfl⟩
abbrev main_call3_call5_v26 : Ref sig .tc := ⟨.hbm, 1100, rfl⟩
abbrev main_call3_call5_v27 : Ref sig .tc := ⟨.hbm, 1101, rfl⟩
abbrev main_call3_call5_c_6 : Ref sig .tc := ⟨.hbm, 1102, rfl⟩
abbrev main_call3_call5_v28 : Ref sig .tc := ⟨.hbm, 1103, rfl⟩
abbrev main_call3_call5_v29 : Ref sig .tc := ⟨.hbm, 1104, rfl⟩
abbrev main_call3_call5_c_7 : Ref sig .tc := ⟨.hbm, 1105, rfl⟩
abbrev main_call3_call5_v30 : Ref sig .tc := ⟨.hbm, 1106, rfl⟩
abbrev main_call3_call5_v31 : Ref sig .tc := ⟨.hbm, 1107, rfl⟩
abbrev main_call3_call5_v32 : Ref sig .tc := ⟨.hbm, 1108, rfl⟩
abbrev main_call3_call5_v33 : Ref sig .tc := ⟨.hbm, 1109, rfl⟩
abbrev main_call3_call5_v34 : Ref sig .tc := ⟨.hbm, 1110, rfl⟩
abbrev main_call3_call5_v35 : Ref sig .tc := ⟨.hbm, 1111, rfl⟩
abbrev main_call3_call5_v36 : Ref sig .tc := ⟨.hbm, 1112, rfl⟩
abbrev main_call3_call5_v37 : Ref sig .tc := ⟨.hbm, 1113, rfl⟩
abbrev main_call3_call5_c_8 : Ref sig .tc := ⟨.hbm, 1114, rfl⟩
abbrev main_call3_call5_v38 : Ref sig .tc := ⟨.hbm, 1115, rfl⟩
abbrev main_call3_call5_v39 : Ref sig .tc := ⟨.hbm, 1116, rfl⟩
abbrev main_call3_call5_v40 : Ref sig .tc := ⟨.hbm, 1117, rfl⟩
abbrev main_call3_call5_c_9 : Ref sig .tc := ⟨.hbm, 1118, rfl⟩
abbrev main_call3_call5_v41 : Ref sig .tc := ⟨.hbm, 1119, rfl⟩
abbrev main_call3_call5_v42 : Ref sig .tc := ⟨.hbm, 1120, rfl⟩
abbrev main_call3_call5_c_10 : Ref sig .tc := ⟨.hbm, 1121, rfl⟩
abbrev main_call3_call5_v43 : Ref sig .tc := ⟨.hbm, 1122, rfl⟩
abbrev main_call3_call5_v44 : Ref sig .tc := ⟨.hbm, 1123, rfl⟩
abbrev main_call3_call5_v45 : Ref sig .tc := ⟨.hbm, 1124, rfl⟩
abbrev main_call3_call5_v46 : Ref sig .tc := ⟨.hbm, 1125, rfl⟩
abbrev main_call3_call5_v47 : Ref sig .tc := ⟨.hbm, 1126, rfl⟩
abbrev main_call3_call5_c_11 : Ref sig .tc := ⟨.hbm, 1127, rfl⟩
abbrev main_call3_call5_v48 : Ref sig .tc := ⟨.hbm, 1128, rfl⟩
abbrev main_call3_call5_v49 : Ref sig .tc := ⟨.hbm, 1129, rfl⟩
abbrev main_call3_call5_c_12 : Ref sig .tc := ⟨.hbm, 1130, rfl⟩
abbrev main_call3_call5_v50 : Ref sig .tc := ⟨.hbm, 1131, rfl⟩
abbrev main_call3_call5_v51 : Ref sig .tc := ⟨.hbm, 1132, rfl⟩
abbrev main_call3_call5_v52 : Ref sig .tc := ⟨.hbm, 1133, rfl⟩
abbrev main_call3_call5_v53 : Ref sig .tc := ⟨.hbm, 1134, rfl⟩
abbrev main_call3_call5_v54 : Ref sig .tc := ⟨.hbm, 1135, rfl⟩
abbrev main_call3_call5_c_13 : Ref sig .tc := ⟨.hbm, 1136, rfl⟩
abbrev main_call3_call5_v55 : Ref sig .tc := ⟨.hbm, 1137, rfl⟩
abbrev main_call3_call5_v56 : Ref sig .tc := ⟨.hbm, 1138, rfl⟩
abbrev main_call3_call5_c_14 : Ref sig .tc := ⟨.hbm, 1139, rfl⟩
abbrev main_call3_call5_v57 : Ref sig .tc := ⟨.hbm, 1140, rfl⟩
abbrev main_call3_call5_v58 : Ref sig .tc := ⟨.hbm, 1141, rfl⟩
abbrev main_call3_call5_v59 : Ref sig .tc := ⟨.hbm, 1142, rfl⟩
abbrev main_call3_call5_v60 : Ref sig .tc := ⟨.hbm, 1143, rfl⟩
abbrev main_call3_call5_v61 : Ref sig .tc := ⟨.hbm, 1144, rfl⟩
abbrev main_call3_call5_c_15 : Ref sig .tc := ⟨.hbm, 1145, rfl⟩
abbrev main_call3_call5_v62 : Ref sig .tc := ⟨.hbm, 1146, rfl⟩
abbrev main_call3_call5_v63 : Ref sig .tc := ⟨.hbm, 1147, rfl⟩
abbrev main_call3_call5_c_16 : Ref sig .tc := ⟨.hbm, 1148, rfl⟩
abbrev main_call3_call5_v64 : Ref sig .tc := ⟨.hbm, 1149, rfl⟩
abbrev main_call3_call5_v65 : Ref sig .tc := ⟨.hbm, 1150, rfl⟩
abbrev main_call3_call5_v66 : Ref sig .tc := ⟨.hbm, 1151, rfl⟩
abbrev main_call3_call5_v67 : Ref sig .tc := ⟨.hbm, 1152, rfl⟩
abbrev main_call3_call5_v68 : Ref sig .tc := ⟨.hbm, 1153, rfl⟩
abbrev main_call3_call5_v69 : Ref sig .tc := ⟨.hbm, 1154, rfl⟩
abbrev main_call3_call5_v70 : Ref sig .tc := ⟨.hbm, 1155, rfl⟩
abbrev main_call3_call5_v71 : Ref sig .tc := ⟨.hbm, 1156, rfl⟩
abbrev main_call3_call5_c_17 : Ref sig .tc := ⟨.hbm, 1157, rfl⟩
abbrev main_call3_call5_v72 : Ref sig .tc := ⟨.hbm, 1158, rfl⟩
abbrev main_call3_call5_v73 : Ref sig .tc := ⟨.hbm, 1159, rfl⟩
abbrev main_call3_call5_v74 : Ref sig .tc := ⟨.hbm, 1160, rfl⟩
abbrev main_call3_call5_c_18 : Ref sig .tc := ⟨.hbm, 1161, rfl⟩
abbrev main_call3_call5_v75 : Ref sig .tc := ⟨.hbm, 1162, rfl⟩
abbrev main_call3_call5_v76 : Ref sig .tc := ⟨.hbm, 1163, rfl⟩
abbrev main_call3_call5_c_19 : Ref sig .tc := ⟨.hbm, 1164, rfl⟩
abbrev main_call3_call5_v77 : Ref sig .tc := ⟨.hbm, 1165, rfl⟩
abbrev main_call3_call5_v78 : Ref sig .tc := ⟨.hbm, 1166, rfl⟩
abbrev main_call3_call5_v79 : Ref sig .tc := ⟨.hbm, 1167, rfl⟩
abbrev main_call3_call5_v80 : Ref sig .tc := ⟨.hbm, 1168, rfl⟩
abbrev main_call3_call5_v81 : Ref sig .tc := ⟨.hbm, 1169, rfl⟩
abbrev main_call3_call5_c_20 : Ref sig .tc := ⟨.hbm, 1170, rfl⟩
abbrev main_call3_call5_v82 : Ref sig .tc := ⟨.hbm, 1171, rfl⟩
abbrev main_call3_call5_v83 : Ref sig .tc := ⟨.hbm, 1172, rfl⟩
abbrev main_call3_call5_c_21 : Ref sig .tc := ⟨.hbm, 1173, rfl⟩
abbrev main_call3_call5_v84 : Ref sig .tc := ⟨.hbm, 1174, rfl⟩
abbrev main_call3_call5_v85 : Ref sig .tc := ⟨.hbm, 1175, rfl⟩
abbrev main_call3_call5_v86 : Ref sig .tc := ⟨.hbm, 1176, rfl⟩
abbrev main_call3_call5_v87 : Ref sig .tc := ⟨.hbm, 1177, rfl⟩
abbrev main_call3_call5_v88 : Ref sig .tc := ⟨.hbm, 1178, rfl⟩
abbrev main_call3_call5_c_22 : Ref sig .tc := ⟨.hbm, 1179, rfl⟩
abbrev main_call3_call5_v89 : Ref sig .tc := ⟨.hbm, 1180, rfl⟩
abbrev main_call3_call5_v90 : Ref sig .tc := ⟨.hbm, 1181, rfl⟩
abbrev main_call3_call5_c_23 : Ref sig .tc := ⟨.hbm, 1182, rfl⟩
abbrev main_call3_call5_v91 : Ref sig .tc := ⟨.hbm, 1183, rfl⟩
abbrev main_call3_call5_v92 : Ref sig .tc := ⟨.hbm, 1184, rfl⟩
abbrev main_call3_call5_v93 : Ref sig .tc := ⟨.hbm, 1185, rfl⟩
abbrev main_call3_call5_v94 : Ref sig .tc := ⟨.hbm, 1186, rfl⟩
abbrev main_call3_call5_v95 : Ref sig .tc := ⟨.hbm, 1187, rfl⟩
abbrev main_call3_call5_c_24 : Ref sig .tc := ⟨.hbm, 1188, rfl⟩
abbrev main_call3_call5_v96 : Ref sig .tc := ⟨.hbm, 1189, rfl⟩
abbrev main_call3_call5_v97 : Ref sig .tc := ⟨.hbm, 1190, rfl⟩
abbrev main_call3_call5_c_25 : Ref sig .tc := ⟨.hbm, 1191, rfl⟩
abbrev main_call3_call5_v98 : Ref sig .tc := ⟨.hbm, 1192, rfl⟩
abbrev main_call3_call5_v99 : Ref sig .tc := ⟨.hbm, 1193, rfl⟩
abbrev main_call3_call5_v100 : Ref sig .tc := ⟨.hbm, 1194, rfl⟩
abbrev main_call3_call5_v101 : Ref sig .tc := ⟨.hbm, 1195, rfl⟩
abbrev main_call3_call5_v102 : Ref sig .tc := ⟨.hbm, 1196, rfl⟩
abbrev main_call3_call5_v103 : Ref sig .tc := ⟨.hbm, 1197, rfl⟩
abbrev main_call3_call5_v104 : Ref sig .tc := ⟨.hbm, 1198, rfl⟩
abbrev main_call3_call5_v105 : Ref sig .tc := ⟨.hbm, 1199, rfl⟩
abbrev main_call3_call5_c_26 : Ref sig .tc := ⟨.hbm, 1200, rfl⟩
abbrev main_call3_call5_v106 : Ref sig .tc := ⟨.hbm, 1201, rfl⟩
abbrev main_call3_call5_v107 : Ref sig .tc := ⟨.hbm, 1202, rfl⟩
abbrev main_call3_call5_v108 : Ref sig .tc := ⟨.hbm, 1203, rfl⟩
abbrev main_call3_call5_c_27 : Ref sig .tc := ⟨.hbm, 1204, rfl⟩
abbrev main_call3_call5_v109 : Ref sig .tc := ⟨.hbm, 1205, rfl⟩
abbrev main_call3_call5_v110 : Ref sig .tc := ⟨.hbm, 1206, rfl⟩
abbrev main_call3_call5_c_28 : Ref sig .tc := ⟨.hbm, 1207, rfl⟩
abbrev main_call3_call5_v111 : Ref sig .tc := ⟨.hbm, 1208, rfl⟩
abbrev main_call3_call5_v112 : Ref sig .tc := ⟨.hbm, 1209, rfl⟩
abbrev main_call3_call5_v113 : Ref sig .tc := ⟨.hbm, 1210, rfl⟩
abbrev main_call3_call5_v114 : Ref sig .tc := ⟨.hbm, 1211, rfl⟩
abbrev main_call3_call5_v115 : Ref sig .tc := ⟨.hbm, 1212, rfl⟩
abbrev main_call3_call5_c_29 : Ref sig .tc := ⟨.hbm, 1213, rfl⟩
abbrev main_call3_call5_v116 : Ref sig .tc := ⟨.hbm, 1214, rfl⟩
abbrev main_call3_call5_v117 : Ref sig .tc := ⟨.hbm, 1215, rfl⟩
abbrev main_call3_call5_c_30 : Ref sig .tc := ⟨.hbm, 1216, rfl⟩
abbrev main_call3_call5_v118 : Ref sig .tc := ⟨.hbm, 1217, rfl⟩
abbrev main_call3_call5_v119 : Ref sig .tc := ⟨.hbm, 1218, rfl⟩
abbrev main_call3_call5_v120 : Ref sig .tc := ⟨.hbm, 1219, rfl⟩
abbrev main_call3_call5_v121 : Ref sig .tc := ⟨.hbm, 1220, rfl⟩
abbrev main_call3_call5_v122 : Ref sig .tc := ⟨.hbm, 1221, rfl⟩
abbrev main_call3_call5_c_31 : Ref sig .tc := ⟨.hbm, 1222, rfl⟩
abbrev main_call3_call5_v123 : Ref sig .tc := ⟨.hbm, 1223, rfl⟩
abbrev main_call3_call5_v124 : Ref sig .tc := ⟨.hbm, 1224, rfl⟩
abbrev main_call3_call5_c_32 : Ref sig .tc := ⟨.hbm, 1225, rfl⟩
abbrev main_call3_call5_v125 : Ref sig .tc := ⟨.hbm, 1226, rfl⟩
abbrev main_call3_call5_v126 : Ref sig .tc := ⟨.hbm, 1227, rfl⟩
abbrev main_call3_call5_v127 : Ref sig .tc := ⟨.hbm, 1228, rfl⟩
abbrev main_call3_call5_v128 : Ref sig .tc := ⟨.hbm, 1229, rfl⟩
abbrev main_call3_call5_v129 : Ref sig .tc := ⟨.hbm, 1230, rfl⟩
abbrev main_call3_call5_c_33 : Ref sig .tc := ⟨.hbm, 1231, rfl⟩
abbrev main_call3_call5_v130 : Ref sig .tc := ⟨.hbm, 1232, rfl⟩
abbrev main_call3_call5_v131 : Ref sig .tc := ⟨.hbm, 1233, rfl⟩
abbrev main_call3_call5_c_34 : Ref sig .tc := ⟨.hbm, 1234, rfl⟩
abbrev main_call3_call5_v132 : Ref sig .tc := ⟨.hbm, 1235, rfl⟩
abbrev main_call3_call5_v133 : Ref sig .tc := ⟨.hbm, 1236, rfl⟩
abbrev main_call3_call5_v134 : Ref sig .tc := ⟨.hbm, 1237, rfl⟩
abbrev main_call3_call5_v135 : Ref sig .tc := ⟨.hbm, 1238, rfl⟩
abbrev main_call3_call5_v136 : Ref sig .tc := ⟨.hbm, 1239, rfl⟩
abbrev main_call3_call5_v137 : Ref sig .tc := ⟨.hbm, 1240, rfl⟩
abbrev main_call3_call5_v138 : Ref sig .tc := ⟨.hbm, 1241, rfl⟩
abbrev main_call3_call5_v139 : Ref sig .tc := ⟨.hbm, 1242, rfl⟩
abbrev main_call3_call5_c_35 : Ref sig .tc := ⟨.hbm, 1243, rfl⟩
abbrev main_call3_call5_v140 : Ref sig .tc := ⟨.hbm, 1244, rfl⟩
abbrev main_call3_call5_v141 : Ref sig .tc := ⟨.hbm, 1245, rfl⟩
abbrev main_call3_call5_v142 : Ref sig .tc := ⟨.hbm, 1246, rfl⟩
abbrev main_call3_call5_c_36 : Ref sig .tc := ⟨.hbm, 1247, rfl⟩
abbrev main_call3_call5_v143 : Ref sig .tc := ⟨.hbm, 1248, rfl⟩
abbrev main_call3_call5_v144 : Ref sig .tc := ⟨.hbm, 1249, rfl⟩
abbrev main_call3_call5_c_37 : Ref sig .tc := ⟨.hbm, 1250, rfl⟩
abbrev main_call3_call5_v145 : Ref sig .tc := ⟨.hbm, 1251, rfl⟩
abbrev main_call3_call5_v146 : Ref sig .tc := ⟨.hbm, 1252, rfl⟩
abbrev main_call3_call5_v147 : Ref sig .tc := ⟨.hbm, 1253, rfl⟩
abbrev main_call3_call5_v148 : Ref sig .tc := ⟨.hbm, 1254, rfl⟩
abbrev main_call3_call5_v149 : Ref sig .tc := ⟨.hbm, 1255, rfl⟩
abbrev main_call3_call5_c_38 : Ref sig .tc := ⟨.hbm, 1256, rfl⟩
abbrev main_call3_call5_v150 : Ref sig .tc := ⟨.hbm, 1257, rfl⟩
abbrev main_call3_call5_v151 : Ref sig .tc := ⟨.hbm, 1258, rfl⟩
abbrev main_call3_call5_c_39 : Ref sig .tc := ⟨.hbm, 1259, rfl⟩
abbrev main_call3_call5_v152 : Ref sig .tc := ⟨.hbm, 1260, rfl⟩
abbrev main_call3_call5_v153 : Ref sig .tc := ⟨.hbm, 1261, rfl⟩
abbrev main_call3_call5_v154 : Ref sig .tc := ⟨.hbm, 1262, rfl⟩
abbrev main_call3_call5_v155 : Ref sig .tc := ⟨.hbm, 1263, rfl⟩
abbrev main_call3_call5_v156 : Ref sig .tc := ⟨.hbm, 1264, rfl⟩
abbrev main_call3_call5_c_40 : Ref sig .tc := ⟨.hbm, 1265, rfl⟩
abbrev main_call3_call5_v157 : Ref sig .tc := ⟨.hbm, 1266, rfl⟩
abbrev main_call3_call5_v158 : Ref sig .tc := ⟨.hbm, 1267, rfl⟩
abbrev main_call3_call5_c_41 : Ref sig .tc := ⟨.hbm, 1268, rfl⟩
abbrev main_call3_call5_v159 : Ref sig .tc := ⟨.hbm, 1269, rfl⟩
abbrev main_call3_call5_v160 : Ref sig .tc := ⟨.hbm, 1270, rfl⟩
abbrev main_call3_call5_v161 : Ref sig .tc := ⟨.hbm, 1271, rfl⟩
abbrev main_call3_call5_v162 : Ref sig .tc := ⟨.hbm, 1272, rfl⟩
abbrev main_call3_call5_v163 : Ref sig .tc := ⟨.hbm, 1273, rfl⟩
abbrev main_call3_call5_c_42 : Ref sig .tc := ⟨.hbm, 1274, rfl⟩
abbrev main_call3_call5_v164 : Ref sig .tc := ⟨.hbm, 1275, rfl⟩
abbrev main_call3_call5_v165 : Ref sig .tc := ⟨.hbm, 1276, rfl⟩
abbrev main_call3_call5_c_43 : Ref sig .tc := ⟨.hbm, 1277, rfl⟩
abbrev main_call3_call5_v166 : Ref sig .tc := ⟨.hbm, 1278, rfl⟩
abbrev main_call3_call5_v167 : Ref sig .tc := ⟨.hbm, 1279, rfl⟩
abbrev main_call3_call5_v168 : Ref sig .tc := ⟨.hbm, 1280, rfl⟩
abbrev main_call3_call5_v169 : Ref sig .tc := ⟨.hbm, 1281, rfl⟩
abbrev main_call3_call5_v170 : Ref sig .tc := ⟨.hbm, 1282, rfl⟩
abbrev main_call3_v45_0 : Ref sig .tc := ⟨.hbm, 1283, rfl⟩
abbrev main_call3_call5_v172 : Ref sig .tc := ⟨.hbm, 1284, rfl⟩
abbrev main_call3_call5_v173 : Ref sig .tc := ⟨.hbm, 1285, rfl⟩
abbrev main_call3_call5_c_44 : Ref sig .tc := ⟨.hbm, 1286, rfl⟩
abbrev main_call3_call5_v174 : Ref sig .tc := ⟨.hbm, 1287, rfl⟩
abbrev main_call3_v45_1 : Ref sig .tc := ⟨.hbm, 1288, rfl⟩
abbrev main_call3_v46 : Ref sig .tc := ⟨.hbm, 1289, rfl⟩
abbrev main_call3_v47 : Ref sig .tc := ⟨.hbm, 1290, rfl⟩
abbrev main_call3_v48 : Ref sig .tc := ⟨.hbm, 1291, rfl⟩
abbrev main_call3_v49 : Ref sig .tc := ⟨.hbm, 1292, rfl⟩
abbrev main_call3_c_12 : Ref sig .tc := ⟨.hbm, 1293, rfl⟩
abbrev main_call3_v50 : Ref sig .tc := ⟨.hbm, 1294, rfl⟩
abbrev main_call3_v51 : Ref sig .tc := ⟨.hbm, 1295, rfl⟩
abbrev main_call3_v52 : Ref sig .tc := ⟨.hbm, 1296, rfl⟩
abbrev main_call3_v53 : Ref sig .tc := ⟨.hbm, 1297, rfl⟩
abbrev main_call3_v54 : Ref sig .tc := ⟨.hbm, 1298, rfl⟩
abbrev main_call3_c_13 : Ref sig .tc := ⟨.hbm, 1299, rfl⟩
abbrev main_call3_v55 : Ref sig .tc := ⟨.hbm, 1300, rfl⟩
abbrev main_call3_v56 : Ref sig .tc := ⟨.hbm, 1301, rfl⟩
abbrev main_call3_v57 : Ref sig .tc := ⟨.hbm, 1302, rfl⟩
abbrev main_call3_c_14 : Ref sig .tc := ⟨.hbm, 1303, rfl⟩
abbrev main_call3_v58 : Ref sig .tc := ⟨.hbm, 1304, rfl⟩
abbrev main_call3_v59 : Ref sig .tc := ⟨.hbm, 1305, rfl⟩
abbrev main_call3_v60 : Ref sig .tc := ⟨.hbm, 1306, rfl⟩
abbrev main_call3_v61 : Ref sig .tc := ⟨.hbm, 1307, rfl⟩
abbrev main_call3_v62 : Ref sig .tc := ⟨.hbm, 1308, rfl⟩
abbrev main_call3_v63 : Ref sig .tc := ⟨.hbm, 1309, rfl⟩
abbrev main_call3_v64 : Ref sig .tc := ⟨.hbm, 1310, rfl⟩
abbrev main_call3_v65 : Ref sig .tc := ⟨.hbm, 1311, rfl⟩
abbrev main_call3_v66 : Ref sig .tc := ⟨.hbm, 1312, rfl⟩
abbrev main_call3_v67 : Ref sig .tc := ⟨.hbm, 1313, rfl⟩
abbrev main_call3_v68 : Ref sig .tc := ⟨.hbm, 1314, rfl⟩
abbrev main_call3_v69 : Ref sig .tc := ⟨.hbm, 1315, rfl⟩
abbrev main_call3_v70 : Ref sig .tc := ⟨.hbm, 1316, rfl⟩
abbrev main_call3_v71 : Ref sig .tc := ⟨.hbm, 1317, rfl⟩
abbrev main_call3_v72 : Ref sig .tc := ⟨.hbm, 1318, rfl⟩
abbrev main_v21 : Ref sig .tc := ⟨.hbm, 1319, rfl⟩
abbrev main_v22 : Ref sig .tc := ⟨.hbm, 1320, rfl⟩
abbrev main_v23 : Ref sig .tc := ⟨.hbm, 1321, rfl⟩
abbrev main_v24 : Ref sig .tc := ⟨.hbm, 1322, rfl⟩
abbrev main_v25 : Ref sig .tc := ⟨.hbm, 1323, rfl⟩
abbrev main_v26 : Ref sig .tc := ⟨.hbm, 1324, rfl⟩
abbrev main_v27 : Ref sig .tc := ⟨.hbm, 1325, rfl⟩
abbrev main_v28 : Ref sig .tc := ⟨.hbm, 1326, rfl⟩
abbrev main_v29 : Ref sig .tc := ⟨.hbm, 1327, rfl⟩
abbrev main_v30 : Ref sig .tc := ⟨.hbm, 1328, rfl⟩
abbrev main_c_6 : Ref sig .tc := ⟨.hbm, 1329, rfl⟩
abbrev main_call4_v0 : Ref sig .tc := ⟨.hbm, 1330, rfl⟩
abbrev main_call4_v1 : Ref sig .tc := ⟨.hbm, 1331, rfl⟩
abbrev main_v31 : Ref sig .tc := ⟨.hbm, 1332, rfl⟩
abbrev main_v32 : Ref sig .tc := ⟨.hbm, 1333, rfl⟩
abbrev main_c_7 : Ref sig .tc := ⟨.hbm, 1334, rfl⟩
abbrev main_v33 : Ref sig .tc := ⟨.hbm, 1335, rfl⟩
abbrev main_v34 : Ref sig .tc := ⟨.hbm, 1336, rfl⟩
abbrev main_c_8 : Ref sig .tc := ⟨.hbm, 1337, rfl⟩
abbrev main_v35 : Ref sig .tc := ⟨.hbm, 1338, rfl⟩
abbrev main_v36 : Ref sig .tc := ⟨.hbm, 1339, rfl⟩
abbrev main_v37 : Ref sig .tc := ⟨.hbm, 1340, rfl⟩
abbrev main_cst : Ref sig .tc := ⟨.hbm, 1341, rfl⟩
abbrev main_call5_v0 : Ref sig .tc := ⟨.hbm, 1342, rfl⟩
abbrev main_call5_v1 : Ref sig .tc := ⟨.hbm, 1343, rfl⟩
abbrev main_call5_v2 : Ref sig .tc := ⟨.hbm, 1344, rfl⟩
abbrev main_v38 : Ref sig .tc := ⟨.hbm, 1345, rfl⟩
abbrev main_call6_v0 : Ref sig .tc := ⟨.hbm, 1346, rfl⟩
abbrev main_v39 : Ref sig .tc := ⟨.hbm, 1347, rfl⟩
abbrev main_v40 : Ref sig .tc := ⟨.hbm, 1348, rfl⟩
abbrev main_c_9 : Ref sig .tc := ⟨.hbm, 1349, rfl⟩
abbrev main_v41 : Ref sig .tc := ⟨.hbm, 1350, rfl⟩
abbrev main_v42 : Ref sig .tc := ⟨.hbm, 1351, rfl⟩
abbrev main_c_10 : Ref sig .tc := ⟨.hbm, 1352, rfl⟩
abbrev main_v43 : Ref sig .tc := ⟨.hbm, 1353, rfl⟩
abbrev main_v44 : Ref sig .tc := ⟨.hbm, 1354, rfl⟩
abbrev main_cst_11 : Ref sig .tc := ⟨.hbm, 1355, rfl⟩
abbrev main_cst_12 : Ref sig .tc := ⟨.hbm, 1356, rfl⟩
abbrev main_call7_v0 : Ref sig .tc := ⟨.hbm, 1357, rfl⟩
abbrev main_call7_v1 : Ref sig .tc := ⟨.hbm, 1358, rfl⟩
abbrev main_v45 : Ref sig .tc := ⟨.hbm, 1359, rfl⟩
abbrev main_cst_13 : Ref sig .tc := ⟨.hbm, 1360, rfl⟩
abbrev main_call8_v0 : Ref sig .tc := ⟨.hbm, 1361, rfl⟩
abbrev main_call8_v1 : Ref sig .tc := ⟨.hbm, 1362, rfl⟩
abbrev main_v46 : Ref sig .tc := ⟨.hbm, 1363, rfl⟩
abbrev main_v47 : Ref sig .tc := ⟨.hbm, 1364, rfl⟩
abbrev main_v48 : Ref sig .tc := ⟨.hbm, 1365, rfl⟩
abbrev main_v49 : Ref sig .tc := ⟨.hbm, 1366, rfl⟩
abbrev main_c_14 : Ref sig .tc := ⟨.hbm, 1367, rfl⟩
abbrev main_v50 : Ref sig .tc := ⟨.hbm, 1368, rfl⟩
abbrev main_v51 : Ref sig .tc := ⟨.hbm, 1369, rfl⟩
abbrev main_cst_15 : Ref sig .tc := ⟨.hbm, 1370, rfl⟩
abbrev main_v52 : Ref sig .tc := ⟨.hbm, 1371, rfl⟩
abbrev main_cst_16 : Ref sig .tc := ⟨.hbm, 1372, rfl⟩
abbrev main_v53 : Ref sig .tc := ⟨.hbm, 1373, rfl⟩
abbrev main_call9_v0 : Ref sig .tc := ⟨.hbm, 1374, rfl⟩
abbrev main_v54 : Ref sig .tc := ⟨.hbm, 1375, rfl⟩

abbrev nD : Nat := 1
abbrev τ : Topo := Topo.v7x

variable {F : FTy → Type} [FloatOps F]
-- ==== Proof.KernelPay.lean ====
/-
  What the kernel stores, element by element.

  `pay_apply`: element `(b, o)` of the stored block is the least of its 64 weighed inputs, times a sign that the parity
  of `o` gives. Output `o` is row `o % 32` of lane `64 * (o / 32) + b` of the table.
-/
module

public import proofs.«01_k».proof.Proof.Gen.KernelIdeal.Skeleton
public import Idealize.ShloMosaic.Lib.Pipeline.Value
public import Idealize.ShloMosaic.Lib.Pointwise.SelectCore
public import Idealize.ShloMosaic.Lib.Pointwise.Reduce
public import Idealize.ShloMosaic.PureOps.Ideal.Laws

@[expose] public section

noncomputable section

namespace FfcKernel

open Idealize Idealize.ShloMosaic Cert.KernelIdeal Cert.KernelIdeal.Gen

/-- The row of the table that an output reads. -/
def row (o : Fin 64) : Fin 32 := ⟨o.val % 32, by omega⟩

/-- The lane of the table that a batch row and an output read. -/
def lane (b o : Fin 64) : Fin 128 := ⟨64 * (o.val / 32) + b.val, by omega⟩

/-- The batch row of a lane. -/
def batch (l : Fin 128) : Fin 64 := ⟨l.val % 64, by omega⟩

/-- An input weighed by a table entry: ten where the entry is zero, else their product. -/
def weigh (a x : EReal) : EReal :=
  Scalar.select (FloatOps.cmpf (F := Ideal) (φ := .f32) .oeq a (FloatOps.ofBits .f32 0#32))
    (FloatOps.ofBits (F := Ideal) .f32 0x41200000#32) (FloatOps.mulf (F := Ideal) (φ := .f32) a x)

/-- The sign of a table row: one for an even row, minus one for an odd one. -/
def sign (s : Fin 32) : EReal :=
  Scalar.select (IntOp.cmpi .eq (IntOp.andi (BitVec.ofNat 32 s.val) 1#32) 0#32)
    (FloatOps.ofBits (F := Ideal) .f32 0x3F800000#32) (FloatOps.ofBits (F := Ideal) .f32 0xBF800000#32)

/-- The input, laid out once per half of the lanes, at an input feature and a lane. -/
theorem doubled_apply (x : S64x64.Idx → EReal) (f : Fin 64) (l : Fin 128) :
    concatenate S64x128 1 [⟨S64x64, transpose S64x64 [1, 0] x transposes_S64x64_p1_0_S64x64⟩,
      ⟨S64x64, transpose S64x64 [1, 0] x transposes_S64x64_p1_0_S64x64⟩] concatenates_S64x64_S64x64_S64x128_d1 (ix2 f l)
      = x (ix2 (batch l) f) := by
  by_cases hl : l.val < 64
  · refine (concatenate_pair_apply_left (s₁ := S64x64) (s₂ := S64x64) (1 : Fin 2) _ _ _ (ix2 f l) rfl (ix2 f ⟨l.val, hl⟩) ?_).trans ?_
    · intro a; fin_cases a <;> rfl
    · refine transpose_apply _ x _ _ _ ?_
      intro a; fin_cases a
      · rfl
      · exact Nat.mod_eq_of_lt hl
  · have h2 : l.val - 64 < 64 := by omega
    refine (concatenate_pair_apply_right (s₁ := S64x64) (s₂ := S64x64) (1 : Fin 2) _ _ _ (ix2 f l) rfl rfl (ix2 f ⟨l.val - 64, h2⟩) ?_ ?_).trans ?_
    · intro a ha; fin_cases a
      · rfl
      · exact absurd rfl ha
    · exact Nat.sub_add_cancel (by omega)
    · refine transpose_apply _ x _ _ _ ?_
      intro a; fin_cases a
      · rfl
      · show l.val % 64 = l.val - 64; omega

/-- The input, laid out over the whole table, at a row, an input feature and a lane. -/
theorem spread_apply (x : S64x64.Idx → EReal) (s : Fin 32) (f : Fin 64) (l : Fin 128) :
    broadcastTo S32x64x128 (shapeCast S1x64x128 (shapeCast S1x64x128
      (concatenate S64x128 1 [⟨S64x64, transpose S64x64 [1, 0] x transposes_S64x64_p1_0_S64x64⟩,
        ⟨S64x64, transpose S64x64 [1, 0] x transposes_S64x64_p1_0_S64x64⟩] concatenates_S64x64_S64x64_S64x128_d1)
      shapeCasts_S64x128_S1x64x128) shapeCasts_S1x64x128_S1x64x128) broadcasts_S1x64x128_S32x64x128 (ix3 s f l)
      = x (ix2 (batch l) f) := by
  refine (broadcastTo_apply _ _ _ (ix3 (0 : Fin 1) f l) ?_).trans ?_
  · intro a; fin_cases a <;> rfl
  refine (shapeCast_apply _ _ _ (ix3 (0 : Fin 1) f l) rfl).trans ?_
  refine (shapeCast_apply _ _ _ (ix2 f l) ?_).trans (doubled_apply x f l)
  rw [Shape.rowMajor_val_two, Shape.rowMajor_val_three]
  simp [ix2, ix3]

/-- The least of a block along its second axis. -/
theorem least_apply (w : S32x64x128.Idx → EReal) (s : Fin 32) (l : Fin 128) :
    multiReduction (F := Ideal) (φ := .f32) .minimumf [1] S32x128 w 0x7F800000#32 reduces_S32x64x128_S32x128 (.inl rfl) rfl
      (ix2 s l)
      = (Finset.univ : Finset (Fin 64)).fold min (FloatOps.ofBits (F := Ideal) .f32 0x7F800000#32) fun f => w (ix3 s f l) :=
  (multiReduction_minimumf_eq_fold (F := Ideal) (φ := .f32) w _ _ _ _ _).trans
    (Shape.Reduces.fold_fiber_r3_a1 reduces_S32x64x128_S32x128 (ix2 s l) _ _ w)

/-- The two halves of the lanes, one under the other and turned, at a batch row and an output. -/
theorem folded_apply (y : S32x128.Idx → EReal) (b o : Fin 64) :
    transpose S64x64 [1, 0] (concatenate S64x64 0
      [⟨S32x64, extractStridedSlice S32x64 ![0, 0] y slices_S32x128_o0_0_S32x64⟩,
        ⟨S32x64, extractStridedSlice S32x64 ![0, 64] y slices_S32x128_o0_64_S32x64⟩] concatenates_S32x64_S32x64_S64x64_d0)
      transposes_S64x64_p1_0_S64x64 (ix2 b o) = y (ix2 (row o) (lane b o)) := by
  refine (transpose_apply _ _ _ _ (ix2 o b) ?_).trans ?_
  · intro a; fin_cases a <;> rfl
  by_cases ho : o.val < 32
  · refine (concatenate_pair_apply_left (s₁ := S32x64) (s₂ := S32x64) (0 : Fin 2) _ _ _ (ix2 o b) rfl
      (ix2 (⟨o.val, ho⟩ : Fin 32) b) ?_).trans ?_
    · intro a; fin_cases a <;> rfl
    · refine extractStridedSlice_apply _ y _ _ _ ?_
      intro a; fin_cases a
      · show o.val % 32 = 0 + o.val; omega
      · show 64 * (o.val / 32) + b.val = 0 + b.val; omega
  · have h2 : o.val - 32 < 32 := by omega
    refine (concatenate_pair_apply_right (s₁ := S32x64) (s₂ := S32x64) (0 : Fin 2) _ _ _ (ix2 o b) rfl rfl
      (ix2 (⟨o.val - 32, h2⟩ : Fin 32) b) ?_ ?_).trans ?_
    · intro a ha; fin_cases a
      · exact absurd rfl ha
      · rfl
    · exact Nat.sub_add_cancel (by omega)
    · refine extractStridedSlice_apply _ y _ _ _ ?_
      intro a; fin_cases a
      · show o.val % 32 = 0 + (o.val - 32); omega
      · show 64 * (o.val / 32) + b.val = 64 + b.val; omega

/-- **The stored block at a batch row and an output.** -/
theorem pay_apply (t : S32x64x128.Idx → EReal) (x : S64x64.Idx → EReal) (b o : Fin 64) :
    k0_pay1 (F := Ideal) t x (ix2 b o)
      = FloatOps.mulf (F := Ideal) (φ := .f32) ((Finset.univ : Finset (Fin 64)).fold min
          (FloatOps.ofBits (F := Ideal) .f32 0x7F800000#32) fun f => weigh (t (ix3 (row o) f (lane b o))) (x (ix2 b f)))
        (sign (row o)) := by
  refine (folded_apply _ b o).trans ?_
  refine congrArg₂ (FloatOps.mulf (F := Ideal) (φ := .f32)) ?_ ?_
  · refine (least_apply _ _ _).trans (Finset.fold_congr fun f _ => ?_)
    have hb : batch (lane b o) = b := Fin.ext (by show (64 * (o.val / 32) + b.val) % 64 = b.val; omega)
    have e := spread_apply x (row o) f (lane b o)
    rw [hb] at e
    exact congrArg₂ weigh (congrFun (shapeCast_self t shapeCasts_S32x64x128_S32x64x128) _) e
  · show Scalar.select (IntOp.cmpi .eq (IntOp.andi (iota .tc S32x128 32 [0] iota_S32x128_d0_w32 (ix2 (row o) (lane b o))) 1#32) 0#32) _ _ = _
    rw [iota_single_apply]
    rfl

end FfcKernel

end
-- ==== Proof.KernelTable.lean ====
/-
  The table that the launch prepares.

  The program unpacks it from two arrays of words. `launched_table` says the launch leaves `table`; `table_apply` says
  what `table` holds at a step, an input feature and a lane: by the two bits of the step, zero, one or minus one, times
  the sign of the step.
-/
module

public import proofs.«01_k».proof.Proof.Gen.KernelIdeal.Frame
public import proofs.«01_k».proof.Proof.KernelPay

@[expose] public section

noncomputable section

namespace FfcKernel

open Idealize Idealize.ShloMosaic Idealize.ShloMosaic.TcCoe Idealize.SL.Sem Cert.KernelIdeal Cert.KernelIdeal.Gen

variable {F : FTy → Type} [FloatOps F]

/-- The step, everywhere in the table. -/
def steps : S32x64x128.Idx → BitVec 32 := iotaInDim S32x64x128 32 0

/-- One value, everywhere in the table. -/
def all {α : Type} (x : S_.Idx → α) : S32x64x128.Idx → α := broadcastInDim S32x64x128 ![] bcast_S_S32x64x128 x

/-- The bits of packed words, laid out by step. -/
def unpacked (w : S64x128.Idx → BitVec 32) : S32x64x128.Idx → BitVec 1 :=
  cmpi .eq (andi (Host.shrui (broadcastInDim S32x64x128 ![1, 2] bcast_S64x128_S32x64x128_1_2 w) steps)
    (all (constantI S_ 32 1#32))) (all (constantI S_ 32 1#32))

/-- The table that the launch prepares. -/
def table : Vec F S32x64x128 .bf16 :=
  truncf .bf16 (mulf
    (select (unpacked fun i => lit0 (S64x128.rowMajor i))
      (select (unpacked fun i => lit1 (S64x128.rowMajor i)) (all (constant S_ .f32 0xBF800000#32))
        (all (constant S_ .f32 0x3F800000#32)))
      (all (constant S_ .f32 0x00000000#32)))
    (select (cmpi .eq (andi steps (all (constantI S_ 32 1#32))) (all (constantI S_ 32 0#32)))
      (all (constant S_ .f32 0x3F800000#32)) (all (constant S_ .f32 0xBF800000#32)))) bitsLt_bf16_f32

/-- The launch leaves the table in its array. -/
theorem launched_table (m : (ℓ : Loc nD τ sig) → Buf (Elt F) ℓ) (c : Dev nD) : V m c main_v21 = table (F := F) := by
  show StableHlo.after (List.flatten [hostOps0, hostOps0_1, hostOps0_2, hostOps0_3, hostOps0_4, hostOps0_5, hostOps0_6])
    (fun b => m (c, b)) (Proc.devRef .tc main_v21) = _
  simp only [hostOps0, hostOps0_1, hostOps0_2, hostOps0_3, hostOps0_4, hostOps0_5, hostOps0_6, List.flatten_cons,
    List.flatten_nil, List.append_nil, List.cons_append, List.nil_append]
  after_results_simp
  rfl

/-- Whether a bit of a word is one. -/
def bit (w : BitVec 32) (s : Nat) : BitVec 1 :=
  IntOp.cmpi .eq (IntOp.andi (IntOp.shrui .host w (BitVec.ofNat 32 s)) 1#32) 1#32

/-- A bit of a word, as a quotient. -/
theorem bit_eq (w : BitVec 32) (s : Nat) (hs : s < 32) : bit w s = BitVec.ofBool ((w.toNat / 2 ^ s % 2).beq 1) := by
  have e : (BitVec.ofNat 32 s).toNat = s := by
    rw [BitVec.toNat_ofNat]
    exact Nat.mod_eq_of_lt (by omega)
  have h : IntOp.andi (IntOp.shrui .host w (BitVec.ofNat 32 s)) 1#32 = BitVec.ofNat 32 (w.toNat / 2 ^ s % 2) := by
    unfold IntOp.shrui IntOp.andi
    rw [if_pos (by omega)]
    apply BitVec.eq_of_toNat_eq
    show (w >>> (BitVec.ofNat 32 s).toNat &&& 1#32).toNat = _
    rw [BitVec.toNat_and, BitVec.toNat_ushiftRight, e, Nat.shiftRight_eq_div_pow, BitVec.toNat_ofNat,
      BitVec.toNat_ofNat, show 1 % 2 ^ 32 = 1 from rfl, Nat.and_one_is_mod, Nat.mod_eq_of_lt (a := _ % 2) (by omega)]
  unfold bit
  rw [h]
  have := Nat.mod_lt (w.toNat / 2 ^ s) (show 0 < 2 by decide)
  generalize w.toNat / 2 ^ s % 2 = n at this
  interval_cases n <;> rfl

/-- The unpacked bit of a step, an input feature and a lane. -/
theorem unpacked_apply (t : Fin 8192 → BitVec 32) (s : Fin 32) (f : Fin 64) (l : Fin 128) :
    unpacked (fun i => t (S64x128.rowMajor i)) (ix3 s f l) = bit (t ⟨128 * f.val + l.val, by omega⟩) s.val := by
  have h : broadcastInDim S32x64x128 ![1, 2] bcast_S64x128_S32x64x128_1_2 (fun i => t (S64x128.rowMajor i)) (ix3 s f l)
      = t ⟨128 * f.val + l.val, by omega⟩ := by
    rw [broadcastInDim_apply _ _ _ _ (ix2 f l) fun a => by fin_cases a <;> rfl]
    refine congrArg t (Fin.ext ((Shape.rowMajor_val_two _).trans ?_))
    show f.val * 128 + l.val = 128 * f.val + l.val
    omega
  exact congrArg (fun w => IntOp.cmpi .eq (IntOp.andi (IntOp.shrui .host w (BitVec.ofNat 32 s.val)) 1#32) 1#32) h

/-- **What the table holds at a step, an input feature and a lane.** -/
theorem table_apply (s : Fin 32) (f : Fin 64) (l : Fin 128) :
    table (F := Ideal) (ix3 s f l)
      = Scalar.select (bit (lit0t (128 * f.val + l.val)) s.val)
          (Scalar.select (bit (lit1t (128 * f.val + l.val)) s.val)
            (Ideal.ofBits .f32 0xBF800000#32) (Ideal.ofBits .f32 0x3F800000#32))
          (Ideal.ofBits .f32 0x00000000#32) * sign s := by
  have h0 := unpacked_apply lit0 s f l
  have h1 := unpacked_apply lit1 s f l
  show Scalar.select (unpacked (fun i => lit0 (S64x128.rowMajor i)) (ix3 s f l))
      (Scalar.select (unpacked (fun i => lit1 (S64x128.rowMajor i)) (ix3 s f l))
        (Ideal.ofBits .f32 0xBF800000#32) (Ideal.ofBits .f32 0x3F800000#32))
      (Ideal.ofBits .f32 0x00000000#32) * sign s = _
  rw [h0, h1]

end FfcKernel

end
-- ==== Proof.KernelRun.lean ====
/-
  The run of the kernel.

  `run`: the run leaves the kernel's stored block, of the table and the input as launched, in the result array, and
  changes no argument.
-/
module

public import proofs.«01_k».proof.Proof.Gen.KernelIdeal.Value
public import proofs.«01_k».proof.Proof.KernelTable
public import Idealize.ShloMosaic.Lib.Pipeline.ValueKit.Basic

@[expose] public section

noncomputable section

namespace FfcKernel

open Cert.KernelIdeal Cert.KernelIdeal.Gen Cert.KernelIdeal.Value Idealize.ShloMosaic Idealize.ShloMosaic.TcCoe Idealize.SL.Sem

variable {F : FTy → Type} [FloatOps F] (m : (ℓ : Loc nD τ sig) → Buf (Elt F) ℓ) (ρ : Dev nD → PrngReg)

/-- No window moves: each takes block zero on every axis. -/
theorem still : ∀ t : Fin cfg0.N, (∀ a, win0_0.index t a = 0) ∧ (∀ a, win0_1.index t a = 0) ∧ ∀ a, win0_2.index t a = 0 :=
  (by decide +kernel : ∀ t : Fin grid0.N, _)

/-- A place of the input's block is that place of the input. -/
theorem place_input (t : Fin cfg0.N) (j : S64x64.Idx) : ((cfg0.win 0).blk t).view.emb j = j := by
  refine funext fun (a : Fin 2) => Fin.ext ?_
  have e : win0_0.index t a = 0 := (still t).1 a
  fin_cases a
  · show win0_0.index t (0 : Fin 2) * 64 + 1 * (j 0).val = (j 0).val
    have e : win0_0.index t (0 : Fin 2) = 0 := e
    omega
  · show win0_0.index t (1 : Fin 2) * 64 + 1 * (j 1).val = (j 1).val
    have e : win0_0.index t (1 : Fin 2) = 0 := e
    omega

/-- A place of the table's block is that place of the table. -/
theorem place_table (t : Fin cfg0.N) (j : S32x64x128.Idx) : ((cfg0.win 1).blk t).view.emb j = j := by
  refine funext fun (a : Fin 3) => Fin.ext ?_
  have e : win0_1.index t a = 0 := (still t).2.1 a
  fin_cases a
  · show win0_1.index t (0 : Fin 3) * 32 + 1 * (j 0).val = (j 0).val
    have e : win0_1.index t (0 : Fin 3) = 0 := e
    omega
  · show win0_1.index t (1 : Fin 3) * 64 + 1 * (j 1).val = (j 1).val
    have e : win0_1.index t (1 : Fin 3) = 0 := e
    omega
  · show win0_1.index t (2 : Fin 3) * 128 + 1 * (j 2).val = (j 2).val
    have e : win0_1.index t (2 : Fin 3) = 0 := e
    omega

/-- A place of the result's block is that place of the result. -/
theorem place_result (t : Fin cfg0.N) (j : S64x64.Idx) : ((cfg0.win 2).blk t).view.emb j = j := by
  refine funext fun (a : Fin 2) => Fin.ext ?_
  have e : win0_2.index t a = 0 := (still t).2.2 a
  fin_cases a
  · show win0_2.index t (0 : Fin 2) * 64 + 1 * (j 0).val = (j 0).val
    have e : win0_2.index t (0 : Fin 2) = 0 := e
    omega
  · show win0_2.index t (1 : Fin 2) * 64 + 1 * (j 1).val = (j 1).val
    have e : win0_2.index t (1 : Fin 2) = 0 := e
    omega

/-- The kernel finds the input as launched. -/
theorem found_input (c : Dev nD) (t : Fin cfg0.N) : iblk m c 0 t = m ((c : Thread nD τ).loc main_arg0) :=
  (funext fun j => congrArg (V m c main_arg0) (place_input t j) : iblk m c 0 t = V m c main_arg0).trans (V_main_arg0 m c)

/-- The kernel finds the table as the launch prepared it. -/
theorem found_table (c : Dev nD) (t : Fin cfg0.N) : iblk m c 1 t = table (F := F) :=
  (funext fun j => congrArg (V m c main_v21) (place_table t j) : iblk m c 1 t = V m c main_v21).trans (launched_table m c)

/-- The one store fills the whole result block. -/
theorem stored (x : Vec F S64x64 .f32) (t : Vec F S32x64x128 .bf16) : out0_2 x t = k0_pay1 t x := by
  unfold out0_2
  rw [View.canon_cons_unit_lit _ _ _ (by decide), View.ld_unit_lit _ _ (by decide), View.ld_unit_lit _ _ (by decide)]

/-- What the one grid point writes back is its block of the stored value. -/
theorem written (c : Dev nD) (t : Fin cfg0.N) :
    (dats m 0 c).flushed 2 t
      = ((cfg0.win 2).blk t).view.read (Elt F) (k0_pay1 (table (F := F)) (m ((c : Thread nD τ).loc main_arg0))) := by
  rw [flushed2, stored, found_input, found_table]
  exact funext fun j => congrArg (k0_pay1 (table (F := F)) (m ((c : Thread nD τ).loc main_arg0))) (place_result t j).symm

/-- The result array after the run. -/
theorem left_in_result (c : Dev nD) :
    (dats m 0 c).arrAt 2 cfg0.N = k0_pay1 (table (F := F)) (m ((c : Thread nD τ).loc main_arg0)) := by
  refine (dats m 0 c).arrAt_eq_of_cover 2 _ (fun t _ => written m c t) fun i => ⟨⟨0, by decide⟩, flush0_2 _, ?_⟩
  have h := ((cfg0.win 2).blk (⟨0, by decide⟩ : Fin cfg0.N)).view.emb_mem_set i
  rwa [place_result] at h

/-- **The run leaves the stored block in the result array and changes no argument.** -/
theorem run : θ_run defs (onTc (τ := τ) (main (F := F))) ⟨m, fun _ => 0, ρ⟩ fun r => ∀ c : Dev nD,
    r.2.mem ((c : Thread nD τ).loc main_v22) = k0_pay1 (table (F := F)) (m ((c : Thread nD τ).loc main_arg0))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (left_in_result m c), (h c).2⟩) (run_blocks m ρ)

end FfcKernel

end
-- ==== Proof.Line.lean ====
/-
  A straight line of host operations that each write one fresh buffer, read as equations.

  `Line p Φ` is the list of the operations of the program `p`, each with the buffer it writes and those it reads, and
  the fact that a memory no operation changes satisfies `Φ`. When the buffers are written in order and each is read only
  after it is written (`inOrder`), the memory such a program leaves is one that no operation changes, so `Φ` holds of
  it (`Line.run`). The constructors say what equation each operation gives.
-/
module

public import Idealize.ShloMosaic.Lib.StableHlo.Run
public import Idealize.ShloMosaic.Lib.StableHlo.RunHlo

@[expose] public section

noncomputable section

namespace FfcLine

open Idealize Idealize.ShloMosaic Idealize.ShloMosaic.StableHlo Idealize.SL.Sem

variable {nD : Nat} {τ : Topo} {sig : RefSig} {Val : EltTy → Type} {Λ : Labels}

/-- The device's buffer of a reference. -/
abbrev dv (r : Ref sig .tc) : DevRef τ sig := Proc.devRef .tc r

/-- The contents of a typed reference in a memory. -/
def get (W : Valuation τ sig Val) {T : BufTy} (t : TRef sig T) : T.Contents Val := t.ofBuf (W (dv t.ref))

/-- The operation writes `y` alone, from the contents of `xs` alone, and a memory it does not change satisfies `E`. -/
structure Step (op : HloOp τ sig Val) (y : Ref sig .tc) (xs : List (Ref sig .tc)) (E : Valuation τ sig Val → Prop) :
    Prop where
  writes : op.writes = {dv y}
  fresh : op.fresh = ∅
  bufs : op.bufs ⊆ tcRefs τ sig
  dep : ∀ F G : Valuation τ sig Val, (∀ x ∈ xs, F (dv x) = G (dv x)) → op.result F (dv y) = op.result G (dv y)
  read : ∀ W : Valuation τ sig Val, op.result W (dv y) = W (dv y) → E W

/-- An operation that writes one buffer from some others. -/
def Op (op : HloOp τ sig Val) (e : Ref sig .tc × List (Ref sig .tc)) : Prop := Step op e.1 e.2 fun _ => True

/-- A program's operations, what each writes and reads, and what a memory that none of them changes satisfies. -/
structure Line (p : Prog (TpuEff nD τ sig Val Λ .tc) PUnit) (Φ : Valuation τ sig Val → Prop) where
  ops : List (HloOp τ sig Val)
  tr : List (Ref sig .tc × List (Ref sig .tc))
  seq : p = StableHlo.seq ops
  steps : List.Forall₂ Op ops tr
  read : ∀ W : Valuation τ sig Val, (∀ op ∈ ops, op.result W = W) → Φ W

/-- Two straight lines one after the other. -/
theorem seq_bind {p q : Prog (TpuEff nD τ sig Val Λ .tc) PUnit} {l₁ l₂ : List (HloOp τ sig Val)}
    (h₁ : p = StableHlo.seq l₁) (h₂ : q = StableHlo.seq l₂) : (p >>= fun _ => q) = StableHlo.seq (l₁ ++ l₂) := by
  subst h₁ h₂
  exact (seq_append l₁ l₂).symm

namespace Line

variable {p q k : Prog (TpuEff nD τ sig Val Λ .tc) PUnit} {Φ Ψ E : Valuation τ sig Val → Prop}

/-- No operations. -/
def nil : Line (pure ⟨⟩ : Prog (TpuEff nD τ sig Val Λ .tc) PUnit) (fun _ : Valuation τ sig Val => True) where
  ops := []
  tr := []
  seq := rfl
  steps := .nil
  read _ _ := trivial

/-- One operation before a line. -/
def cons {op : HloOp τ sig Val} {y : Ref sig .tc} {xs : List (Ref sig .tc)} (h : Step op y xs E) (L : Line k Φ) :
    Line ((hlo rfl op fun _ => .ret (⟨⟩ : PUnit)) >>= fun _ => k) (fun W => E W ∧ Φ W) where
  ops := op :: L.ops
  tr := (y, xs) :: L.tr
  seq := IsSeq.cons L.seq
  steps := .cons ⟨h.writes, h.fresh, h.bufs, h.dep, fun _ _ => trivial⟩ L.steps
  read W hW := ⟨h.read W (congrFun (hW op List.mem_cons_self) _), L.read W fun o ho => hW o (List.mem_cons_of_mem _ ho)⟩

/-- One operation alone. -/
def one {op : HloOp τ sig Val} {y : Ref sig .tc} {xs : List (Ref sig .tc)} (h : Step op y xs E) :
    Line (hlo rfl op fun _ => .ret (⟨⟩ : PUnit) : Prog (TpuEff nD τ sig Val Λ .tc) PUnit) E where
  ops := [op]
  tr := [(y, xs)]
  seq := rfl
  steps := .cons ⟨h.writes, h.fresh, h.bufs, h.dep, fun _ _ => trivial⟩ .nil
  read W hW := h.read W (congrFun (hW op List.mem_cons_self) _)

/-- A line after a line. -/
def bind (L : Line p Φ) (M : Line q Ψ) : Line (p >>= fun _ => q) (fun W => Φ W ∧ Ψ W) where
  ops := L.ops ++ M.ops
  tr := L.tr ++ M.tr
  seq := seq_bind L.seq M.seq
  steps := List.rel_append L.steps M.steps
  read W hW := ⟨L.read W fun o ho => hW o (List.mem_append_left _ ho),
    M.read W fun o ho => hW o (List.mem_append_right _ ho)⟩

/-- A weaker reading of a line. -/
def mono (L : Line p Φ) (h : ∀ W, Φ W → Ψ W) : Line p Ψ where
  ops := L.ops
  tr := L.tr
  seq := L.seq
  steps := L.steps
  read W hW := h W (L.read W hW)

end Line

/-- The buffers are written in increasing order from `n` on, each from earlier ones. -/
def inOrder : Nat → List (Ref sig .tc × List (Ref sig .tc)) → Bool
  | _, [] => true
  | n, (y, xs) :: tr => n.ble y.idx.val && xs.all (fun x => x.idx.val.blt y.idx.val) && inOrder (y.idx.val + 1) tr

/-- Operations in order leave a buffer before the first alone. -/
theorem after_before {ops : List (HloOp τ sig Val)} {tr : List (Ref sig .tc × List (Ref sig .tc))}
    (h : List.Forall₂ Op ops tr) {n : Nat} (ho : inOrder n tr = true) (V : Valuation τ sig Val) {r : Ref sig .tc}
    (hr : r.idx.val < n) : after ops V (dv r) = V (dv r) := by
  induction h generalizing n V with
  | nil => rfl
  | @cons op e ops tr hop _ ih =>
    obtain ⟨y, xs⟩ := e
    simp only [inOrder, Bool.and_eq_true] at ho
    have hy := Nat.le_of_ble_eq_true ho.1.1
    rw [after_cons, ih ho.2 _ (by omega)]
    refine op.result_of_not_mem V ?_
    rw [hop.writes, Finset.mem_singleton]
    exact devRef_ne_of_ne fun e => by rw [e] at hr; exact absurd hr (by show ¬ y.idx.val < n; omega)

/-- Operations in order leave a memory that none of them changes. -/
theorem after_fixed {ops : List (HloOp τ sig Val)} {tr : List (Ref sig .tc × List (Ref sig .tc))}
    (h : List.Forall₂ Op ops tr) {n : Nat} (ho : inOrder n tr = true) (V : Valuation τ sig Val) :
    ∀ op ∈ ops, op.result (after ops V) = after ops V := by
  induction h generalizing n V with
  | nil => exact fun _ ho => nomatch ho
  | @cons op e ops tr hop hs ih =>
    obtain ⟨y, xs⟩ := e
    simp only [inOrder, Bool.and_eq_true, List.all_eq_true] at ho
    intro o hmem
    rw [after_cons]
    rcases List.mem_cons.mp hmem with rfl | hmem
    · refine funext fun b => ?_
      by_cases hb : b ∈ o.writes
      · rw [hop.writes, Finset.mem_singleton] at hb
        subst hb
        rw [after_before hs ho.2 _ (Nat.lt_succ_self _)]
        refine hop.dep _ _ fun x hx => ?_
        have hlt : x.idx.val < y.idx.val := by simpa using ho.1.2 x hx
        rw [after_before hs ho.2 _ (by omega)]
        refine o.result_of_not_mem V ?_
        rw [hop.writes, Finset.mem_singleton]
        exact devRef_ne_of_ne fun e => by subst e; exact absurd hlt (Nat.lt_irrefl _)
      · exact o.result_of_not_mem _ hb
    · exact ih ho.2 _ o hmem

/-- A line in order runs to a memory that satisfies its reading and holds the buffers before the first as launched. -/
theorem Line.run {main : Dev nD → Prog (TpuEff nD τ sig Val Λ .tc) PUnit} {Φ : Valuation τ sig Val → Prop}
    {p : Prog (TpuEff nD τ sig Val Λ .tc) PUnit} (L : Line p Φ) (hp : ∀ d, main d = p) (defs : Defs nD τ sig Val Λ)
    (hR : (Finset.univ.filter fun b : Ref sig .tc => b.isScoped) = ∅)
    (hC : (Finset.univ.filter fun sm : SemLoc sig => sm.isScoped .tc) = ∅)
    {n : Nat} (ho : inOrder n L.tr = true) (m : (ℓ : Loc nD τ sig) → Buf Val ℓ) (ρ : Dev nD → PrngReg) :
    θ_run defs (onTc (τ := τ) main) ⟨m, fun _ => 0, ρ⟩ fun r => ∀ d : Dev nD, ∃ W : Valuation τ sig Val, Φ W ∧
      (∀ b : Ref sig .tc, r.2.mem ((d.tc : Thread nD τ).loc b) = W (dv b)) ∧
      ∀ b : Ref sig .tc, b.idx.val < n → W (dv b) = launchContents m d (dv b) := by
  have hall : ∀ op ∈ L.ops, op.fresh = ∅ ∧ op.bufs ⊆ tcRefs τ sig := by
    have := L.steps
    generalize L.ops = ops at this
    generalize L.tr = tr at this
    induction this with
    | nil => exact fun _ h => nomatch h
    | cons h _ ih => exact List.forall_mem_cons.mpr ⟨⟨h.fresh, h.bufs⟩, ih⟩
  refine θ_run_mono (run_seq hR hC defs main (fun _ => L.ops) (fun d => (hp d).trans L.seq)
    (fun _ => List.forall_iff_forall_mem.mpr fun o h => (hall o h).2) m ρ (fun _ o h => (hall o h).1)) ?_
  exact fun r hr d => ⟨_, L.read _ (after_fixed L.steps ho _), hr d, fun b hb => after_before L.steps ho _ hb⟩

/-! ## The equations the operations give -/

section
variable {a b c e x y : Ref sig .tc}

/-- A constant. -/
theorem step_nullary (v : y.ty.Contents Val) (hy) :
    Step (nullary (τ := τ) y v hy) y [] fun W => W (dv y) = v where
  writes := rfl
  fresh := rfl
  bufs := by apply nullary_bufs_sub
  dep F G _ := by rw [nullary_result', nullary_result']
  read W h := by rw [nullary_result'] at h; exact h.symm

/-- An operation of one operand. -/
theorem step_unary (f : x.ty.Contents Val → y.ty.Contents Val) (hx hy) :
    Step (unary (τ := τ) x y f hx hy) y [x] fun W => W (dv y) = f (W (dv x)) where
  writes := rfl
  fresh := rfl
  bufs := by apply unary_bufs_sub
  dep F G h := by rw [unary_result', unary_result', h x (by simp)]
  read W h := by rw [unary_result'] at h; exact h.symm

/-- An operation of two operands. -/
theorem step_binary (f : a.ty.Contents Val → b.ty.Contents Val → y.ty.Contents Val) (ha hb hy) :
    Step (binary (τ := τ) a b y f ha hb hy) y [a, b] fun W => W (dv y) = f (W (dv a)) (W (dv b)) where
  writes := rfl
  fresh := rfl
  bufs := by apply binary_bufs_sub
  dep F G h := by rw [binary_result', binary_result', h a (by simp), h b (by simp)]
  read W h := by rw [binary_result'] at h; exact h.symm

/-- A reshape. -/
theorem step_reshape (he hn hx hy) :
    Step (reshape (τ := τ) (Val := Val) x y he hn hx hy) y [x]
      fun W => W (dv y) = fun i => he ▸ shapeCast y.ty.shape (W (dv x)) hn i where
  writes := rfl
  fresh := rfl
  bufs := by apply reshape_bufs_sub
  dep F G h := by rw [reshape_result', reshape_result', h x (by simp)]
  read W h := by rw [reshape_result'] at h; exact h.symm

end

section
variable {Ta Tb Tc Te Tx Ty : BufTy}

/-- What a buffer is cast to and back is itself. -/
theorem get_of_toBuf {W : Valuation τ sig Val} {y : TRef sig Ty} {v : Ty.Contents Val}
    (h : W (dv y.ref) = y.toBuf v) : get W y = v := by
  unfold get; rw [h]; exact TRef.ofBuf_toBuf y v

/-- A constant, in a function's body. -/
theorem step_nullaryT (y : TRef sig Ty) (v : Ty.Contents Val) :
    Step (TRef.nullary (τ := τ) y v) y.ref [] fun W => get W y = v :=
  have h := step_nullary (τ := τ) (y.toBuf v) y.dev
  ⟨h.writes, h.fresh, h.bufs, h.dep, fun W e => get_of_toBuf (h.read W e)⟩

/-- An operation of one operand, in a function's body. -/
theorem step_unaryT (x : TRef sig Tx) (y : TRef sig Ty) (f : Tx.Contents Val → Ty.Contents Val) :
    Step (TRef.unary (τ := τ) x y f) y.ref [x.ref] fun W => get W y = f (get W x) :=
  have h := step_unary (τ := τ) (fun u => y.toBuf (f (x.ofBuf u))) x.dev y.dev
  ⟨h.writes, h.fresh, h.bufs, h.dep, fun W e => get_of_toBuf (h.read W e)⟩

/-- An operation of two operands, in a function's body. -/
theorem step_binaryT (a : TRef sig Ta) (b : TRef sig Tb) (y : TRef sig Ty)
    (f : Ta.Contents Val → Tb.Contents Val → Ty.Contents Val) :
    Step (TRef.binary (τ := τ) a b y f) y.ref [a.ref, b.ref] fun W => get W y = f (get W a) (get W b) :=
  have h := step_binary (τ := τ) (fun u v => y.toBuf (f (a.ofBuf u) (b.ofBuf v))) a.dev b.dev y.dev
  ⟨h.writes, h.fresh, h.bufs, h.dep, fun W e => get_of_toBuf (h.read W e)⟩

/-- An operation of three operands, in a function's body. -/
theorem step_ternaryT (c : TRef sig Tc) (a : TRef sig Ta) (b : TRef sig Tb) (y : TRef sig Ty)
    (f : Tc.Contents Val → Ta.Contents Val → Tb.Contents Val → Ty.Contents Val) :
    Step (TRef.ternary (τ := τ) c a b y f) y.ref [c.ref, a.ref, b.ref]
      fun W => get W y = f (get W c) (get W a) (get W b) where
  writes := rfl
  fresh := rfl
  bufs := by apply ternary_bufs_sub
  dep F G h := by rw [ternary_result', ternary_result', h c.ref (by simp), h a.ref (by simp), h b.ref (by simp)]
  read W h := by rw [ternary_result'] at h; exact get_of_toBuf h.symm

/-- An operation of four operands, in a function's body. -/
theorem step_quaternaryT (a : TRef sig Ta) (b : TRef sig Tb) (c : TRef sig Tc) (e : TRef sig Te) (y : TRef sig Ty)
    (f : Ta.Contents Val → Tb.Contents Val → Tc.Contents Val → Te.Contents Val → Ty.Contents Val) :
    Step (TRef.quaternary (τ := τ) a b c e y f) y.ref [a.ref, b.ref, c.ref, e.ref]
      fun W => get W y = f (get W a) (get W b) (get W c) (get W e) where
  writes := rfl
  fresh := rfl
  bufs := by apply quaternary_bufs_sub
  dep F G h := by
    rw [quaternary_result', quaternary_result', h a.ref (by simp), h b.ref (by simp), h c.ref (by simp),
      h e.ref (by simp)]
  read W h := by rw [quaternary_result'] at h; exact get_of_toBuf h.symm

/-- A reshape, in a function's body. -/
theorem step_reshapeT (x : TRef sig Tx) (y : TRef sig Ty) (he : Tx.elt = Ty.elt)
    (hn : Tx.shape.ShapeCasts Ty.shape) :
    Step (TRef.reshape (τ := τ) (Val := Val) x y he hn) y.ref [x.ref]
      fun W => get W y = fun i => he ▸ shapeCast Ty.shape (get W x) hn i := by
  obtain ⟨x, rfl, hx, hx'⟩ := x
  obtain ⟨y, rfl, hy, hy'⟩ := y
  exact step_reshape (τ := τ) (Val := Val) he hn ⟨hx, hx'⟩ ⟨hy, hy'⟩

end

/-! ## A line's head, by its operation -/

namespace Line

variable {k : Prog (TpuEff nD τ sig Val Λ .tc) PUnit} {Φ : Valuation τ sig Val → Prop}

section
variable {a b x y : Ref sig .tc}

/-- A constant before a line. -/
def nul {v : y.ty.Contents Val} {hy} (L : Line k Φ) :
    Line ((hlo rfl (nullary (τ := τ) y v hy) fun _ => .ret (⟨⟩ : PUnit)) >>= fun _ => k)
      (fun W => W (dv y) = v ∧ Φ W) := cons (step_nullary v hy) L

/-- An operation of one operand before a line. -/
def un {f : x.ty.Contents Val → y.ty.Contents Val} {hx hy} (L : Line k Φ) :
    Line ((hlo rfl (unary (τ := τ) x y f hx hy) fun _ => .ret (⟨⟩ : PUnit)) >>= fun _ => k)
      (fun W => W (dv y) = f (W (dv x)) ∧ Φ W) := cons (step_unary f hx hy) L

/-- An operation of two operands before a line. -/
def bin {f : a.ty.Contents Val → b.ty.Contents Val → y.ty.Contents Val} {ha hb hy} (L : Line k Φ) :
    Line ((hlo rfl (binary (τ := τ) a b y f ha hb hy) fun _ => .ret (⟨⟩ : PUnit)) >>= fun _ => k)
      (fun W => W (dv y) = f (W (dv a)) (W (dv b)) ∧ Φ W) := cons (step_binary f ha hb hy) L

/-- A reshape before a line. -/
def resh {he hn hx hy} (L : Line k Φ) :
    Line ((hlo rfl (reshape (τ := τ) (Val := Val) x y he hn hx hy) fun _ => .ret (⟨⟩ : PUnit)) >>= fun _ => k)
      (fun W => (W (dv y) = fun i => he ▸ shapeCast y.ty.shape (W (dv x)) hn i) ∧ Φ W) :=
  cons (step_reshape he hn hx hy) L

end

section
variable {Ta Tb Tc Te Tx Ty : BufTy} {a : TRef sig Ta} {b : TRef sig Tb} {c : TRef sig Tc} {e : TRef sig Te}
  {x : TRef sig Tx} {y : TRef sig Ty}

/-- A constant before a line, in a function's body. -/
def nulT {v : Ty.Contents Val} (L : Line k Φ) :
    Line ((hlo rfl (TRef.nullary (τ := τ) y v) fun _ => .ret (⟨⟩ : PUnit)) >>= fun _ => k)
      (fun W => get W y = v ∧ Φ W) := cons (step_nullaryT y v) L

/-- An operation of one operand before a line, in a function's body. -/
def unT {f : Tx.Contents Val → Ty.Contents Val} (L : Line k Φ) :
    Line ((hlo rfl (TRef.unary (τ := τ) x y f) fun _ => .ret (⟨⟩ : PUnit)) >>= fun _ => k)
      (fun W => get W y = f (get W x) ∧ Φ W) := cons (step_unaryT x y f) L

/-- An operation of two operands before a line, in a function's body. -/
def binT {f : Ta.Contents Val → Tb.Contents Val → Ty.Contents Val} (L : Line k Φ) :
    Line ((hlo rfl (TRef.binary (τ := τ) a b y f) fun _ => .ret (⟨⟩ : PUnit)) >>= fun _ => k)
      (fun W => get W y = f (get W a) (get W b) ∧ Φ W) := cons (step_binaryT a b y f) L

/-- The last operation of a part of a body. -/
def lastT {f : Ta.Contents Val → Tb.Contents Val → Ty.Contents Val} :
    Line (hlo rfl (TRef.binary (τ := τ) a b y f) fun _ => .ret (⟨⟩ : PUnit) :
      Prog (TpuEff nD τ sig Val Λ .tc) PUnit) (fun W => get W y = f (get W a) (get W b)) := one (step_binaryT a b y f)

/-- An operation of three operands before a line, in a function's body. -/
def terT {f : Tc.Contents Val → Ta.Contents Val → Tb.Contents Val → Ty.Contents Val} (L : Line k Φ) :
    Line ((hlo rfl (TRef.ternary (τ := τ) c a b y f) fun _ => .ret (⟨⟩ : PUnit)) >>= fun _ => k)
      (fun W => get W y = f (get W c) (get W a) (get W b) ∧ Φ W) := cons (step_ternaryT c a b y f) L

/-- An operation of four operands before a line, in a function's body. -/
def quaT {f : Ta.Contents Val → Tb.Contents Val → Tc.Contents Val → Te.Contents Val → Ty.Contents Val}
    (L : Line k Φ) :
    Line ((hlo rfl (TRef.quaternary (τ := τ) a b c e y f) fun _ => .ret (⟨⟩ : PUnit)) >>= fun _ => k)
      (fun W => get W y = f (get W a) (get W b) (get W c) (get W e) ∧ Φ W) := cons (step_quaternaryT a b c e y f) L

/-- A reshape before a line, in a function's body. -/
def reshT {he : Tx.elt = Ty.elt} {hn : Tx.shape.ShapeCasts Ty.shape} (L : Line k Φ) :
    Line ((hlo rfl (TRef.reshape (τ := τ) (Val := Val) x y he hn) fun _ => .ret (⟨⟩ : PUnit)) >>= fun _ => k)
      (fun W => (get W y = fun i => he ▸ shapeCast Ty.shape (get W x) hn i) ∧ Φ W) :=
  cons (step_reshapeT x y he hn) L

end

end Line

end FfcLine

end

end
-- ==== Proof.Threefry.lean ====
/-
  The threefry-2x32 generator, over any operations on words, and on many lanes at once.

  `threefry` is the generator's twenty rounds and five key injections over an addition, an exclusive or and a left
  rotation. `word` takes them on 32-bit words; `lanes n` takes them on one natural number that holds `n` words, one in
  each 64 bits, so that arithmetic on large numbers runs the generator for many counters at a time. `lanes_rel` says
  the second is the first in every lane.
-/
module

public import Mathlib.Data.Nat.Bitwise
public import Mathlib.Tactic.Ring

@[expose] public section

namespace Threefry

/-- The operations the generator takes on its words. -/
structure Ops (α : Type) where
  add : α → α → α
  xor : α → α → α
  rot : Nat → α → α

section
variable {α β : Type}

/-- One round: the words are added, and the second is rotated and mixed in. -/
def round (o : Ops α) (r : Nat) (s : α × α) : α × α :=
  (o.add s.1 s.2, o.xor (o.add s.1 s.2) (o.rot r s.2))

/-- Four rounds of the given rotations. -/
def rounds (o : Ops α) (r : Nat × Nat × Nat × Nat) (s : α × α) : α × α :=
  round o r.2.2.2 (round o r.2.2.1 (round o r.2.1 (round o r.1 s)))

/-- A key injection: a key word into each word, and a counter into the second. -/
def inject (o : Ops α) (a b c : α) (s : α × α) : α × α := (o.add s.1 a, o.add (o.add s.2 b) c)

/-- The rotations of the odd groups of four rounds. -/
def rotA : Nat × Nat × Nat × Nat := (13, 15, 26, 6)

/-- The rotations of the even groups of four rounds. -/
def rotB : Nat × Nat × Nat × Nat := (17, 29, 16, 24)

/-- The generator: `c` gives a constant as a word, `k0 k1 k2` are the key words. -/
def threefry (o : Ops α) (c : Nat → α) (k0 k1 k2 : α) (s : α × α) : α × α :=
  inject o k2 k0 (c 5) <| rounds o rotA <|
  inject o k1 k2 (c 4) <| rounds o rotB <|
  inject o k0 k1 (c 3) <| rounds o rotA <|
  inject o k2 k0 (c 2) <| rounds o rotB <|
  inject o k1 k2 (c 1) <| rounds o rotA <|
  (o.add s.1 k0, o.add s.2 k1)

/-- A relation between words that the operations keep, for the rotations by less than 32. -/
structure Rel (o : Ops α) (o' : Ops β) (R : α → β → Prop) : Prop where
  add : ∀ {a a' b b'}, R a a' → R b b' → R (o.add a b) (o'.add a' b')
  xor : ∀ {a a' b b'}, R a a' → R b b' → R (o.xor a b) (o'.xor a' b')
  rot : ∀ {r a a'}, r ≤ 31 → R a a' → R (o.rot r a) (o'.rot r a')

variable {o : Ops α} {o' : Ops β} {R : α → β → Prop}

/-- A kept relation is kept by a round. -/
theorem Rel.round (h : Rel o o' R) {r : Nat} (hr : r ≤ 31) {s : α × α} {s' : β × β}
    (hs : R s.1 s'.1 ∧ R s.2 s'.2) :
    R (Threefry.round o r s).1 (Threefry.round o' r s').1 ∧ R (Threefry.round o r s).2 (Threefry.round o' r s').2 :=
  ⟨h.add hs.1 hs.2, h.xor (h.add hs.1 hs.2) (h.rot hr hs.2)⟩

/-- A kept relation is kept by four rounds. -/
theorem Rel.rounds (h : Rel o o' R) {r : Nat × Nat × Nat × Nat}
    (hr : r.1 ≤ 31 ∧ r.2.1 ≤ 31 ∧ r.2.2.1 ≤ 31 ∧ r.2.2.2 ≤ 31) {s : α × α} {s' : β × β}
    (hs : R s.1 s'.1 ∧ R s.2 s'.2) :
    R (Threefry.rounds o r s).1 (Threefry.rounds o' r s').1 ∧ R (Threefry.rounds o r s).2 (Threefry.rounds o' r s').2 :=
  h.round hr.2.2.2 (h.round hr.2.2.1 (h.round hr.2.1 (h.round hr.1 hs)))

/-- A kept relation is kept by a key injection. -/
theorem Rel.inject (h : Rel o o' R) {a b c : α} {a' b' c' : β} (ha : R a a') (hb : R b b') (hc : R c c')
    {s : α × α} {s' : β × β} (hs : R s.1 s'.1 ∧ R s.2 s'.2) :
    R (Threefry.inject o a b c s).1 (Threefry.inject o' a' b' c' s').1
      ∧ R (Threefry.inject o a b c s).2 (Threefry.inject o' a' b' c' s').2 :=
  ⟨h.add hs.1 ha, h.add (h.add hs.2 hb) hc⟩

/-- A kept relation is kept by the generator. -/
theorem Rel.threefry (h : Rel o o' R) {c : Nat → α} {c' : Nat → β} (hc : ∀ n, n ≤ 5 → R (c n) (c' n))
    {k0 k1 k2 : α} {k0' k1' k2' : β} (h0 : R k0 k0') (h1 : R k1 k1') (h2 : R k2 k2')
    {s : α × α} {s' : β × β} (hs : R s.1 s'.1 ∧ R s.2 s'.2) :
    R (Threefry.threefry o c k0 k1 k2 s).1 (Threefry.threefry o' c' k0' k1' k2' s').1
      ∧ R (Threefry.threefry o c k0 k1 k2 s).2 (Threefry.threefry o' c' k0' k1' k2' s').2 :=
  have hA : rotA.1 ≤ 31 ∧ rotA.2.1 ≤ 31 ∧ rotA.2.2.1 ≤ 31 ∧ rotA.2.2.2 ≤ 31 := by decide
  have hB : rotB.1 ≤ 31 ∧ rotB.2.1 ≤ 31 ∧ rotB.2.2.1 ≤ 31 ∧ rotB.2.2.2 ≤ 31 := by decide
  h.inject h2 h0 (hc 5 (by decide)) <| h.rounds hA <| h.inject h1 h2 (hc 4 (by decide)) <| h.rounds hB <|
  h.inject h0 h1 (hc 3 (by decide)) <| h.rounds hA <| h.inject h2 h0 (hc 2 (by decide)) <| h.rounds hB <|
  h.inject h1 h2 (hc 1 (by decide)) <| h.rounds hA ⟨h.add hs.1 h0, h.add hs.2 h1⟩

end

/-- The operations on 32-bit words. -/
def word : Ops (BitVec 32) where
  add a b := a + b
  xor a b := a ^^^ b
  rot r a := (a <<< r) ||| (a >>> (32 - r))

/-- The constant mixed into the third key word. -/
def parity : BitVec 32 := 466688986#32

/-- The generator on words, of a key and a counter. -/
def gen (k0 k1 x0 x1 : BitVec 32) : BitVec 32 × BitVec 32 :=
  threefry word (BitVec.ofNat 32) k0 k1 (k0 ^^^ k1 ^^^ parity) (x0, x1)

/-! ## Many lanes in one number -/

/-- The first `n` words of `f`, one in each 64 bits. -/
def pack : Nat → (Nat → BitVec 32) → Nat
  | 0, _ => 0
  | n + 1, f => (f 0).toNat + 2 ^ 64 * pack n fun l => f (l + 1)

/-- The operations on packed words; `M` has the low 32 bits of every lane. -/
def lanes (M : Nat) : Ops Nat where
  add a b := (a + b) &&& M
  xor a b := a ^^^ b
  rot r a := ((a <<< r) ||| ((a <<< r) >>> 32)) &&& M

/-- The low 32 bits of each of `n` lanes. -/
def mask (n : Nat) : Nat := pack n fun _ => BitVec.allOnes 32

/-- A bit of a number given by its low 64 bits and the rest. -/
theorem testBit_lane {u : Nat} (U i : Nat) (hu : u < 2 ^ 64) :
    (u + 2 ^ 64 * U).testBit i = if i < 64 then u.testBit i else U.testBit (i - 64) := by
  rw [Nat.add_comm, Nat.testBit_two_pow_mul_add U hu]

/-- A bitwise exclusive or goes lane by lane. -/
theorem xor_lane {u v : Nat} (U V : Nat) (hu : u < 2 ^ 64) (hv : v < 2 ^ 64) :
    (u + 2 ^ 64 * U) ^^^ (v + 2 ^ 64 * V) = (u ^^^ v) + 2 ^ 64 * (U ^^^ V) := by
  refine Nat.eq_of_testBit_eq fun i => ?_
  rw [Nat.testBit_xor, testBit_lane U i hu, testBit_lane V i hv, testBit_lane _ i (Nat.xor_lt_two_pow hu hv)]
  split <;> rw [Nat.testBit_xor]

/-- A bitwise and goes lane by lane. -/
theorem and_lane {u v : Nat} (U V : Nat) (hu : u < 2 ^ 64) (hv : v < 2 ^ 64) :
    (u + 2 ^ 64 * U) &&& (v + 2 ^ 64 * V) = (u &&& v) + 2 ^ 64 * (U &&& V) := by
  refine Nat.eq_of_testBit_eq fun i => ?_
  rw [Nat.testBit_and, testBit_lane U i hu, testBit_lane V i hv,
    testBit_lane _ i (Nat.lt_of_le_of_lt Nat.and_le_left hu)]
  split <;> rw [Nat.testBit_and]

/-- A number folded onto its upper halves of lanes, under a mask of the lower halves, goes lane by lane. -/
theorem fold_lane {u v : Nat} (U V : Nat) (hu : u < 2 ^ 64) (hv : v < 2 ^ 32) :
    ((u + 2 ^ 64 * U) ||| (u + 2 ^ 64 * U) >>> 32) &&& (v + 2 ^ 64 * V)
      = ((u ||| u >>> 32) &&& v) + 2 ^ 64 * ((U ||| U >>> 32) &&& V) := by
  have hv' : v < 2 ^ 64 := Nat.lt_of_lt_of_le hv (by decide)
  refine Nat.eq_of_testBit_eq fun i => ?_
  rw [testBit_lane _ i (Nat.lt_of_le_of_lt Nat.and_le_right hv')]
  simp only [Nat.testBit_and, Nat.testBit_or, Nat.testBit_shiftRight, testBit_lane U _ hu, testBit_lane V _ hv']
  by_cases h : i < 64
  · by_cases h2 : i < 32
    · simp only [h, if_true, show 32 + i < 64 by omega]
    · have : v.testBit i = false :=
        Nat.testBit_lt_two_pow (Nat.lt_of_lt_of_le hv (Nat.pow_le_pow_right (by decide) (by omega)))
      simp only [h, if_true, this, Bool.and_false]
  · simp only [h, if_false, show ¬ 32 + i < 64 by omega, show 32 + i - 64 = 32 + (i - 64) by omega]

/-- A word fits its lane. -/
theorem toNat_lt_lane (a : BitVec 32) : a.toNat < 2 ^ 64 := Nat.lt_of_lt_of_le a.isLt (by decide)

/-- Packed addition adds in every lane. -/
theorem pack_add (n : Nat) (f g : Nat → BitVec 32) :
    (pack n f + pack n g) &&& mask n = pack n fun l => f l + g l := by
  induction n generalizing f g with
  | zero => simp [pack, mask]
  | succ n ih =>
    have h : (f 0).toNat + (g 0).toNat < 2 ^ 64 := by
      have := (f 0).isLt; have := (g 0).isLt; omega
    have e : pack (n + 1) f + pack (n + 1) g
        = ((f 0).toNat + (g 0).toNat) + 2 ^ 64 * (pack n (fun l => f (l + 1)) + pack n fun l => g (l + 1)) := by
      simp only [pack]; ring
    rw [e]
    simp only [mask, pack] at ih ⊢
    rw [and_lane _ _ h (toNat_lt_lane _), ih, BitVec.toNat_add, BitVec.toNat_allOnes, Nat.and_two_pow_sub_one_eq_mod]

/-- Packed exclusive or goes lane by lane. -/
theorem pack_xor (n : Nat) (f g : Nat → BitVec 32) :
    pack n f ^^^ pack n g = pack n fun l => f l ^^^ g l := by
  induction n generalizing f g with
  | zero => simp [pack, mask]
  | succ n ih =>
    simp only [pack]
    rw [xor_lane _ _ (toNat_lt_lane _) (toNat_lt_lane _), ih, BitVec.toNat_xor]

/-- Packed rotation rotates in every lane. -/
theorem pack_rot (n r : Nat) (hr : r ≤ 31) (f : Nat → BitVec 32) :
    (lanes (mask n)).rot r (pack n f) = pack n fun l => word.rot r (f l) := by
  induction n generalizing f with
  | zero => simp [pack, lanes, mask]
  | succ n ih =>
    have hu : (f 0).toNat <<< r < 2 ^ 64 := by
      rw [Nat.shiftLeft_eq]
      calc (f 0).toNat * 2 ^ r < 2 ^ 32 * 2 ^ r := Nat.mul_lt_mul_of_pos_right (f 0).isLt (Nat.two_pow_pos r)
        _ ≤ 2 ^ 32 * 2 ^ 31 := Nat.mul_le_mul_left _ (Nat.pow_le_pow_right (by decide) hr)
        _ ≤ 2 ^ 64 := by decide
    have e : pack (n + 1) f <<< r = (f 0).toNat <<< r + 2 ^ 64 * (pack n fun l => f (l + 1)) <<< r := by
      simp only [pack, Nat.shiftLeft_eq]; ring
    simp only [lanes] at ih ⊢
    rw [e]
    simp only [mask, pack] at ih ⊢
    rw [fold_lane _ _ hu (BitVec.isLt _), ih]
    congr 1
    rw [BitVec.toNat_allOnes, Nat.and_two_pow_sub_one_eq_mod]
    simp only [word, BitVec.toNat_or, BitVec.toNat_shiftLeft, BitVec.toNat_ushiftRight]
    have hs : (f 0).toNat <<< r >>> 32 = (f 0).toNat >>> (32 - r) := by
      rw [Nat.shiftLeft_eq, Nat.shiftRight_eq_div_pow, Nat.shiftRight_eq_div_pow]
      rw [show (2 : Nat) ^ 32 = 2 ^ (32 - r) * 2 ^ r by rw [← Nat.pow_add]; congr 1; omega]
      exact Nat.mul_div_mul_right _ _ (Nat.two_pow_pos r)
    have hlt : (f 0).toNat >>> (32 - r) < 2 ^ 32 :=
      Nat.lt_of_le_of_lt (Nat.shiftRight_le _ _) (f 0).isLt
    rw [hs, Nat.or_mod_two_pow, Nat.mod_eq_of_lt hlt]

/-- `X` packs `n` words whose word of lane `l` is `y`. -/
def Lane (n l X : Nat) (y : BitVec 32) : Prop := ∃ f : Nat → BitVec 32, X = pack n f ∧ f l = y

/-- The operations on packed words are those on words, in every lane. -/
theorem lanes_rel (n l : Nat) : Rel (lanes (mask n)) word (Lane n l) where
  add := by
    rintro _ _ _ _ ⟨f, rfl, rfl⟩ ⟨g, rfl, rfl⟩
    exact ⟨_, pack_add n f g, rfl⟩
  xor := by
    rintro _ _ _ _ ⟨f, rfl, rfl⟩ ⟨g, rfl, rfl⟩
    exact ⟨_, pack_xor n f g, rfl⟩
  rot := by
    rintro r _ _ hr ⟨f, rfl, rfl⟩
    exact ⟨_, pack_rot n r hr f, rfl⟩

/-- The low 64 bits of a packed number are its first word. -/
theorem pack_mod (n : Nat) (f : Nat → BitVec 32) : pack (n + 1) f % 2 ^ 64 = (f 0).toNat := by
  simp only [pack]
  rw [Nat.add_mul_mod_self_left, Nat.mod_eq_of_lt (toNat_lt_lane _)]

/-- A packed number without its low 64 bits packs the later words. -/
theorem pack_div (n : Nat) (f : Nat → BitVec 32) : pack (n + 1) f / 2 ^ 64 = pack n fun l => f (l + 1) := by
  simp only [pack]
  rw [Nat.add_mul_div_left _ _ (by decide), Nat.div_eq_of_lt (toNat_lt_lane _), Nat.zero_add]

/-- Lane `l` of a packed number is its word `l`. -/
theorem Lane.read {n l X : Nat} {y : BitVec 32} (h : Lane n l X y) (hl : l < n) :
    X / (2 ^ 64) ^ l % 2 ^ 64 = y.toNat := by
  obtain ⟨f, rfl, rfl⟩ := h
  induction l generalizing n f with
  | zero =>
    obtain ⟨n, rfl⟩ : ∃ k, n = k + 1 := ⟨n - 1, by omega⟩
    rw [Nat.pow_zero, Nat.div_one, pack_mod]
  | succ l ih =>
    obtain ⟨n, rfl⟩ : ∃ k, n = k + 1 := ⟨n - 1, by omega⟩
    rw [Nat.pow_succ', ← Nat.div_div_eq_div_mul, pack_div]
    exact ih (by omega) _

/-- A word in every lane is the word times a one in every lane. -/
theorem pack_const (n : Nat) (a : BitVec 32) : a.toNat * pack n (fun _ => 1#32) = pack n fun _ => a := by
  induction n with
  | zero => rw [pack, pack, Nat.mul_zero]
  | succ n ih =>
    rw [pack, pack, ← ih, show (1#32).toNat = 1 from rfl]
    ring

end Threefry

end
-- ==== Proof.RefThreefry.lean ====
/-
  The reference's generator calls, as the generator on words.

  Each of the reference's two generator functions that matter (the one that splits the key, the one that draws the edge
  types) is its straight line of operations; its two results at an index are the generator's two words of the key
  arguments and the counters at that index.
-/
module

public import proofs.«01_k».proof.Proof.Gen.ReferenceIdeal
public import proofs.«01_k».proof.Proof.Line
public import proofs.«01_k».proof.Proof.Threefry

@[expose] public section

set_option maxRecDepth 100000

noncomputable section

namespace FfcRef

open Idealize Idealize.ShloMosaic Idealize.ShloMosaic.StableHlo Idealize.SL.Sem
open Cert.ReferenceIdeal FfcLine

variable {F : FTy → Type} [FloatOps F]

/-- The one index of a scalar. -/
def j0 : S_.Idx := fun a => a.elim0

/-- A scalar has one index. -/
theorem eq_j0 (j : S_.Idx) : j = j0 := funext fun a => a.elim0

/-- A scalar broadcast holds the scalar everywhere. -/
theorem bcast0 {S : Shape} {α : Type} {d : Fin S_.rank → Fin S.rank} (hb : S_.BroadcastsInDim S d) (x : S_.Idx → α)
    (i : S.Idx) : broadcastInDim S d hb x i = x j0 := congrArg x (eq_j0 _)

section
variable {S : Shape} {hb : S_.BroadcastsInDim S (![] : Fin 0 → Fin S.rank)} {rest : Prop}
  {X0 X1 : IVec S 32} {p : S.Idx → BitVec 32 × BitVec 32}

/-- Nine operations of the generator are one round at every index. -/
theorem peel_round {s x l l' r r' o : IVec S 32} {c c' : IVec S_ 32} {a a' : BitVec 32} (n : Nat)
    (hp : ∀ i, (X0 i, X1 i) = p i)
    (h : s = addi X0 X1 ∧ c = constantI S_ 32 a ∧ l' = broadcastInDim S ![] hb c ∧ l = Host.shli X1 l' ∧
      c' = constantI S_ 32 a' ∧ r' = broadcastInDim S ![] hb c' ∧ r = Host.shrui X1 r' ∧ o = ori l r ∧ x = xori s o ∧
      rest)
    (hn : a.toNat = n ∧ a'.toNat = 32 - n ∧ 0 < n ∧ n < 32) :
    (∀ i, (s i, x i) = Threefry.round Threefry.word n (p i)) ∧ rest := by
  obtain ⟨rfl, rfl, rfl, rfl, rfl, rfl, rfl, rfl, rfl, h⟩ := h
  obtain ⟨h1, h2, h3, h4⟩ := hn
  refine ⟨fun i => ?_, h⟩
  rw [← hp i]
  simp only [addi, ori, xori, Host.shli, Host.shrui, bcast0, constantI, IntOp.shli, IntOp.shrui, IntOp.addi, IntOp.ori,
    IntOp.xori, h1, h2, h4, show 32 - n < 32 by omega, if_true, BitVec.shiftLeft_eq', BitVec.ushiftRight_eq',
    Threefry.round, Threefry.word]

/-- Seven operations of the generator are one key injection at every index. -/
theorem peel_inject {u x' v y' w z : IVec S 32} {ka kb c : IVec S_ 32} {a : BitVec 32} (hp : ∀ i, (X0 i, X1 i) = p i)
    (h : u = broadcastInDim S ![] hb ka ∧ x' = addi X0 u ∧ v = broadcastInDim S ![] hb kb ∧ y' = addi X1 v ∧
      c = constantI S_ 32 a ∧ w = broadcastInDim S ![] hb c ∧ z = addi y' w ∧ rest) :
    (∀ i, (x' i, z i) = Threefry.inject Threefry.word (ka j0) (kb j0) a (p i)) ∧ rest := by
  obtain ⟨rfl, rfl, rfl, rfl, rfl, rfl, rfl, h⟩ := h
  refine ⟨fun i => ?_, h⟩
  rw [← hp i]
  simp only [addi, bcast0, constantI, IntOp.addi, Threefry.inject, Threefry.word]

/-- The generator's first seven operations: the third key word, and the keys added to the counters. -/
theorem peel_start {x' y' u v : IVec S 32} {ka kb k k' c : IVec S_ 32}
    (h : k' = xori ka kb ∧ c = constantI S_ 32 466688986#32 ∧ k = xori k' c ∧ u = broadcastInDim S ![] hb ka ∧
      x' = addi X0 u ∧ v = broadcastInDim S ![] hb kb ∧ y' = addi X1 v ∧ rest) :
    k j0 = ka j0 ^^^ kb j0 ^^^ Threefry.parity ∧ (∀ i, (x' i, y' i) = (X0 i + ka j0, X1 i + kb j0)) ∧ rest := by
  obtain ⟨rfl, rfl, rfl, rfl, rfl, rfl, rfl, h⟩ := h
  refine ⟨rfl, fun i => ?_, h⟩
  simp only [addi, bcast0, IntOp.addi]

end

/-- The generator on two counters, as the key is split. -/
def lineSplit (a0 a1 : TRef sig ⟨S_, .i32⟩) (a2 a3 : TRef sig ⟨S2, .i32⟩) (φ : fn_threefry2x32.Bufs) :
    Line (fn_threefry2x32.body (F := F) a0 a1 a2 a3 φ) fun W =>
      ∀ i, (get W φ.v171 i, get W φ.v175 i)
        = Threefry.gen (get W a0 j0) (get W a1 j0) (get W a2 i) (get W a3 i) := by
  apply Line.mono
  case L =>
    delta fn_threefry2x32.body
    apply Line.bind
    on_goal 2 => apply Line.bind
    on_goal 3 => apply Line.bind
    all_goals first
      | delta fn_threefry2x32.body_part0
      | delta fn_threefry2x32.body_part1
      | delta fn_threefry2x32.body_part2
      | delta fn_threefry2x32.body_part3
      | skip
    all_goals with_reducible repeat first
      | apply Line.binT
      | apply Line.nulT
      | apply Line.unT
      | exact Line.lastT
      | exact Line.nil
  case h =>
    intro W h
    beta_reduce at h
    simp only [and_assoc] at h
    obtain ⟨hk, p, h⟩ := peel_start h
    obtain ⟨p, h⟩ := peel_round 13 p h (by decide)
    obtain ⟨p, h⟩ := peel_round 15 p h (by decide)
    obtain ⟨p, h⟩ := peel_round 26 p h (by decide)
    obtain ⟨p, h⟩ := peel_round 6 p h (by decide)
    obtain ⟨p, h⟩ := peel_inject p h
    obtain ⟨p, h⟩ := peel_round 17 p h (by decide)
    obtain ⟨p, h⟩ := peel_round 29 p h (by decide)
    obtain ⟨p, h⟩ := peel_round 16 p h (by decide)
    obtain ⟨p, h⟩ := peel_round 24 p h (by decide)
    obtain ⟨p, h⟩ := peel_inject p h
    obtain ⟨p, h⟩ := peel_round 13 p h (by decide)
    obtain ⟨p, h⟩ := peel_round 15 p h (by decide)
    obtain ⟨p, h⟩ := peel_round 26 p h (by decide)
    obtain ⟨p, h⟩ := peel_round 6 p h (by decide)
    obtain ⟨p, h⟩ := peel_inject p h
    obtain ⟨p, h⟩ := peel_round 17 p h (by decide)
    obtain ⟨p, h⟩ := peel_round 29 p h (by decide)
    obtain ⟨p, h⟩ := peel_round 16 p h (by decide)
    obtain ⟨p, h⟩ := peel_round 24 p h (by decide)
    obtain ⟨p, h⟩ := peel_inject p h
    obtain ⟨p, h⟩ := peel_round 13 p h (by decide)
    obtain ⟨p, h⟩ := peel_round 15 p h (by decide)
    obtain ⟨p, h⟩ := peel_round 26 p h (by decide)
    obtain ⟨p, h⟩ := peel_round 6 p h (by decide)
    obtain ⟨p, h⟩ := peel_inject p h
    intro i
    rw [p i, hk]
    rfl

/-- The generator on the counters of all draws. -/
def lineDraw (a0 a1 : TRef sig ⟨S_, .i32⟩) (a2 a3 : TRef sig ⟨S64x64x64x3, .i32⟩) (φ : fn_threefry2x32_0.Bufs) :
    Line (fn_threefry2x32_0.body (F := F) a0 a1 a2 a3 φ) fun W =>
      ∀ i, (get W φ.v171 i, get W φ.v175 i)
        = Threefry.gen (get W a0 j0) (get W a1 j0) (get W a2 i) (get W a3 i) := by
  apply Line.mono
  case L =>
    delta fn_threefry2x32_0.body
    apply Line.bind
    on_goal 2 => apply Line.bind
    on_goal 3 => apply Line.bind
    all_goals first
      | delta fn_threefry2x32_0.body_part0
      | delta fn_threefry2x32_0.body_part1
      | delta fn_threefry2x32_0.body_part2
      | delta fn_threefry2x32_0.body_part3
      | skip
    all_goals with_reducible repeat first
      | apply Line.binT
      | apply Line.nulT
      | apply Line.unT
      | exact Line.lastT
      | exact Line.nil
  case h =>
    intro W h
    beta_reduce at h
    simp only [and_assoc] at h
    obtain ⟨hk, p, h⟩ := peel_start h
    obtain ⟨p, h⟩ := peel_round 13 p h (by decide)
    obtain ⟨p, h⟩ := peel_round 15 p h (by decide)
    obtain ⟨p, h⟩ := peel_round 26 p h (by decide)
    obtain ⟨p, h⟩ := peel_round 6 p h (by decide)
    obtain ⟨p, h⟩ := peel_inject p h
    obtain ⟨p, h⟩ := peel_round 17 p h (by decide)
    obtain ⟨p, h⟩ := peel_round 29 p h (by decide)
    obtain ⟨p, h⟩ := peel_round 16 p h (by decide)
    obtain ⟨p, h⟩ := peel_round 24 p h (by decide)
    obtain ⟨p, h⟩ := peel_inject p h
    obtain ⟨p, h⟩ := peel_round 13 p h (by decide)
    obtain ⟨p, h⟩ := peel_round 15 p h (by decide)
    obtain ⟨p, h⟩ := peel_round 26 p h (by decide)
    obtain ⟨p, h⟩ := peel_round 6 p h (by decide)
    obtain ⟨p, h⟩ := peel_inject p h
    obtain ⟨p, h⟩ := peel_round 17 p h (by decide)
    obtain ⟨p, h⟩ := peel_round 29 p h (by decide)
    obtain ⟨p, h⟩ := peel_round 16 p h (by decide)
    obtain ⟨p, h⟩ := peel_round 24 p h (by decide)
    obtain ⟨p, h⟩ := peel_inject p h
    obtain ⟨p, h⟩ := peel_round 13 p h (by decide)
    obtain ⟨p, h⟩ := peel_round 15 p h (by decide)
    obtain ⟨p, h⟩ := peel_round 26 p h (by decide)
    obtain ⟨p, h⟩ := peel_round 6 p h (by decide)
    obtain ⟨p, h⟩ := peel_inject p h
    intro i
    rw [p i, hk]
    rfl

end FfcRef

end

end
-- ==== Proof.RefDraw.lean ====
/-
  The reference's keys and its draws.

  `lineKeys`: the rows of the split are the generator's words of the key, a row's counter being its number.
  `lineUniform`, `lineGumbel`: the sample at an index is a function of the 32 bits that the generator draws for the
  index's counter.
-/
module

public import proofs.«01_k».proof.Proof.RefThreefry
public import Idealize.ShloMosaic.Lib.Pipeline.Value
public import Idealize.ShloMosaic.Lib.Pointwise.SelectCore

@[expose] public section

set_option maxRecDepth 100000

noncomputable section

namespace FfcRef

open Idealize Idealize.ShloMosaic Idealize.ShloMosaic.StableHlo Idealize.SL.Sem
open Cert.ReferenceIdeal FfcLine

variable {F : FTy → Type} [FloatOps F]

/-- An index of a pair. -/
def i2 (n : Nat) (hn : n < 2 := by decide) : S2.Idx := fun a => ⟨n, by fin_cases a; exact hn⟩

/-- The one index of a row of one. -/
def s1 : S1.Idx := fun a => ⟨0, by fin_cases a; decide⟩

/-- A word of a pair, sliced out and made a scalar, is that word. -/
theorem word_of_pair {α : Type} (x : S2.Idx → α) (n : Nat) (hn : n < 2) (hs : S2.Slices ![n] S1)
    (hc : S1.ShapeCasts S_) (j : S_.Idx) : shapeCast S_ (extractStridedSlice S1 ![n] x hs) hc j = x (i2 n hn) := by
  rw [shapeCast_apply _ hc j s1 ?_]
  · refine congrArg x (funext fun a => Fin.ext ?_)
    fin_cases a
    rfl
  · have h1 := (S1.rowMajor s1).isLt
    have h2 := (S_.rowMajor j).isLt
    have e1 : S1.numel = 1 := by decide
    have e2 : S_.numel = 1 := by decide
    omega

/-- The one index of a rank-four scalar. -/
def j1 : S1x1x1x1.Idx := fun a => ⟨0, by fin_cases a <;> decide⟩

/-- A rank-four scalar broadcast holds the scalar everywhere. -/
theorem bcast1 {α : Type} {d : Fin 4 → Fin 4} (hb : S1x1x1x1.BroadcastsInDim S64x64x64x3 d) (x : S1x1x1x1.Idx → α)
    (i : S64x64x64x3.Idx) : broadcastInDim S64x64x64x3 d hb x i = x j1 := by
  refine congrArg x (funext fun a => Fin.ext ?_)
  fin_cases a <;> rfl

/-- A small counter's low 32 bits. -/
theorem low_word (n : Nat) : (BitVec.ofNat 64 n).setWidth 32 = BitVec.ofNat 32 n := by
  rw [BitVec.setWidth_ofNat_of_le (by decide)]

/-- A small counter's high 32 bits. -/
theorem high_word (n : Nat) (hn : n < 2 ^ 32) : (BitVec.ofNat 64 n >>> 32).setWidth 32 = 0#32 := by
  refine BitVec.eq_of_toNat_eq ?_
  rw [BitVec.toNat_setWidth, BitVec.toNat_ushiftRight, BitVec.toNat_ofNat, Nat.mod_eq_of_lt (a := n) (by omega),
    Nat.shiftRight_eq_div_pow, Nat.div_eq_of_lt hn]
  rfl

/-- The generator's pair of words for the counter `n` under the key of two words `k`. -/
def pairOf (k : S2.Idx → BitVec 32) (n : Nat) : BitVec 32 × BitVec 32 :=
  Threefry.gen (k (i2 0)) (k (i2 1)) 0#32 (BitVec.ofNat 32 n)

/-- Splitting the key: row `r` holds the generator's two words for the counter `r`. -/
def lineKeys (a0 : TRef sig ⟨S2, .i32⟩) (φ : fn_threefry_split.Bufs) :
    Line (fn_threefry_split.body (F := F) a0 φ) fun W => ∀ i : S2x2.Idx,
      get W φ.v14 i = if (i 1).val = 0 then (pairOf (get W a0) (i 0).val).1 else (pairOf (get W a0) (i 0).val).2 := by
  apply Line.mono
  case L =>
    delta fn_threefry_split.body
    with_reducible repeat first
      | apply Line.binT
      | apply Line.nulT
      | apply Line.unT
      | apply Line.reshT
      | exact Line.nil
      | apply Line.bind (lineSplit _ _ _ _ _)
  case h =>
    intro W h i
    obtain ⟨e0, e1, e2, e3, e4, ec, e5, e6, ec0, e7, e8, e9, e10, g, e12, e13, e14, -⟩ := h
    have hx (j : S2.Idx) : get W φ.v6 j = BitVec.ofNat 64 (j 0).val := by
      rw [e6, e5, ec, e4]
      simp only [muli, bcast0, constantI, iotaInDim, IntOp.muli, BitVec.one_mul]
    have hg (j : S2.Idx) : (get W φ.call0.v171 j, get W φ.call0.v175 j) = pairOf (get W a0) (j 0).val := by
      rw [g j, e1, e0, e3, e2, e10, e9, e8, e7, ec0, pairOf]
      simp only [trunci, Host.shrui, bcast0, constantI, IntOp.shrui, hx, low_word]
      rw [if_pos (by decide), BitVec.ushiftRight_eq', show (32#64).toNat = 32 from rfl,
        high_word _ (Nat.lt_trans (j 0).isLt (by decide))]
      exact congrArg₂ (fun a b => Threefry.gen a b 0#32 _) (word_of_pair _ 0 (by decide) _ _ _)
        (word_of_pair _ 1 (by decide) _ _ _)
    rw [e14, e13, e12, concatenate_pair_apply]
    have hi : (i 1).val < 2 := (i 1).isLt
    by_cases h : (i 1).val = 0
    · rw [if_pos h]
      exact (dif_pos (show (i 1).val < 1 by omega)).trans (congrArg Prod.fst (hg _))
    · rw [if_neg h]
      exact (dif_neg (show ¬ (i 1).val < 1 by omega)).trans (congrArg Prod.snd (hg _))

/-- The uniform sample of 32 drawn bits: their first 23 as a fraction, scaled to start at the least normal number. -/
def uniOf (one tiny : F .f32) (b : BitVec 32) : F .f32 :=
  FloatOps.maximumf tiny (FloatOps.addf (FloatOps.mulf
    (FloatOps.subf (FloatOps.ofBits .f32 (b >>> 9 ||| 0x3F800000#32)) (FloatOps.ofBits .f32 0x3F800000#32))
    (FloatOps.subf one tiny)) tiny)

/-- The counter of an index. -/
def ctrOf (i : S64x64x64x3.Idx) : Nat := 12288 * (i 0).val + 192 * (i 1).val + 3 * (i 2).val + (i 3).val

/-- The uniform samples. -/
def lineUniform (a0 : TRef sig ⟨S2, .i32⟩) (a1 a2 : TRef sig ⟨S_, .f32⟩) (φ : fn_uniform.Bufs) :
    Line (fn_uniform.body (F := F) a0 a1 a2 φ) fun W => ∀ i : S64x64x64x3.Idx,
      get W φ.v41 i = uniOf (get W a1 j0) (get W a2 j0)
        ((pairOf (get W a0) (ctrOf i)).1 ^^^ (pairOf (get W a0) (ctrOf i)).2) := by
  apply Line.mono
  case L =>
    delta fn_uniform.body
    with_reducible repeat first
      | apply Line.binT
      | apply Line.nulT
      | apply Line.unT
      | apply Line.reshT
      | exact Line.nil
      | apply Line.bind (lineDraw _ _ _ _ _)
  case h =>
    intro W h i
    obtain ⟨e0, e1, e2, e3, e4, e5, e6, e7, e8, e9, e10, ec, e11, e12, ec0, e13, e14, ec1, e15, e16, ec2, e17, e18, e19,
      e20, e21, ec3, e22, e23, e24, e25, g, e27, ec4, e28, e29, ec5, e30, e31, e32, ef, e33, e34, e35, e36, e37, e38,
      e39, e40, e41, -⟩ := h
    have hx (j : S64x64x64x3.Idx) : get W φ.v21 j = BitVec.ofNat 64 (ctrOf j) := by
      rw [e21, e20, e19, e18, e17, e16, e15, e14, e13, e12, e11, ec, ec0, ec1, ec2, e7, e8, e9, e10]
      simp only [addi, muli, bcast0, constantI, iotaInDim, IntOp.muli, IntOp.addi, ctrOf, BitVec.ofNat_add,
        BitVec.ofNat_mul, BitVec.one_mul]
    have hg : (get W φ.call0.v171 i, get W φ.call0.v175 i) = pairOf (get W a0) (ctrOf i) := by
      have h0 : (i 0).val < 64 := (i 0).isLt
      have h1 : (i 1).val < 64 := (i 1).isLt
      have h2 : (i 2).val < 64 := (i 2).isLt
      have h3 : (i 3).val < 3 := (i 3).isLt
      rw [g i, e4, e3, e6, e5, e25, e24, e23, e22, ec3, pairOf]
      simp only [trunci, Host.shrui, bcast0, constantI, IntOp.shrui, hx, low_word]
      rw [if_pos (by decide), BitVec.ushiftRight_eq', show (32#64).toNat = 32 from rfl,
        high_word _ (by rw [ctrOf]; omega)]
      exact congrArg₂ (fun a b => Threefry.gen a b 0#32 _) (word_of_pair _ 0 (by decide) _ _ _)
        (word_of_pair _ 1 (by decide) _ _ _)
    rw [← hg, e41, e40, e39, e38, e37, e36, e35, e34, e33, ef, e32, e31, e30, ec5, e29, e28, ec4, e27, e2, e1, e0]
    simp only [maximumf, addf, mulf, subf, bcast0, bcast1, bitcastToFloat, ori, xori, Host.shrui, constantI, constant,
      IntOp.ori, IntOp.xori, IntOp.shrui, uniOf, id]
    rw [if_pos (by decide)]
    rfl

end FfcRef

end

end
-- ==== Proof.RefLines.lean ====
/-
  The bodies of the reference's other functions, as lines of operations.

  `lineGumbel`, `lineArgmax` and the selections say what they compute; of the integer draw only that it is a line is
  used, as no sample is all without an edge.
-/
module

public import proofs.«01_k».proof.Proof.RefDraw

@[expose] public section

set_option maxRecDepth 100000

noncomputable section

namespace FfcRef

open Idealize Idealize.ShloMosaic Idealize.ShloMosaic.StableHlo Idealize.SL.Sem
open Cert.ReferenceIdeal FfcLine

variable {F : FTy → Type} [FloatOps F]

/-- The noise of 32 drawn bits: minus the logarithm of minus the logarithm of their uniform sample. -/
def noise (b : BitVec 32) : F .f32 :=
  FloatOps.hostNegf (FloatOps.hostUnary .log (FloatOps.hostNegf (FloatOps.hostUnary .log
    (uniOf (FloatOps.ofBits .f32 0x3F800000#32) (FloatOps.ofBits .f32 0x00800000#32) b))))

/-- The noise at every index. -/
def lineGumbel (a0 : TRef sig ⟨S2, .i32⟩) (φ : fn_gumbel.Bufs) :
    Line (fn_gumbel.body (F := F) a0 φ) fun W => ∀ i : S64x64x64x3.Idx,
      get W φ.v4 i = noise ((pairOf (get W a0) (ctrOf i)).1 ^^^ (pairOf (get W a0) (ctrOf i)).2) := by
  apply Line.mono
  case L =>
    delta fn_gumbel.body
    with_reducible repeat first
      | apply Line.nulT
      | apply Line.unT
      | exact Line.nil
      | apply Line.bind (lineUniform _ _ _ _)
  case h =>
    intro W h i
    obtain ⟨ec, ec0, g, e1, e2, e3, e4, -⟩ := h
    rw [e4, e3, e2, e1]
    simp only [Host.log, Host.negf]
    rw [g i, ec, ec0]
    rfl

/-- The position of the largest, as the reduction with the comparison's own reducer. -/
def lineArgmax (a0 : TRef sig ⟨S64x64x64x3, .f32⟩) (φ : fn_argmax.Bufs) :
    Line (fn_argmax.body (F := F) a0 φ) fun W => ∀ j : S64x64x64.Idx,
      get W φ.v1_1 j = (Host.argReduce reducer_argmax_f32_i32 (get W a0) (iotaInDim S64x64x64x3 32 3)
        (constant S_ .f32 0xFF800000#32) (constantI S_ 32 0#32) Gen.reducesTo_S64x64x64x3_S64x64x64_d3 Gen.h_S_ j).2 := by
  apply Line.mono
  case L =>
    delta fn_argmax.body
    with_reducible repeat first
      | apply Line.nulT
      | apply Line.quaT
      | exact Line.nil
  case h =>
    intro W h j
    obtain ⟨e0, e1, e2, -, e4, -⟩ := h
    rw [e4, e2, e1, e0]

/-- A selection of a constant. -/
def lineWhere (a0 : TRef sig ⟨S64x64x64, .i1⟩) (a1 : TRef sig ⟨S_, .i32⟩) (a2 : TRef sig ⟨S64x64x64, .i32⟩)
    (φ : fn_where.Bufs) : Line (fn_where.body (F := F) a0 a1 a2 φ) fun W => ∀ j : S64x64x64.Idx,
      get W φ.v2 j = Scalar.select (get W a0 j) (get W a1 j0 : BitVec 32) (get W a2 j : BitVec 32) := by
  apply Line.mono
  case L =>
    delta fn_where.body
    with_reducible repeat first
      | apply Line.unT
      | apply Line.terT
      | exact Line.nil
  case h =>
    intro W h j
    obtain ⟨e0, e1, e2, -⟩ := h
    rw [e2, e1, e0]
    exact congrArg (fun x => Scalar.select _ x _) (bcast0 _ _ _)

/-- A row's number for one sample. -/
def mid (j : S64x64x64.Idx) : S64x1x64.Idx := fun a => ⟨![(j 0).val, 0, (j 2).val] a, by
  have h0 : (j 0).val < 64 := (j 0).isLt
  have h2 : (j 2).val < 64 := (j 2).isLt
  fin_cases a
  exacts [h0, Nat.one_pos, h2]⟩

/-- A row's number for one output. -/
def out1 (j : S64x64x64.Idx) : S1x64x1.Idx := fun a => ⟨![0, (j 1).val, 0] a, by
  have h1 : (j 1).val < 64 := (j 1).isLt
  fin_cases a
  exacts [Nat.one_pos, h1, Nat.one_pos]⟩

/-- An input's values broadcast over the outputs. -/
theorem bcast_mid {α : Type} (hb : S64x1x64.BroadcastsInDim S64x64x64 ![0, 1, 2]) (x : S64x1x64.Idx → α)
    (j : S64x64x64.Idx) : broadcastInDim S64x64x64 ![0, 1, 2] hb x j = x (mid j) := by
  refine congrArg x (funext fun a => Fin.ext ?_)
  fin_cases a <;> rfl

/-- An output's value broadcast over the batch and the inputs. -/
theorem bcast_out {α : Type} (hb : S1x64x1.BroadcastsInDim S64x64x64 ![0, 1, 2]) (x : S1x64x1.Idx → α)
    (j : S64x64x64.Idx) : broadcastInDim S64x64x64 ![0, 1, 2] hb x j = x (out1 j) := by
  refine congrArg x (funext fun a => Fin.ext ?_)
  fin_cases a <;> rfl

/-- A selection of a value broadcast over the outputs, of a constant otherwise. -/
def lineWhere4 (a0 : TRef sig ⟨S64x64x64, .i1⟩) (a1 : TRef sig ⟨S64x1x64, .f32⟩) (a2 : TRef sig ⟨S_, .f32⟩)
    (φ : fn_where_4.Bufs) : Line (fn_where_4.body (F := F) a0 a1 a2 φ) fun W => ∀ j : S64x64x64.Idx,
      get W φ.v3 j = Scalar.select (get W a0 j) (get W a1 (mid j) : F .f32) (get W a2 j0 : F .f32) := by
  apply Line.mono
  case L =>
    delta fn_where_4.body
    with_reducible repeat first
      | apply Line.unT
      | apply Line.terT
      | exact Line.nil
  case h =>
    intro W h j
    obtain ⟨e0, e1, e2, e3, -⟩ := h
    rw [e3, e2, e1, e0]
    exact congrArg₂ (Scalar.select _) (bcast_mid _ _ _) (bcast0 _ _ _)

/-- A selection of a value broadcast over the outputs. -/
def lineWhere5 (a0 : TRef sig ⟨S64x64x64, .i1⟩) (a1 : TRef sig ⟨S64x1x64, .f32⟩) (a2 : TRef sig ⟨S64x64x64, .f32⟩)
    (φ : fn_where_5.Bufs) : Line (fn_where_5.body (F := F) a0 a1 a2 φ) fun W => ∀ j : S64x64x64.Idx,
      get W φ.v1 j = Scalar.select (get W a0 j) (get W a1 (mid j) : F .f32) (get W a2 j : F .f32) := by
  apply Line.mono
  case L =>
    delta fn_where_5.body
    with_reducible repeat first
      | apply Line.unT
      | apply Line.terT
      | exact Line.nil
  case h =>
    intro W h j
    obtain ⟨e0, e1, -⟩ := h
    rw [e1, e0]
    exact congrArg (fun x => Scalar.select _ x _) (bcast_mid _ _ _)

/-- A selection between two constants, for each output. -/
def lineWhere6 (a0 : TRef sig ⟨S1x64x1, .i1⟩) (a1 a2 : TRef sig ⟨S_, .f32⟩)
    (φ : fn_where_6.Bufs) : Line (fn_where_6.body (F := F) a0 a1 a2 φ) fun W => ∀ j : S1x64x1.Idx,
      get W φ.v2 j = Scalar.select (get W a0 j) (get W a1 j0) (get W a2 j0) := by
  apply Line.mono
  case L =>
    delta fn_where_6.body
    with_reducible repeat first
      | apply Line.unT
      | apply Line.terT
      | exact Line.nil
  case h =>
    intro W h j
    obtain ⟨e0, e1, e2, -⟩ := h
    rw [e2, e1, e0]
    exact congrArg₂ (Scalar.select _) (bcast0 _ _ _) (bcast0 _ _ _)

/-- A selection of an output's value, of a constant otherwise. -/
def lineWhere7 (a0 : TRef sig ⟨S64x64x64, .i1⟩) (a1 : TRef sig ⟨S1x64x1, .f32⟩) (a2 : TRef sig ⟨S_, .f32⟩)
    (φ : fn_where_7.Bufs) : Line (fn_where_7.body (F := F) a0 a1 a2 φ) fun W => ∀ j : S64x64x64.Idx,
      get W φ.v2 j = Scalar.select (get W a0 j) (get W a1 (out1 j) : F .f32) (get W a2 j0 : F .f32) := by
  apply Line.mono
  case L =>
    delta fn_where_7.body
    with_reducible repeat first
      | apply Line.unT
      | apply Line.terT
      | exact Line.nil
  case h =>
    intro W h j
    obtain ⟨e0, e1, e2, -⟩ := h
    rw [e2, e1, e0]
    exact congrArg₂ (Scalar.select _) (bcast_out _ _ _) (bcast0 _ _ _)

/-- An output's number in a row. -/
def row1 (j : S64x64.Idx) : S1x64.Idx := fun a => ⟨![0, (j 1).val] a, by
  have h1 : (j 1).val < 64 := (j 1).isLt
  fin_cases a
  exacts [Nat.one_pos, h1]⟩

/-- A selection by the output. -/
def lineWhere8 (a0 : TRef sig ⟨S1x64, .i1⟩) (a1 a2 : TRef sig ⟨S64x64, .f32⟩)
    (φ : fn_where_8.Bufs) : Line (fn_where_8.body (F := F) a0 a1 a2 φ) fun W => ∀ j : S64x64.Idx,
      get W φ.v1 j = Scalar.select (get W a0 (row1 j)) (get W a1 j) (get W a2 j) := by
  apply Line.mono
  case L =>
    delta fn_where_8.body
    with_reducible repeat first
      | apply Line.unT
      | apply Line.terT
      | exact Line.nil
  case h =>
    intro W h j
    obtain ⟨e0, e1, -⟩ := h
    rw [e1, e0]
    refine congrArg (fun x => Scalar.select x _ _) (congrArg (get W a0) (funext fun a => Fin.ext ?_))
    fin_cases a <;> rfl

/-- The bounding of a number: a line. -/
def lineClip (a0 a1 a2 : TRef sig ⟨S_, .i32⟩) (φ : fn_clip.Bufs) :
    Line (fn_clip.body (F := F) a0 a1 a2 φ) fun _ => True := by
  apply Line.mono
  case L =>
    delta fn_clip.body
    with_reducible repeat first
      | apply Line.binT
      | exact Line.nil
  case h => exact fun _ _ => trivial

/-- The other bounding of a number: a line. -/
def lineClip1 (a0 a1 a2 : TRef sig ⟨S_, .i32⟩) (φ : fn_clip_1.Bufs) :
    Line (fn_clip_1.body (F := F) a0 a1 a2 φ) fun _ => True := by
  apply Line.mono
  case L =>
    delta fn_clip_1.body
    with_reducible repeat first
      | apply Line.binT
      | exact Line.nil
  case h => exact fun _ _ => trivial

/-- The second splitting of a key: a line. -/
def lineKeys2 (a0 : TRef sig ⟨S2, .i32⟩) (φ : fn_threefry_split_2.Bufs) :
    Line (fn_threefry_split_2.body (F := F) a0 φ) fun _ => True := by
  apply Line.mono
  case L =>
    delta fn_threefry_split_2.body
    with_reducible repeat first
      | apply Line.binT
      | apply Line.nulT
      | apply Line.unT
      | apply Line.reshT
      | exact Line.nil
      | apply Line.bind (lineSplit _ _ _ _ _)
  case h => exact fun _ _ => trivial

/-- The generator's run for the integer draw: a line. -/
def lineDraw3 (a0 a1 : TRef sig ⟨S_, .i32⟩) (a2 a3 : TRef sig ⟨S64x64, .i32⟩) (φ : fn_threefry2x32_3.Bufs) :
    Line (fn_threefry2x32_3.body (F := F) a0 a1 a2 a3 φ) fun _ => True := by
  apply Line.mono
  case L =>
    delta fn_threefry2x32_3.body
    apply Line.bind
    on_goal 2 => apply Line.bind
    on_goal 3 => apply Line.bind
    all_goals first
      | delta fn_threefry2x32_3.body_part0
      | delta fn_threefry2x32_3.body_part1
      | delta fn_threefry2x32_3.body_part2
      | delta fn_threefry2x32_3.body_part3
      | skip
    all_goals with_reducible repeat first
      | apply Line.binT
      | apply Line.nulT
      | apply Line.unT
      | exact Line.lastT
      | exact Line.nil
  case h => exact fun _ _ => trivial

/-- The integer draw: a line. -/
def lineRandint (a0 : TRef sig ⟨S2, .i32⟩) (a1 a2 : TRef sig ⟨S_, .i32⟩) (φ : fn_randint.Bufs) :
    Line (fn_randint.body (F := F) a0 a1 a2 φ) fun _ => True := by
  apply Line.mono
  case L =>
    delta fn_randint.body
    apply Line.bind
    all_goals first
      | delta fn_randint.body_part0
      | delta fn_randint.body_part1
      | skip
    all_goals with_reducible repeat first
      | apply Line.binT
      | apply Line.nulT
      | apply Line.unT
      | apply Line.terT
      | apply Line.reshT
      | exact Line.lastT
      | exact Line.nil
      | apply Line.bind (lineClip _ _ _ _)
      | apply Line.bind (lineClip1 _ _ _ _)
      | apply Line.bind (lineKeys2 _ _)
      | apply Line.bind (lineDraw3 _ _ _ _ _)
  case h => exact fun _ _ => trivial

end FfcRef

end

end
-- ==== Proof.Checks.lean ====
/-
  What the kernel's packed words hold, against the generator.

  `draw n` is the 23-bit number drawn for the counter `n` under the sampling key. The program writes two arrays of 32-bit
  words, `lit0` and `lit1`, at an input feature and a lane; their bits number the steps. The bit of `lit0` says whether
  an edge is there, that of `lit1` whether it is negated. The three draws of an edge decide both: `Entry` says how.
  `chkRow` checks one input feature and one step, all lanes; `chkRow_spec` says what a check means for one lane.
-/
module

public import proofs.«01_k».proof.KernelIdeal
public import proofs.«01_k».proof.Proof.Threefry

@[expose] public section

set_option maxRecDepth 100000

namespace FfcTable

open Threefry Cert.KernelIdeal

/-- The sampling key: the first of the two keys split off the key of seed 42. -/
def key0 : BitVec 32 := 0x6d3e048f#32

/-- The sampling key's second word. -/
def key1 : BitVec 32 := 0x1022172d#32

/-- The 32 bits drawn for a counter. -/
def bits (n : BitVec 32) : BitVec 32 := (gen key0 key1 0#32 n).1 ^^^ (gen key0 key1 0#32 n).2

/-- The 23 bits of a draw that become the uniform sample. -/
def draw (n : Nat) : Nat := (bits (BitVec.ofNat 32 n)).toNat / 512

/-- The two bits of an edge, by the draws `p q r` of its three types: whether it is there, and whether it is negated. -/
def Entry (u v p q r : Nat) : Bool :=
  bif q.ble p && r.ble p then u.beq 0 else u.beq 1 && v.beq (bif r.ble q then 0 else 1)

/-- The counter of lane `l`'s first draw. -/
def laneCtr (l : Nat) : Nat := 12288 * (l % 64) + 6144 * (l / 64)

/-- The lanes' mask. -/
def maskP : Nat := mask 128

/-- A one in each lane. -/
def onesP : Nat := pack 128 fun _ => 1#32

/-- The lanes' first counters. -/
def ctrP : Nat := pack 128 fun l => BitVec.ofNat 32 (laneCtr l)

/-- The bits drawn in all lanes for the counter `off` past each lane's first. -/
def bitsP (off : Nat) : Nat :=
  let s := threefry (lanes maskP) (fun c => c * onesP) (key0.toNat * onesP) (key1.toNat * onesP)
    ((key0 ^^^ key1 ^^^ parity).toNat * onesP) (0, (lanes maskP).add ctrP (off * onesP))
  s.1 ^^^ s.2

/-- The words that say where an edge is, of input feature `f`, one in each lane. -/
noncomputable def edgeP (f : Nat) : Nat := pack 128 fun l => lit0t (128 * f + l)

/-- The words that say where an edge is negated, of input feature `f`, one in each lane. -/
noncomputable def negP (f : Nat) : Nat := pack 128 fun l => lit1t (128 * f + l)

/-- Check the lowest bits of `n` lanes against three packed draws. -/
def chkLanes : Nat → Nat → Nat → Nat → Nat → Nat → Bool
  | 0, _, _, _, _, _ => true
  | n + 1, u, v, a, b, c =>
    Entry (u % 2) (v % 2) (a % 2 ^ 64 / 512) (b % 2 ^ 64 / 512) (c % 2 ^ 64 / 512)
      && chkLanes n (u / 2 ^ 64) (v / 2 ^ 64) (a / 2 ^ 64) (b / 2 ^ 64) (c / 2 ^ 64)

/-- Lanes that check have each lowest bit as its lane's draws decide. -/
theorem chkLanes_spec (n u v a b c : Nat) (h : chkLanes n u v a b c = true) (l : Nat) (hl : l < n) :
    Entry (u / (2 ^ 64) ^ l % 2) (v / (2 ^ 64) ^ l % 2) (a / (2 ^ 64) ^ l % 2 ^ 64 / 512)
      (b / (2 ^ 64) ^ l % 2 ^ 64 / 512) (c / (2 ^ 64) ^ l % 2 ^ 64 / 512) = true := by
  induction n generalizing u v a b c l with
  | zero => exact absurd hl (Nat.not_lt_zero _)
  | succ n ih =>
    rw [chkLanes, Bool.and_eq_true] at h
    cases l with
    | zero => simpa only [Nat.pow_zero, Nat.div_one] using h.1
    | succ l =>
      have := ih _ _ _ _ _ h.2 l (Nat.lt_of_succ_lt_succ hl)
      simpa only [Nat.div_div_eq_div_mul, ← Nat.pow_succ'] using this

/-- Lane `l` of the packed draws is the draw for that lane's counter. -/
theorem bitsP_lane (off l : Nat) (ho : off < 2 ^ 32) (hl : l < 128) :
    bitsP off / (2 ^ 64) ^ l % 2 ^ 64 / 512 = draw (laneCtr l + off) := by
  have hb (a : BitVec 32) : Lane 128 l (a.toNat * onesP) a := ⟨_, pack_const 128 a, rfl⟩
  have hc (n : Nat) (hn : n < 2 ^ 32) : Lane 128 l (n * onesP) (BitVec.ofNat 32 n) := by
    have := hb (BitVec.ofNat 32 n)
    rwa [BitVec.toNat_ofNat, Nat.mod_eq_of_lt hn] at this
  have hx : Lane 128 l ((lanes maskP).add ctrP (off * onesP)) (BitVec.ofNat 32 (laneCtr l + off)) := by
    rw [BitVec.ofNat_add]
    exact (lanes_rel 128 l).add ⟨_, rfl, rfl⟩ (hc off ho)
  have hz : Lane 128 l 0 0#32 := by simpa only [Nat.zero_mul] using hc 0 (by decide)
  have h := (lanes_rel 128 l).threefry (c := fun c => c * onesP) (c' := BitVec.ofNat 32)
    (fun n hn => hc n (by omega)) (hb key0) (hb key1) (hb (key0 ^^^ key1 ^^^ parity))
    (s := (0, (lanes maskP).add ctrP (off * onesP))) (s' := (0#32, BitVec.ofNat 32 (laneCtr l + off))) ⟨hz, hx⟩
  have := ((lanes_rel 128 l).xor h.1 h.2).read hl
  exact congrArg (· / 512) this

/-- Check every lane of input feature `f` at step `s`. -/
noncomputable def chkRow (f s : Nat) : Bool :=
  chkLanes 128 (edgeP f / 2 ^ s) (negP f / 2 ^ s) (bitsP (3 * (64 * s + f))) (bitsP (3 * (64 * s + f) + 1))
    (bitsP (3 * (64 * s + f) + 2))

/-- Bit `s` of lane `l` of packed words is bit `s` of word `l`. -/
theorem pack_bit (g : Nat → BitVec 32) (s l : Nat) (hs : s < 32) (hl : l < 128) :
    pack 128 g / 2 ^ s / (2 ^ 64) ^ l % 2 = (g l).toNat / 2 ^ s % 2 := by
  have hg : Lane 128 l (pack 128 g) (g l) := ⟨g, rfl, rfl⟩
  have h := hg.read hl
  rw [← h, Nat.div_right_comm, ← Nat.mod_mul_right_div_self _ (2 ^ s) 2, ← Nat.mod_mul_right_div_self _ (2 ^ s) 2,
    Nat.mod_mod_of_dvd]
  rw [← Nat.pow_succ]
  exact Nat.pow_dvd_pow 2 (by omega)

/-- An input feature and a step that check have each lane's two bits as its draws decide. -/
theorem chkRow_spec (f s : Nat) (hf : f < 64) (hs : s < 32) (h : chkRow f s = true) (l : Nat) (hl : l < 128) :
    Entry ((lit0t (128 * f + l)).toNat / 2 ^ s % 2) ((lit1t (128 * f + l)).toNat / 2 ^ s % 2)
      (draw (laneCtr l + 3 * (64 * s + f))) (draw (laneCtr l + (3 * (64 * s + f) + 1)))
      (draw (laneCtr l + (3 * (64 * s + f) + 2))) = true := by
  have := chkLanes_spec _ _ _ _ _ _ h l hl
  rwa [edgeP, negP, pack_bit _ s l hs hl, pack_bit _ s l hs hl, bitsP_lane _ l (by omega) hl,
    bitsP_lane _ l (by omega) hl, bitsP_lane _ l (by omega) hl] at this

/-- The edges of the first `n` input features, one with another. -/
noncomputable def edgesTo : Nat → Nat
  | 0 => 0
  | n + 1 => edgesTo n ||| edgeP n

/-- A bit that is among the edges of the first `n` input features is of one of them. -/
theorem edgesTo_spec (n i : Nat) (h : (edgesTo n).testBit i = true) : ∃ f, f < n ∧ (edgeP f).testBit i = true := by
  induction n with
  | zero => exact absurd h (by simp [edgesTo])
  | succ n ih =>
    rw [edgesTo, Nat.testBit_or, Bool.or_eq_true] at h
    rcases h with h | h
    · obtain ⟨f, hf, h⟩ := ih h
      exact ⟨f, by omega, h⟩
    · exact ⟨n, by omega, h⟩

end FfcTable

end
-- ==== Proof.RefMain.lean ====
/-
  What the reference computes.

  `lineMain`: the reference is one line of operations, and its result is the smallest or the largest of its terms, the
  edge types being the positions of the largest of three perturbed logarithms.
-/
module

public import proofs.«01_k».proof.Proof.RefLines
public import proofs.«01_k».proof.Proof.Checks

@[expose] public section

set_option maxRecDepth 100000

noncomputable section

namespace FfcRef

open Idealize Idealize.ShloMosaic Idealize.ShloMosaic.StableHlo Idealize.SL.Sem
open Cert.ReferenceIdeal FfcLine

variable {F : FTy → Type} [FloatOps F]

/-- An index of one sample's three counts, of the batch's counts. -/
def cnt (i : S64x64x64x3.Idx) : S64x64x3.Idx := fun a => ⟨![(i 1).val, (i 2).val, (i 3).val] a, by
  have h1 : (i 1).val < 64 := (i 1).isLt
  have h2 : (i 2).val < 64 := (i 2).isLt
  have h3 : (i 3).val < 3 := (i 3).isLt
  fin_cases a
  exacts [h1, h2, h3]⟩

/-- A pair of row numbers. -/
def pair (a b : Fin 64) : S64x64.Idx := fun d => ⟨![a.val, b.val] d, by
  have ha := a.isLt
  have hb := b.isLt
  fin_cases d
  exacts [ha, hb]⟩

/-- A row number. -/
def single (a : Fin 64) : S64.Idx := fun d => ⟨a.val, by
  have ha := a.isLt
  fin_cases d
  exact ha⟩

/-- An index of a pair of pairs. -/
def i22 (m n : Nat) (hm : m < 2 := by decide) (hn : n < 2 := by decide) : S2x2.Idx := fun a => ⟨![m, n] a, by
  fin_cases a
  exacts [hm, hn]⟩

/-- The first row of two, sliced out and made a pair, is that row. -/
theorem row_of_square {α : Type} (x : S2x2.Idx → α) (n : Nat) (hn : n < 2) (hs : S2x2.Slices ![0, 0] S1x2)
    (hc : S1x2.ShapeCasts S2) :
    shapeCast S2 (extractStridedSlice S1x2 ![0, 0] x hs) hc (i2 n hn) = x (i22 0 n (by decide) hn) := by
  rw [shapeCast_apply _ hc (i2 n hn) (fun a => ⟨![0, n] a, by fin_cases a <;> [exact Nat.one_pos; exact hn]⟩) ?_]
  · refine congrArg x (funext fun a => Fin.ext ?_)
    fin_cases a
    · rfl
    · exact Nat.zero_add n
  · interval_cases n <;> decide +revert

/-- The first key of the split of the seed's key. -/
theorem first_key : Threefry.gen 0#32 42#32 0#32 0#32 = (FfcTable.key0, FfcTable.key1) := by decide +kernel

/-- The perturbed logarithms. -/
def scores (c : S64x64x3.Idx → F .f32) (i : S64x64x64x3.Idx) : F .f32 :=
  FloatOps.addf (noise (FfcTable.bits (BitVec.ofNat 32 (ctrOf i)))) (FloatOps.hostUnary .log (c (cnt i)))

/-- The sampled edge types. -/
def sampled (c : S64x64x3.Idx → F .f32) (j : S64x64x64.Idx) : BitVec 32 :=
  (Host.argReduce reducer_argmax_f32_i32 (scores c) (iotaInDim S64x64x64x3 32 3) (constant S_ .f32 0xFF800000#32)
    (constantI S_ 32 0#32) Gen.reducesTo_S64x64x64x3_S64x64x64_d3 Gen.h_S_ j).2

/-- Whether a sample has no edge at all. -/
def noEdges (t : S64x64x64.Idx → BitVec 32) : S64x64.Idx → BitVec 1 :=
  Host.reduce IntOp.andi (fun j => IntOp.cmpi .eq (t j) 0#32) (constantI S_ 1 1#1) Gen.reducesTo_S64x64x64_S64x64_d2
    Gen.h_S_

/-- The terms that an output takes the smallest or the largest of. -/
def term (x : S64x64.Idx → F .f32) (op : S64.Idx → BitVec 32) (e : S64x64x64.Idx → BitVec 32) (j : S64x64x64.Idx) :
    F .f32 :=
  FloatOps.addf
    (Scalar.select (IntOp.cmpi .eq (e j) 1#32) (x (pair (j 0) (j 2)))
      (Scalar.select (IntOp.cmpi .eq (e j) 2#32) (FloatOps.hostNegf (x (pair (j 0) (j 2)))) (FloatOps.ofBits .f32 0#32)))
    (Scalar.select (IntOp.cmpi .eq (e j) 0#32)
      (Scalar.select (IntOp.cmpi .eq (op (single (j 1))) 1#32) (FloatOps.ofBits .f32 0x41200000#32)
        (FloatOps.ofBits .f32 0xC1200000#32)) (FloatOps.ofBits .f32 0#32))

/-- The reference's result, from the edge types. -/
def result (x : S64x64.Idx → F .f32) (op : S64.Idx → BitVec 32) (e : S64x64x64.Idx → BitVec 32) (q : S64x64.Idx) :
    F .f32 :=
  Scalar.select (IntOp.cmpi .eq (op (single (q 1))) 1#32)
    (Host.reduce FloatOps.minimumf (term x op e) (constant S_ .f32 0x7F800000#32) Gen.reducesTo_S64x64x64_S64x64_d2
      Gen.h_S_ q)
    (Host.reduce FloatOps.maximumf (term x op e) (constant S_ .f32 0xFF800000#32) Gen.reducesTo_S64x64x64_S64x64_d2
      Gen.h_S_ q)

/-- The reference is one line, and its result is `result` of the edge types, which are the sampled ones but in a
sample that has no edge. -/
def lineMain (d : Dev nD) : Line (main (F := F) d) fun W => ∃ (s : S64x64x64.Idx → BitVec 1)
    (e : S64x64x64.Idx → BitVec 32),
    (∀ j, e j = Scalar.select (IntOp.andi (noEdges (sampled (W (dv main_arg1))) (pair (j 0) (j 1))) (s j)) 1#32
      (sampled (W (dv main_arg1)) j)) ∧
    ∀ q : S64x64.Idx, W (dv main_v54) q = result (W (dv main_arg0)) (W (dv main_arg2)) e q := by
  apply Line.mono
  case L =>
    delta main
    apply Line.bind
    all_goals first
      | delta main_part0
      | delta main_part1
      | skip
    all_goals with_reducible repeat first
      | apply Line.nul
      | apply Line.un
      | apply Line.bin
      | apply Line.resh
      | exact Line.nil
      | apply Line.bind (lineKeys _ _)
      | apply Line.bind (lineGumbel _ _)
      | apply Line.bind (lineArgmax _ _)
      | apply Line.bind (lineRandint _ _ _ _)
      | apply Line.bind (lineWhere _ _ _ _)
      | apply Line.bind (lineWhere4 _ _ _ _)
      | apply Line.bind (lineWhere5 _ _ _ _)
      | apply Line.bind (lineWhere6 _ _ _ _)
      | apply Line.bind (lineWhere7 _ _ _ _)
      | apply Line.bind (lineWhere8 _ _ _ _)
      | exact Line.one (step_nullary _ _)
  case h =>
    intro W h
    beta_reduce at h
    obtain ⟨⟨ec, ec0, e0, e1, e2, ec1, e3, e4, e5, e6, gk, e8, e9, e10, e11, e12, e13, gg, e15, e16, ga, ec2, e18, e19,
      ec3, e20, ec4, ec5, -, e22, e23, e24, e25, e26, e27, e28, e29, e30, ec6, gw, e32, ec7, e33, e34, ec8, e35, e36,
      e37, ecst, gw4, gw5, e40, ec9, e41, e42, ec10, e43, e44, ec11, ec12⟩, gw6, ec13, gw7, e47, e48, e49, ec14, e50,
      e51, ec15, e52, ec16, e53, gw8, -⟩ := h
    have k0 : W (dv main_v6) (i2 0) = 0#32 := by
      rw [e6, concatenate_pair_apply]
      refine (dif_pos (by decide)).trans ?_
      rw [e2, e1, e0, ec, ec0]
      exact (bcast0 _ _ _).trans rfl
    have k1 : W (dv main_v6) (i2 1) = 42#32 := by
      rw [e6, concatenate_pair_apply]
      refine (dif_neg (by decide)).trans ?_
      rw [e5, e4, e3, ec, ec1]
      exact (bcast0 _ _ _).trans rfl
    have kp : pairOf (get W (.of main_v6)) 0 = (FfcTable.key0, FfcTable.key1) :=
      (congrArg₂ (fun a b => Threefry.gen a b 0#32 0#32) k0 k1).trans first_key
    have k9 (n : Nat) (hn : n < 2) : W (dv main_v9) (i2 n hn) = W (dv main_v7) (i22 0 n (by decide) hn) := by
      rw [e9, e8]
      exact row_of_square _ n hn _ _
    have q0 : W (dv main_v9) (i2 0) = FfcTable.key0 :=
      (k9 0 _).trans ((gk (i22 0 0)).trans ((if_pos rfl).trans (congrArg Prod.fst kp)))
    have q1 : W (dv main_v9) (i2 1) = FfcTable.key1 :=
      (k9 1 _).trans ((gk (i22 0 1)).trans ((if_neg Nat.one_ne_zero).trans (congrArg Prod.snd kp)))
    have hq (n : Nat) : pairOf (get W (.of main_v9)) n = Threefry.gen FfcTable.key0 FfcTable.key1 0#32 (BitVec.ofNat 32 n) :=
      congrArg₂ (fun a b => Threefry.gen a b 0#32 (BitVec.ofNat 32 n)) q0 q1
    have h16 : get W (.of main_v16) = scores (W (dv main_arg1)) := funext fun i => by
      refine (congrFun e16 i).trans ?_
      rw [scores, e15, e13, e12]
      refine congrArg₂ FloatOps.addf ((gg i).trans ?_) ?_
      · rw [hq]
        rfl
      · refine congrArg (fun k => FloatOps.hostUnary .log (W (dv main_arg1) k)) (funext fun a => Fin.ext ?_)
        fin_cases a <;> rfl
    have h17 : W (dv main_v17) = sampled (W (dv main_arg1)) := funext fun j => by
      refine (ga j).trans ?_
      rw [h16]
      rfl
    have h20 : W (dv main_v20) = noEdges (sampled (W (dv main_arg1))) := by
      rw [← h17, e20, ec3, noEdges]
      refine congrArg (fun f => Host.reduce IntOp.andi f _ _ _) (funext fun j => ?_)
      rw [e19, e18, ec2]
      exact congrArg (IntOp.cmpi .eq _) (bcast0 _ _ _)
    refine ⟨W (dv main_v28), W (dv main_v31), fun j => ?_, fun q => ?_⟩
    · refine (gw j).trans ?_
      rw [← h20, ← h17]
      refine congrArg₂ (fun a b => Scalar.select a b _) ?_ (congrFun ec6 j0)
      refine (congrFun e30 j).trans (congrArg (fun a => IntOp.andi a _) ?_)
      rw [e29, e22]
      refine congrArg (W (dv main_v20)) (funext fun a => Fin.ext ?_)
      fin_cases a <;> rfl
    · have hx (j : S64x64x64.Idx) : W (dv main_v32) (mid j) = W (dv main_arg0) (pair (j 0) (j 2)) := by
        rw [e32]
        refine congrArg (W (dv main_arg0)) (funext fun a => Fin.ext ?_)
        fin_cases a <;> rfl
      have ho (j : S64x64x64.Idx) : W (dv main_v40) (out1 j) = W (dv main_arg2) (single (j 1)) := by
        rw [e40]
        refine congrArg (W (dv main_arg2)) (funext fun a => Fin.ext ?_)
        fin_cases a; rfl
      have h48 : W (dv main_v48) = term (W (dv main_arg0)) (W (dv main_arg2)) (W (dv main_v31)) := funext fun j => by
        rw [e48, e47]
        refine congrArg₂ FloatOps.addf ((gw5 j).trans ?_) ((gw7 j).trans ?_)
        · refine congr (congrArg₂ Scalar.select ?_ (hx j)) ((gw4 j).trans (congr (congrArg₂ Scalar.select ?_ ?_) ?_))
          · refine (congrFun e34 j).trans (congrArg (IntOp.cmpi .eq _) ?_)
            rw [e33, ec7]
            exact bcast0 _ _ _
          · refine (congrFun e36 j).trans (congrArg (IntOp.cmpi .eq _) ?_)
            rw [e35, ec8]
            exact bcast0 _ _ _
          · exact (congrFun e37 (mid j)).trans (congrArg FloatOps.hostNegf (hx j))
          · exact congrFun ecst j0
        · refine congr (congrArg₂ Scalar.select ?_ ((gw6 (out1 j)).trans (congr (congrArg₂ Scalar.select ?_ ?_) ?_))) ?_
          · refine (congrFun e44 j).trans (congrArg (IntOp.cmpi .eq _) ?_)
            rw [e43, ec10]
            exact bcast0 _ _ _
          · refine (congrFun e42 (out1 j)).trans (congrArg₂ (IntOp.cmpi .eq) (ho j) ?_)
            rw [e41, ec9]
            exact bcast0 _ _ _
          · exact congrFun ec11 j0
          · exact congrFun ec12 j0
          · exact congrFun ec13 j0
      refine (gw8 q).trans (congr (congrArg₂ Scalar.select ?_ ?_) ?_)
      · refine (congrFun e51 (row1 q)).trans (congrArg₂ (IntOp.cmpi .eq) ?_ ?_)
        · rw [e49]
          refine congrArg (W (dv main_arg2)) (funext fun a => Fin.ext ?_)
          fin_cases a; rfl
        · rw [e50, ec14]
          exact bcast0 _ _ _
      · refine (congrFun e52 q).trans ?_
        rw [h48, ec15]
      · refine (congrFun e53 q).trans ?_
        rw [h48, ec16]

end FfcRef

end

end
-- ==== Proof.RefRun.lean ====
/-
  The reference's run.

  `run`: from any memory the reference ends with its result the `result` of its arguments, and its arguments and its
  semaphores unchanged.
-/
module

public import proofs.«01_k».proof.Proof.RefMain
public import Idealize.ShloMosaic.Lib.Quiescent
public import Idealize.ShloMosaic.PureOps.Ideal

@[expose] public section

set_option maxRecDepth 100000

noncomputable section

namespace FfcRef

open Idealize Idealize.ShloMosaic Idealize.ShloMosaic.StableHlo Idealize.SL.Sem
open Cert.ReferenceIdeal FfcLine

/-- What the result is, from the arguments: the edge types are the sampled ones but in a sample that has no edge. -/
def Holds (x : S64x64.Idx → Ideal .f32) (c : S64x64x3.Idx → Ideal .f32) (op : S64.Idx → BitVec 32) (v : S64x64.Idx → Ideal .f32) :
    Prop :=
  ∃ (s : S64x64x64.Idx → BitVec 1) (e : S64x64x64.Idx → BitVec 32),
    (∀ j, e j = Scalar.select (IntOp.andi (noEdges (sampled c) (pair (j 0) (j 1))) (s j)) 1#32 (sampled c j)) ∧
    ∀ q : S64x64.Idx, v q = result x op e q

/-- Every operation of the reference writes a buffer after those it reads, and after the arguments. -/
theorem ordered : inOrder 3 (lineMain (F := Ideal) 0).tr = true := by
  decide +kernel

/-- From any memory the reference ends with its result the `result` of its arguments, which are unchanged, and every
semaphore at zero. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r =>
      (∀ c : Dev nD, Holds (m ((c.tc : Thread nD τ).loc main_arg0)) (m ((c.tc : Thread nD τ).loc main_arg1))
          (m ((c.tc : Thread nD τ).loc main_arg2)) (r.2.mem ((c.tc : Thread nD τ).loc main_v54))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2))
      ∧ r.2.sem = fun _ => 0 := by
  refine θ_run_mono ((lineMain (F := Ideal) 0).run (fun _ => rfl) defs (by decide) (by decide) ordered m ρ)
    fun r h => ⟨fun c => ?_, sem_eq_zero_of_no_sems (by decide) _⟩
  obtain ⟨W, ⟨s, e, he, hv⟩, hm, ha⟩ := h c
  have a0 : W (dv main_arg0) = m ((c.tc : Thread nD τ).loc main_arg0) := ha main_arg0 (by decide)
  have a1 : W (dv main_arg1) = m ((c.tc : Thread nD τ).loc main_arg1) := ha main_arg1 (by decide)
  have a2 : W (dv main_arg2) = m ((c.tc : Thread nD τ).loc main_arg2) := ha main_arg2 (by decide)
  refine ⟨?_, (hm _).trans a0, (hm _).trans a1, (hm _).trans a2⟩
  rw [← a0, ← a1, ← a2, hm main_v54]
  exact ⟨s, e, he, hv⟩

end FfcRef

end

end
-- ==== Proof.Pre.lean ====
/-
  What the precondition says.

  `counts`: the three counts of an output and an input feature are one positive real number.
  `operator`: an output is of the first operator exactly where its number is even.
-/
module

public import proofs.«01_k».proof.Pre_as_initialised
public import Idealize.ShloMosaic.Lib.Pipeline.Value
public import Idealize.ShloMosaic.Lib.Pointwise.Index
public import Idealize.ShloMosaic.PureOps.Ideal.Laws

@[expose] public section

noncomputable section

namespace FfcPre

open Idealize Idealize.ShloMosaic Cert.Pre_as_initialised

/-- The side conditions of the precondition's operations hold. -/
theorem facts : Cert.Pre_as_initialised.Facts :=
  ⟨by decide, by decide, by decide, by decide, by decide, by decide, by decide, by decide⟩

/-- A one-bit conjunction is one only where both its parts are. -/
theorem both {a b : BitVec 1} (h : IntOp.andi a b = 1#1) : a = 1#1 ∧ b = 1#1 := by
  revert h
  revert a b
  decide

/-- A one-bit truth value is one only where it is true. -/
theorem truth {b : Bool} (h : BitVec.ofBool b = 1#1) : b = true := by
  revert h
  revert b
  decide

/-- One edge type's counts, sliced out, at an output and an input feature. -/
theorem slice_apply (c : S64x64x3.Idx → EReal) (k : Fin 3) (hs : S64x64x3.Slices ![0, 0, k.val] S64x64x1)
    (hc : S64x64x1.ShapeCasts S64x64) (o f : Fin 64) :
    shapeCast S64x64 (extractStridedSlice S64x64x1 ![0, 0, k.val] c hs) hc (ix2 o f) = c (ix3 o f k) := by
  refine (shapeCast_apply _ _ _ (ix3 o f (0 : Fin 1)) ?_).trans (extractStridedSlice_apply _ c _ _ _ ?_)
  · rw [Shape.rowMajor_val_two, Shape.rowMajor_val_three]
    simp [ix2, ix3]
  · intro a
    fin_cases a
    · exact (Nat.zero_add _).symm
    · exact (Nat.zero_add _).symm
    · rfl

/-- An output's number. -/
def single (o : Fin 64) : S64.Idx := fun d => ⟨o.val, by
  have h := o.isLt
  fin_cases d
  exact h⟩

/-- The precondition at an output and an input feature, condition by condition. -/
theorem fn_apply [Cert.Pre_as_initialised.Facts] (x : S64x64.Idx → EReal) (c : S64x64x3.Idx → EReal)
    (op : S64.Idx → BitVec 32) (o f : Fin 64) :
    fn (F := Ideal) x c op (ix2 o f) = IntOp.andi (IntOp.andi (IntOp.andi (IntOp.andi
      (Ideal.cmp .oeq (c (ix3 o f 0)) (c (ix3 o f 1))) (Ideal.cmp .oeq (c (ix3 o f 1)) (c (ix3 o f 2))))
      (Ideal.cmp .ogt (c (ix3 o f 0)) (Ideal.ofBits .f32 0#32))) (Ideal.cmp .olt (c (ix3 o f 0)) (Ideal.ofBits .f32 0x7F800000#32)))
      (IntOp.cmpi .eq (IntOp.cmpi .eq (op (single o)) 1#32)
        (IntOp.cmpi .eq (IntOp.andi (BitVec.ofNat 32 o.val) 1#32) 0#32)) := by
  rw [← slice_apply c 0 Facts.slices_S64x64x3_S64x64x1_0_0_0 Facts.shapeCasts_S64x64x1_S64x64 o f,
    ← slice_apply c 1 Facts.slices_S64x64x3_S64x64x1_0_0_1 Facts.shapeCasts_S64x64x1_S64x64 o f,
    ← slice_apply c 2 Facts.slices_S64x64x3_S64x64x1_0_0_2 Facts.shapeCasts_S64x64x1_S64x64 o f]
  have e : broadcastInDim S64x64 ![0, 1] Facts.bcast_S64x1_S64x64_0_1 (broadcastInDim S64x1 ![0] Facts.bcast_S64_S64x1_0
      (cmpi .eq (cmpi .eq op (broadcastInDim S64 ![] Facts.bcast_S_S64 (constantI S_ 32 1#32)))
        (cmpi .eq (andi (iotaInDim S64 32 0) (broadcastInDim S64 ![] Facts.bcast_S_S64 (constantI S_ 32 1#32)))
          (broadcastInDim S64 ![] Facts.bcast_S_S64 (constantI S_ 32 0#32))))) (ix2 o f)
      = IntOp.cmpi .eq (IntOp.cmpi .eq (op (single o)) 1#32)
        (IntOp.cmpi .eq (IntOp.andi (BitVec.ofNat 32 o.val) 1#32) 0#32) := by
    refine (broadcastInDim_apply _ _ _ _ (ix2 o (0 : Fin 1)) ?_).trans ((broadcastInDim_apply _ _ _ _ (single o) ?_).trans rfl)
    · intro a; fin_cases a <;> rfl
    · intro a; fin_cases a; rfl
  rw [← e]
  rfl

/-- **The three counts of an output and an input feature are one positive real number.** -/
theorem counts [Cert.Pre_as_initialised.Facts] {x : S64x64.Idx → EReal} {c : S64x64x3.Idx → EReal}
    {op : S64.Idx → BitVec 32} (h : ∀ q, fn (F := Ideal) x c op q = 1#1) (o f : Fin 64) :
    ∃ r : ℝ, 0 < r ∧ ∀ k, c (ix3 o f k) = (r : EReal) := by
  have e := h (ix2 o f)
  rw [fn_apply] at e
  obtain ⟨e, -⟩ := both e
  obtain ⟨e, e4⟩ := both e
  obtain ⟨e, e3⟩ := both e
  obtain ⟨e1, e2⟩ := both e
  have e1 : c (ix3 o f 0) = c (ix3 o f 1) := of_decide_eq_true (truth e1)
  have e2 : c (ix3 o f 1) = c (ix3 o f 2) := of_decide_eq_true (truth e2)
  have e3 : Ideal.ofBits .f32 0#32 < c (ix3 o f 0) := of_decide_eq_true (truth e3)
  have e4 : c (ix3 o f 0) < Ideal.ofBits .f32 0x7F800000#32 := of_decide_eq_true (truth e4)
  rw [Ideal.ofBits_zero_f32] at e3
  have e4 : c (ix3 o f 0) < ⊤ := e4
  lift c (ix3 o f 0) to ℝ using ⟨e4.ne, (EReal.bot_lt_zero.trans e3).ne'⟩ with r hr
  refine ⟨r, EReal.coe_pos.mp e3, fun k => ?_⟩
  fin_cases k
  · exact hr.symm
  · exact e1.symm
  · exact (e1.trans e2).symm

/-- **An output is of the first operator exactly where its number is even.** -/
theorem operator [Cert.Pre_as_initialised.Facts] {x : S64x64.Idx → EReal} {c : S64x64x3.Idx → EReal}
    {op : S64.Idx → BitVec 32} (h : ∀ q, fn (F := Ideal) x c op q = 1#1) (o : Fin 64) :
    IntOp.cmpi .eq (op (single o)) 1#32 = IntOp.cmpi .eq (IntOp.andi (BitVec.ofNat 32 o.val) 1#32) 0#32 := by
  have e := h (ix2 o 0)
  rw [fn_apply] at e
  exact of_decide_eq_true (truth (both e).2)

end FfcPre

end
-- ==== Proof.CheckRun.lean ====
/-
  The kernel's packed words, checked against the generator's draws bit by bit.
-/
module

public import proofs.«01_k».proof.Proof.Checks

@[expose] public section

set_option maxRecDepth 100000

namespace FfcTable

/-- Every input feature checks at every step. -/
theorem chk_rows : ((List.range 64).all fun f => (List.range 32).all fun s => chkRow f s) = true := by decide +kernel

end FfcTable

end
-- ==== Proof.CheckEdge.lean ====
/-
  The kernel's packed words, searched for an edge that is there at every step and lane.
-/
module

public import proofs.«01_k».proof.Proof.Checks

@[expose] public section

set_option maxRecDepth 100000

namespace FfcTable

/-- Every step and lane has an edge. -/
theorem chk_edges : (edgesTo 64).beq (Threefry.mask 128) = true := by decide +kernel

end FfcTable

end
-- ==== Proof.TableSpec.lean ====
/-
  What every bit of the kernel's packed words is.

  `table_entry` says the two bits of an edge are those its three draws decide; `table_edge` says every step and lane
  have an edge that is there.
-/
module

public import proofs.«01_k».proof.Proof.CheckRun
public import proofs.«01_k».proof.Proof.CheckEdge

@[expose] public section

set_option maxRecDepth 100000

namespace FfcTable

open Cert.KernelIdeal Threefry

/-- Every edge's two bits are those its three draws decide. -/
theorem table_entry (s f l : Nat) (hs : s < 32) (hf : f < 64) (hl : l < 128) :
    Entry ((lit0t (128 * f + l)).toNat / 2 ^ s % 2) ((lit1t (128 * f + l)).toNat / 2 ^ s % 2)
      (draw (laneCtr l + 3 * (64 * s + f))) (draw (laneCtr l + (3 * (64 * s + f) + 1)))
      (draw (laneCtr l + (3 * (64 * s + f) + 2))) = true :=
  chkRow_spec f s hf hs (List.all_eq_true.mp (List.all_eq_true.mp chk_rows f (List.mem_range.mpr hf)) s
    (List.mem_range.mpr hs)) l hl

/-- A bit of packed words, as a quotient. -/
theorem testBit_lane_bit (X s l : Nat) : X.testBit (64 * l + s) = decide (X / 2 ^ s / (2 ^ 64) ^ l % 2 = 1) := by
  rw [Nat.testBit_eq_decide_div_mod_eq, Nat.div_div_eq_div_mul, ← Nat.pow_mul, ← Nat.pow_add, Nat.add_comm s]

/-- Every step and lane have an edge that is there. -/
theorem table_edge (s l : Nat) (hs : s < 32) (hl : l < 128) :
    ∃ f, f < 64 ∧ (lit0t (128 * f + l)).toNat / 2 ^ s % 2 = 1 := by
  have h : (edgesTo 64).testBit (64 * l + s) = true := by
    rw [Nat.eq_of_beq_eq_true chk_edges, testBit_lane_bit, mask, pack_bit _ s l hs hl]
    revert s
    decide
  obtain ⟨f, hf, h⟩ := edgesTo_spec 64 _ h
  rw [testBit_lane_bit, edgeP, pack_bit _ s l hs hl] at h
  exact ⟨f, hf, of_decide_eq_true h⟩

end FfcTable

end
-- ==== Proof.Noise.lean ====
/-
  The noise of the reference, over the extended reals.

  `noise_eq`: the noise of 32 drawn bits is a real number that depends on their first 23 alone, as a number `k`.
  `noiseR_lt`: it grows with `k`.
-/
module

public import proofs.«01_k».proof.Proof.RefLines
public import Idealize.ShloMosaic.PureOps.Ideal
public import Mathlib.Analysis.SpecialFunctions.Log.Basic

@[expose] public section

noncomputable section

namespace FfcRef

open Idealize Idealize.ShloMosaic

/-- The least normal number. -/
def tinyR : ℝ := (2 : ℝ) ^ (-126 : ℤ)

/-- The uniform sample of the first 23 bits. -/
def uniR (k : Nat) : ℝ := (k : ℝ) / 8388608 * (1 - tinyR) + tinyR

/-- The noise of the first 23 bits. -/
def noiseR (k : Nat) : ℝ := -Real.log (-Real.log (uniR k))

theorem tinyR_pos : 0 < tinyR := zpow_pos (by norm_num) _

theorem tinyR_lt : tinyR < 1 := zpow_lt_one_of_neg₀ (by norm_num) (by norm_num)

theorem tinyR_le_uniR (k : Nat) : tinyR ≤ uniR k := by
  have h : 0 ≤ (k : ℝ) / 8388608 * (1 - tinyR) :=
    mul_nonneg (div_nonneg (Nat.cast_nonneg k) (by norm_num)) (sub_nonneg.mpr tinyR_lt.le)
  rw [uniR]
  linarith

theorem uniR_lt_one {k : Nat} (hk : k < 8388608) : uniR k < 1 := by
  have h1 : (k : ℝ) / 8388608 < 1 := by
    rw [div_lt_one (by norm_num)]
    exact_mod_cast hk
  have h := mul_lt_mul_of_pos_right h1 (sub_pos.mpr tinyR_lt)
  rw [uniR]
  linarith

theorem uniR_lt {k l : Nat} (h : k < l) : uniR k < uniR l := by
  have h1 : (k : ℝ) / 8388608 < (l : ℝ) / 8388608 := by
    have : (k : ℝ) < l := by exact_mod_cast h
    exact div_lt_div_of_pos_right this (by norm_num)
  have h := mul_lt_mul_of_pos_right h1 (sub_pos.mpr tinyR_lt)
  rw [uniR, uniR]
  linarith

theorem neg_log_uniR_pos {k : Nat} (hk : k < 8388608) : 0 < -Real.log (uniR k) :=
  neg_pos.mpr (Real.log_neg (tinyR_pos.trans_le (tinyR_le_uniR k)) (uniR_lt_one hk))

/-- The noise grows with the bits. -/
theorem noiseR_lt {k l : Nat} (h : k < l) (hl : l < 8388608) : noiseR k < noiseR l := by
  have h1 := Real.log_lt_log (tinyR_pos.trans_le (tinyR_le_uniR k)) (uniR_lt h)
  exact neg_lt_neg (Real.log_lt_log (neg_log_uniR_pos hl) (neg_lt_neg h1))

/-- The first 23 bits of 32 under the exponent of one. -/
theorem frac_toNat (b : BitVec 32) : (b >>> 9 ||| 0x3F800000#32).toNat = 2 ^ 23 * 127 + b.toNat / 512 := by
  have hb := b.isLt
  rw [BitVec.toNat_or, BitVec.toNat_ushiftRight, Nat.shiftRight_eq_div_pow, Nat.or_comm]
  exact (Nat.two_pow_add_eq_or_of_lt (i := 23) (b := b.toNat / 2 ^ 9) (by omega) 127).symm

/-- The fraction's pattern is one plus the fraction. -/
theorem ofBits_frac (b : BitVec 32) :
    Ideal.ofBits .f32 (b >>> 9 ||| 0x3F800000#32) = ((1 + ((b.toNat / 512 : Nat) : ℝ) / 8388608 : ℝ) : EReal) := by
  have hb := b.isLt
  have h1 : (b >>> 9 ||| 0x3F800000#32).extractLsb' (8 + 23) 1 = 0#1 := by
    refine BitVec.eq_of_toNat_eq ?_
    rw [BitVec.extractLsb'_toNat, frac_toNat, Nat.shiftRight_eq_div_pow]
    simp only [BitVec.toNat_ofNat]
    omega
  have h2 : ((b >>> 9 ||| 0x3F800000#32).extractLsb' 23 8).toNat = 127 := by
    rw [BitVec.extractLsb'_toNat, frac_toNat, Nat.shiftRight_eq_div_pow]
    omega
  have h3 : ((b >>> 9 ||| 0x3F800000#32).extractLsb' 0 23).toNat = b.toNat / 512 := by
    rw [BitVec.extractLsb'_toNat, frac_toNat, Nat.shiftRight_eq_div_pow]
    omega
  show Ideal.ieee 8 23 _ = _
  rw [Ideal.ieee, h1, h2, h3]
  show (((if (0#1 == 1#1) = true then (-1) else 1 : ℝ) * ((2 ^ 23 + b.toNat / 512 : Nat) : ℝ)
    * (2 : ℝ) ^ (((127 : Nat) : Int) - (2 ^ (8 - 1) - 1) - (23 : Nat)) : ℝ) : EReal) = _
  rw [EReal.coe_eq_coe_iff, if_neg (by decide), Nat.cast_add]
  norm_num
  ring

theorem ofBits_one : Ideal.ofBits .f32 0x3F800000#32 = ((1 : ℝ) : EReal) := by
  have h := ofBits_frac 0#32
  simpa using h

theorem ofBits_tiny : Ideal.ofBits .f32 0x00800000#32 = ((tinyR : ℝ) : EReal) := by
  show (((if (0#1 == 1#1) = true then (-1) else 1 : ℝ) * ((2 ^ 23 + 0 : Nat) : ℝ)
    * (2 : ℝ) ^ (((1 : Nat) : Int) - (2 ^ (8 - 1) - 1) - (23 : Nat)) : ℝ) : EReal) = _
  rw [EReal.coe_eq_coe_iff, if_neg (by decide), tinyR, show (((2 ^ 23 + 0 : Nat) : ℝ)) = (2 : ℝ) ^ (23 : ℤ) by norm_num,
    one_mul, ← zpow_add₀ (by norm_num)]
  rfl

/-- The uniform sample over the extended reals. -/
theorem uniOf_eq (b : BitVec 32) :
    uniOf (F := Ideal) (FloatOps.ofBits .f32 0x3F800000#32) (FloatOps.ofBits .f32 0x00800000#32) b
      = ((uniR (b.toNat / 512) : ℝ) : EReal) := by
  simp only [uniOf, Ideal.ofBits_def, Ideal.addf_def, Ideal.mulf_def, Ideal.subf_def, Ideal.maximumf_def]
  rw [ofBits_frac, ofBits_one, ofBits_tiny, ← EReal.coe_sub, ← EReal.coe_sub, ← EReal.coe_mul, ← EReal.coe_add,
    show (1 + ((b.toNat / 512 : Nat) : ℝ) / 8388608 - 1) * (1 - tinyR) + tinyR = uniR (b.toNat / 512) by
      rw [uniR]; ring]
  exact max_eq_right (EReal.coe_le_coe_iff.mpr (tinyR_le_uniR _))

/-- The logarithm of a positive real. -/
theorem log_coe {r : ℝ} (h : 0 < r) : Ideal.log (r : EReal) = ((Real.log r : ℝ) : EReal) := if_neg (not_le.mpr h)

/-- The noise of 32 bits is a real number, of their first 23. -/
theorem noise_eq (b : BitVec 32) : noise (F := Ideal) b = ((noiseR (b.toNat / 512) : ℝ) : EReal) := by
  have hk : b.toNat / 512 < 8388608 := by
    have := b.isLt
    omega
  rw [noise, uniOf_eq]
  simp only [Ideal.hostNegf_def, Ideal.negf_def, Ideal.hostUnary_log_def]
  rw [log_coe (tinyR_pos.trans_le (tinyR_le_uniR _)), ← EReal.coe_neg, log_coe (neg_log_uniR_pos hk), ← EReal.coe_neg]
  rfl

end FfcRef

end

end
-- ==== Proof.Argmax.lean ====
/-
  The position of the largest.

  `sampled_eq`: where a sample's three counts have one real logarithm, its edge type is the position of the largest of
  its three draws, the first of them on a tie.
-/
module

public import proofs.«01_k».proof.Proof.RefMain
public import proofs.«01_k».proof.Proof.Noise
public import Idealize.ShloMosaic.PureOps.Ideal.Laws

@[expose] public section

noncomputable section

namespace FfcRef

open Idealize Idealize.ShloMosaic Cert.ReferenceIdeal

/-- `r` is at least as good as `s`: a larger value, or the same value at a position not after. -/
def Dom (s r : EReal × BitVec 32) : Prop := s.1 < r.1 ∨ s.1 = r.1 ∧ r.2.toInt ≤ s.2.toInt

theorem Dom.refl (r : EReal × BitVec 32) : Dom r r := .inr ⟨rfl, le_rfl⟩

theorem Dom.trans {s r q : EReal × BitVec 32} (h : Dom s r) (k : Dom r q) : Dom s q := by
  rcases h with h | ⟨h, h'⟩ <;> rcases k with k | ⟨k, k'⟩
  · exact .inl (h.trans k)
  · exact .inl (k ▸ h)
  · exact .inl (h ▸ k)
  · exact .inr ⟨h.trans k, k'.trans h'⟩

/-- The reducer takes the better of two. -/
theorem reducer_best (a b : EReal × BitVec 32) :
    (reducer_argmax_f32_i32 (F := Ideal) a b = a ∨ reducer_argmax_f32_i32 (F := Ideal) a b = b) ∧
      Dom a (reducer_argmax_f32_i32 (F := Ideal) a b) ∧ Dom b (reducer_argmax_f32_i32 (F := Ideal) a b) := by
  obtain ⟨x, i⟩ := a
  obtain ⟨y, k⟩ := b
  rcases lt_trichotomy x y with h | rfl | h
  · have e : reducer_argmax_f32_i32 (F := Ideal) (x, i) (y, k) = (y, k) := by
      simp [reducer_argmax_f32_i32, Ideal.cmpf_def, Ideal.cmp, IntOp.ori, IntOp.andi, Scalar.select, h.not_gt, h.ne]
    rw [e]
    exact ⟨.inr rfl, .inl h, .refl _⟩
  · by_cases hk : i.slt k = true
    · have e : reducer_argmax_f32_i32 (F := Ideal) (x, i) (x, k) = (x, i) := by
        simp [reducer_argmax_f32_i32, Ideal.cmpf_def, Ideal.cmp, IntOp.ori, IntOp.andi, IntOp.cmpi, Scalar.select, hk]
      rw [e]
      exact ⟨.inl rfl, .refl _, .inr ⟨rfl, (of_decide_eq_true hk).le⟩⟩
    · have e : reducer_argmax_f32_i32 (F := Ideal) (x, i) (x, k) = (x, k) := by
        simp [reducer_argmax_f32_i32, Ideal.cmpf_def, Ideal.cmp, IntOp.ori, IntOp.andi, IntOp.cmpi, Scalar.select, hk]
      rw [e]
      exact ⟨.inr rfl, .inr ⟨rfl, not_lt.mp fun h => hk (decide_eq_true h)⟩, .refl _⟩
  · have e : reducer_argmax_f32_i32 (F := Ideal) (x, i) (y, k) = (x, i) := by
      simp [reducer_argmax_f32_i32, Ideal.cmpf_def, Ideal.cmp, IntOp.ori, IntOp.andi, Scalar.select, h, h.ne']
    rw [e]
    exact ⟨.inl rfl, .refl _, .inl h⟩

/-- The fold with the reducer takes the best of a list. -/
theorem foldl_best {ι : Type} (p : ι → EReal × BitVec 32) (l : List ι) (a : EReal × BitVec 32) :
    (l.foldl (fun r n => reducer_argmax_f32_i32 (F := Ideal) r (p n)) a = a ∨
        ∃ n ∈ l, l.foldl (fun r n => reducer_argmax_f32_i32 (F := Ideal) r (p n)) a = p n) ∧
      Dom a (l.foldl (fun r n => reducer_argmax_f32_i32 (F := Ideal) r (p n)) a) ∧
      ∀ n ∈ l, Dom (p n) (l.foldl (fun r n => reducer_argmax_f32_i32 (F := Ideal) r (p n)) a) := by
  induction l generalizing a with
  | nil => exact ⟨.inl rfl, .refl _, fun n h => absurd h List.not_mem_nil⟩
  | cons b l ih =>
    obtain ⟨h1, h2, h3⟩ := ih (reducer_argmax_f32_i32 (F := Ideal) a (p b))
    obtain ⟨k1, k2, k3⟩ := reducer_best a (p b)
    refine ⟨?_, k2.trans h2, fun n hn => ?_⟩
    · rcases h1 with h1 | ⟨n, hn, h1⟩
      · rcases k1 with k1 | k1
        · exact .inl (h1.trans k1)
        · exact .inr ⟨b, List.mem_cons_self, h1.trans k1⟩
      · exact .inr ⟨n, List.mem_cons_of_mem _ hn, h1⟩
    · rcases List.mem_cons.mp hn with rfl | hn
      · exact k3.trans h2
      · exact h3 n hn

/-- The index of one of a sample's three counts. -/
def atType (j : S64x64x64.Idx) (t : Nat) (ht : t < 3) : S64x64x64x3.Idx := fun a =>
  ⟨![(j 0).val, (j 1).val, (j 2).val, t] a, by
    have h0 : (j 0).val < 64 := (j 0).isLt
    have h1 : (j 1).val < 64 := (j 1).isLt
    have h2 : (j 2).val < 64 := (j 2).isLt
    fin_cases a
    exacts [h0, h1, h2, ht]⟩

/-- The indices that the reduction folds for one sample are its three counts'. -/
theorem drop_atType (j : S64x64x64.Idx) (i : S64x64x64x3.Idx) :
    Gen.reducesTo_S64x64x64x3_S64x64x64_d3.drop i = j ↔ i = atType j (i 3).val (i 3).isLt := by
  constructor
  · rintro rfl
    funext a
    fin_cases a <;> rfl
  · intro e
    rw [e]
    funext a
    fin_cases a <;> rfl

/-- The position of the largest of three numbers, the first of them on a tie. -/
def choice (p q r : Nat) : Nat := bif q.ble p && r.ble p then 0 else bif r.ble q then 1 else 2

theorem ble_of_le {p q : Nat} (h : p ≤ q) : p.ble q = true := Nat.ble_eq_true_of_le h

theorem ble_of_lt {p q : Nat} (h : q < p) : p.ble q = false := by
  rw [← Bool.not_eq_true, Nat.ble_eq]
  exact not_le.mpr h

/-- The choice is the position that no other beats. -/
theorem choice_eq (d : Nat → Nat) {t : Nat} (ht : t < 3) (h : ∀ u, u < 3 → d u < d t ∨ d u = d t ∧ t ≤ u) :
    choice (d 0) (d 1) (d 2) = t := by
  have h0 := h 0 (by decide)
  have h1 := h 1 (by decide)
  have h2 := h 2 (by decide)
  interval_cases t
  · rw [choice, ble_of_le (by omega), ble_of_le (by omega)]
    rfl
  · rw [choice, ble_of_lt (p := d 1) (by omega), ble_of_le (p := d 2) (q := d 1) (by omega)]
    rfl
  · rw [choice, ble_of_lt (p := d 2) (q := d 0) (by omega), ble_of_lt (p := d 2) (q := d 1) (by omega), Bool.and_false]
    rfl

/-- The reduction's first value is below every number. -/
theorem ofBits_bot : Ideal.ofBits .f32 0xFF800000#32 = (⊥ : EReal) := rfl

/-- Where a sample's three scores are real numbers in the order of its three draws, its edge type is the position of the
largest draw. -/
theorem sampled_eq (c : S64x64x3.Idx → EReal) (j : S64x64x64.Idx) (v : ℝ)
    (hc : ∀ (t : Nat) (ht : t < 3), Ideal.log (c (cnt (atType j t ht))) = (v : EReal)) (n : Nat)
    (hn : ∀ (t : Nat) (ht : t < 3), ctrOf (atType j t ht) = n + t) :
    sampled (F := Ideal) c j
      = BitVec.ofNat 32 (choice (FfcTable.draw n) (FfcTable.draw (n + 1)) (FfcTable.draw (n + 2))) := by
  have hs (t : Nat) (ht : t < 3) :
      scores (F := Ideal) c (atType j t ht) = ((noiseR (FfcTable.draw (n + t)) + v : ℝ) : EReal) := by
    rw [scores, noise_eq, hn t ht]
    exact congrArg (_ + ·) (hc t ht)
  have hl (t : Nat) : FfcTable.draw t < 8388608 := by
    have := (FfcTable.bits (BitVec.ofNat 32 t)).isLt
    rw [FfcTable.draw]
    omega
  have hm (t u : Nat) : noiseR (FfcTable.draw t) ≤ noiseR (FfcTable.draw u) ↔ FfcTable.draw t ≤ FfcTable.draw u :=
    ⟨fun h => not_lt.mp fun k => absurd (noiseR_lt k (hl t)) (not_lt.mpr h), fun h => by
      rcases h.lt_or_eq with h | h
      · exact (noiseR_lt h (hl u)).le
      · rw [h]⟩
  rw [sampled, Ideal.argReduce_eq_reduce2, Host.reduce2]
  have hmem (t : Nat) (ht : t < 3) : S64x64x64x3.rowMajor (atType j t ht) ∈ (List.finRange S64x64x64x3.numel).filter
      fun n => Gen.reducesTo_S64x64x64x3_S64x64x64_d3.drop (S64x64x64x3.rowMajor.symm n) = j := by
    rw [List.mem_filter]
    refine ⟨List.mem_finRange _, decide_eq_true ?_⟩
    rw [Equiv.symm_apply_apply]
    exact (drop_atType _ _).mpr rfl
  obtain ⟨h1, -, h3⟩ := foldl_best (fun n => (scores (F := Ideal) c (S64x64x64x3.rowMajor.symm n),
    iotaInDim S64x64x64x3 32 3 (S64x64x64x3.rowMajor.symm n))) _ _
  have h4 (u : Nat) (hu : u < 3) := h3 _ (hmem u hu)
  simp only [Equiv.symm_apply_apply, hs] at h4
  generalize List.foldl _ _ _ = R at h1 h4 ⊢
  have key : ∃ (t : Nat) (ht : t < 3), R = (((noiseR (FfcTable.draw (n + t)) + v : ℝ) : EReal), BitVec.ofNat 32 t) := by
    rcases h1 with h1 | ⟨m, hm, h1⟩
    · have h0 := h4 0 (by decide)
      rw [h1] at h0
      rcases h0 with h0 | ⟨h0, -⟩
      · exact absurd h0 not_lt_bot
      · exact absurd h0 (EReal.coe_ne_bot _)
    · have e := (drop_atType _ _).mp (of_decide_eq_true (List.mem_filter.mp hm).2)
      refine ⟨_, ((S64x64x64x3.rowMajor.symm m) 3).isLt, h1.trans ?_⟩
      rw [← hs _ ((S64x64x64x3.rowMajor.symm m) 3).isLt, ← e]
      rfl
  obtain ⟨t, ht, e⟩ := key
  rw [e]
  refine (congrArg (BitVec.ofNat 32) (choice_eq (fun u => FfcTable.draw (n + u)) ht fun u hu => ?_)).symm
  have h5 := h4 u hu
  rw [e] at h5
  rcases h5 with h5 | ⟨h5, h6⟩
  · have h5 := EReal.coe_lt_coe_iff.mp h5
    exact .inl (not_le.mp fun h => absurd ((hm _ _).mpr h) (by linarith))
  · have h5 := EReal.coe_eq_coe_iff.mp h5
    refine .inr ⟨le_antisymm ((hm _ _).mp (by linarith)) ((hm _ _).mp (by linarith)), ?_⟩
    have h6 : (BitVec.ofNat 32 t).toInt ≤ (BitVec.ofNat 32 u).toInt := h6
    clear h4 h1 hmem
    interval_cases t <;> interval_cases u <;> first | decide | exact absurd h6 (by decide)

end FfcRef

end

end
-- ==== Proof.Scalars.lean ====
/-
  One input of one output, over the extended reals.

  `entry_value`: the number a table entry stands for, from the choice of its draws.
  `term_even`, `term_odd`: the reference's term is the kernel's weighed input, or its negative at an odd output.
-/
module

public import proofs.«01_k».proof.Proof.Argmax
public import proofs.«01_k».proof.Proof.KernelPay
public import Idealize.ShloMosaic.PureOps.Ideal.Laws

@[expose] public section

noncomputable section

namespace FfcEqual

open Idealize Idealize.ShloMosaic FfcRef FfcKernel FfcTable

theorem f32_one : Ideal.ofBits .f32 0x3F800000#32 = 1 := by
  simp [Ideal.ofBits, Ideal.ieee]
  norm_num
  rw [← EReal.coe_mul]
  norm_num

theorem f32_negOne : Ideal.ofBits .f32 0xBF800000#32 = -1 := by
  simp [Ideal.ofBits, Ideal.ieee]
  norm_num
  rw [← EReal.coe_mul]
  norm_num

theorem f32_negTen : Ideal.ofBits .f32 0xC1200000#32 = -Ideal.ofBits .f32 0x41200000#32 := by
  simp [Ideal.ofBits, Ideal.ieee]

theorem negOne_ne : (-1 : EReal) ≠ 0 := by
  rw [ne_eq, EReal.neg_eq_zero_iff]
  exact one_ne_zero

/-- The number of a table entry, from its parity and its choice. -/
def coef (even : Bool) (k : Nat) : EReal := if k = 0 then 0 else if k = 1 then bif even then 1 else -1 else bif even then -1 else 1

theorem choice_lt (p q r : Nat) : choice p q r < 3 := by
  unfold choice
  cases q.ble p && r.ble p <;> cases r.ble q <;> decide

/-- **A table entry is the coefficient that its draws choose.** -/
theorem entry_value {even : Bool} {u v : Nat} {p q r : Nat} (h : Entry u v p q r = true) :
    Scalar.select (BitVec.ofBool (u.beq 1))
        (Scalar.select (BitVec.ofBool (v.beq 1)) (Ideal.ofBits .f32 0xBF800000#32) (Ideal.ofBits .f32 0x3F800000#32))
        (Ideal.ofBits .f32 0x00000000#32) * (if even then 1 else -1)
      = coef even (choice p q r) := by
  have h0 (y z : EReal) : Scalar.select (BitVec.ofBool (Nat.beq 0 1)) y z = z := rfl
  have hs (y z : EReal) : Scalar.select (BitVec.ofBool (Nat.beq 1 1)) y z = y := rfl
  rw [f32_one, f32_negOne, Ideal.ofBits_zero_f32]
  unfold Entry at h
  unfold choice
  cases h1 : q.ble p && r.ble p
  · rw [h1, cond_false, Bool.and_eq_true] at h
    have hu : u = 1 := Nat.eq_of_beq_eq_true h.1
    have hv : v = _ := Nat.eq_of_beq_eq_true h.2
    subst hu
    cases h2 : r.ble q <;> rw [h2] at hv <;> subst hv <;> simp only [cond_true, cond_false, h0, hs] <;> cases even <;> simp [coef]
  · rw [h1] at h
    have hu : u = 0 := Nat.eq_of_beq_eq_true h
    subst hu
    rw [h0]
    cases even <;> simp [coef]

/-- The draws of a table entry that is there choose an edge. -/
theorem entry_there {u v : Nat} {p q r : Nat} (h : Entry u v p q r = true) (ht : u = 1) : choice p q r ≠ 0 := by
  unfold Entry at h
  unfold choice
  subst ht
  cases h1 : q.ble p && r.ble p
  · cases r.ble q <;> decide
  · rw [h1, cond_true] at h
    exact absurd h (by decide)

/-- One term of the reference, from an edge type, whether the output is of the first operator, and an input. -/
def termOf (k : BitVec 32) (first : BitVec 1) (x : EReal) : EReal :=
  FloatOps.addf (F := Ideal) (φ := .f32)
    (Scalar.select (IntOp.cmpi .eq k 1#32) x
      (Scalar.select (IntOp.cmpi .eq k 2#32) (FloatOps.hostNegf (F := Ideal) (φ := .f32) x)
        (FloatOps.ofBits (F := Ideal) .f32 0#32)))
    (Scalar.select (IntOp.cmpi .eq k 0#32)
      (Scalar.select first (FloatOps.ofBits (F := Ideal) .f32 0x41200000#32) (FloatOps.ofBits (F := Ideal) .f32 0xC1200000#32))
      (FloatOps.ofBits (F := Ideal) .f32 0#32))

theorem termOf_zero (first : BitVec 1) (x : EReal) : termOf (BitVec.ofNat 32 0) first x
    = 0 + Scalar.select first (Ideal.ofBits .f32 0x41200000#32) (Ideal.ofBits .f32 0xC1200000#32) := by
  show Ideal.ofBits .f32 0#32 + _ = _
  rw [Ideal.ofBits_zero_f32]
  rfl

theorem termOf_one (first : BitVec 1) (x : EReal) : termOf (BitVec.ofNat 32 1) first x = x := by
  show x + Ideal.ofBits .f32 0#32 = _
  rw [Ideal.ofBits_zero_f32, add_zero]

theorem termOf_two (first : BitVec 1) (x : EReal) : termOf (BitVec.ofNat 32 2) first x = -x := by
  show -x + Ideal.ofBits .f32 0#32 = _
  rw [Ideal.ofBits_zero_f32, add_zero]

theorem weigh_zero (x : EReal) : weigh 0 x = Ideal.ofBits .f32 0x41200000#32 := by
  simp [weigh, Ideal.cmpf_def, Ideal.cmp, Ideal.ofBits_def, Scalar.select]

theorem weigh_ne {a : EReal} (ha : a ≠ 0) (x : EReal) : weigh a x = a * x := by
  simp [weigh, Ideal.cmpf_def, Ideal.cmp, Ideal.ofBits_def, Scalar.select, ha]

/-- **At an even output the reference's term is the kernel's weighed input.** -/
theorem term_even {k : Nat} (hk : k < 3) (x : EReal) : termOf (BitVec.ofNat 32 k) 1#1 x = weigh (coef true k) x := by
  interval_cases k
  · rw [termOf_zero]
    exact (zero_add _).trans (weigh_zero x).symm
  · rw [termOf_one]
    exact ((weigh_ne one_ne_zero x).trans (one_mul x)).symm
  · rw [termOf_two]
    rw [show coef true 2 = -1 from rfl, weigh_ne negOne_ne, EReal.neg_mul, one_mul]

/-- **At an odd output the reference's term is the negative of the kernel's weighed input.** -/
theorem term_odd {k : Nat} (hk : k < 3) (x : EReal) : termOf (BitVec.ofNat 32 k) 0#1 x = -weigh (coef false k) x := by
  interval_cases k
  · rw [termOf_zero]
    exact (zero_add _).trans (f32_negTen.trans (congrArg Neg.neg (weigh_zero x).symm))
  · rw [termOf_one]
    rw [show coef false 1 = -1 from rfl, weigh_ne negOne_ne, EReal.neg_mul, one_mul, neg_neg]
  · rw [termOf_two]
    exact congrArg Neg.neg ((weigh_ne one_ne_zero x).trans (one_mul x)).symm

/-- The negative of a least is the greatest of the negatives. -/
theorem neg_least {n : Nat} (w : Fin n → EReal) :
    (Finset.univ : Finset (Fin n)).fold max ⊥ (fun f => -w f) = -(Finset.univ : Finset (Fin n)).fold min ⊤ w := by
  have h := Finset.fold_hom (s := (Finset.univ : Finset (Fin n))) (f := w) (b := (⊤ : EReal)) (op := min) (op' := max)
    (m := fun y : EReal => -y) fun y z => EReal.neg_strictAnti.antitone.map_min
  rw [← EReal.neg_top]
  exact h

end FfcEqual

end
-- ==== Proof.Equal.lean ====
/-
  The reference's result is the kernel's.

  `equal`: under the precondition, whatever the reference leaves in its result is the kernel's stored block of the same
  input.
-/
module

public import proofs.«01_k».proof.Proof.TableSpec
public import proofs.«01_k».proof.Proof.RefRun
public import proofs.«01_k».proof.Proof.Argmax
public import proofs.«01_k».proof.Proof.KernelRun
public import proofs.«01_k».proof.Proof.KernelPay
public import proofs.«01_k».proof.Proof.Scalars
public import proofs.«01_k».proof.Proof.Pre

@[expose] public section

noncomputable section

namespace FfcEqual

open Idealize Idealize.ShloMosaic FfcRef FfcKernel FfcTable Cert.ReferenceIdeal

/-- The counter of the first draw of a batch row, an output and an input feature. -/
def counter (b o f : Fin 64) : Nat := 12288 * b.val + 192 * o.val + 3 * f.val

/-- The edge type that the draws choose. -/
def kind (b o f : Fin 64) : Nat :=
  choice (draw (counter b o f)) (draw (counter b o f + 1)) (draw (counter b o f + 2))

/-- Whether a table row is even. -/
def evenRow (o : Fin 64) : Bool := ((row o).val % 2).beq 0

/-- The table's counter and the reference's are one. -/
theorem counter_eq (b o f : Fin 64) :
    laneCtr (lane b o).val + 3 * (64 * (row o).val + f.val) = counter b o f := by
  show 12288 * ((64 * (o.val / 32) + b.val) % 64) + 6144 * ((64 * (o.val / 32) + b.val) / 64)
    + 3 * (64 * (o.val % 32) + f.val) = 12288 * b.val + 192 * o.val + 3 * f.val
  omega

/-- The two bits for a batch row, an output and an input feature are those their draws decide. -/
theorem entry (b o f : Fin 64) :
    Entry ((Cert.KernelIdeal.lit0t (128 * f.val + (lane b o).val)).toNat / 2 ^ (row o).val % 2)
      ((Cert.KernelIdeal.lit1t (128 * f.val + (lane b o).val)).toNat / 2 ^ (row o).val % 2)
      (draw (counter b o f)) (draw (counter b o f + 1)) (draw (counter b o f + 2)) = true := by
  have h := table_entry (row o).val f.val (lane b o).val (row o).isLt f.isLt (lane b o).isLt
  rwa [← Nat.add_assoc, ← Nat.add_assoc, counter_eq] at h

/-- The sign of an output's table row. -/
theorem sign_row (o : Fin 64) : sign (row o) = if evenRow o then 1 else -1 := by
  have e : IntOp.cmpi .eq (IntOp.andi (BitVec.ofNat 32 (row o).val) 1#32) 0#32 = BitVec.ofBool (evenRow o) := by
    revert o
    decide
  unfold sign
  rw [e]
  cases evenRow o
  · exact f32_negOne
  · exact f32_one

/-- The number that the table holds for a batch row, an output and an input feature. -/
theorem table_value (b o f : Fin 64) :
    table (F := Ideal) (ix3 (row o) f (lane b o)) = coef (evenRow o) (kind b o f) := by
  rw [table_apply, bit_eq _ _ (row o).isLt, bit_eq _ _ (row o).isLt, sign_row]
  exact entry_value (entry b o f)

/-- Every batch row and output have an input feature whose draws choose an edge. -/
theorem kind_ne (b o : Fin 64) : ∃ f, kind b o f ≠ 0 := by
  obtain ⟨f, hf, h⟩ := table_edge (row o).val (lane b o).val (row o).isLt (lane b o).isLt
  lift f to Fin 64 using hf
  exact ⟨f, entry_there (entry b o f) h⟩

variable [Cert.Pre_as_initialised.Facts] {x : S64x64.Idx → EReal} {c : S64x64x3.Idx → EReal} {op : S64.Idx → BitVec 32}

/-- The edge type that the reference samples is the one the draws choose. -/
theorem sampled_kind (h : ∀ q, Cert.Pre_as_initialised.fn (F := Ideal) x c op q = 1#1) (b o f : Fin 64) :
    sampled (F := Ideal) c (ix3 b o f) = BitVec.ofNat 32 (kind b o f) := by
  obtain ⟨r, hr, hc⟩ := FfcPre.counts h o f
  refine sampled_eq c (ix3 b o f) (Real.log r) (fun t ht => ?_) (counter b o f) fun t ht => rfl
  rw [show cnt (atType (ix3 b o f) t ht) = ix3 o f ⟨t, ht⟩ from funext fun a => Fin.ext (by fin_cases a <;> rfl), hc]
  exact log_coe hr

/-- A conjunction of one-bit values over all input features is zero where one of them is. -/
theorem all_zero (g : Fin 64 → BitVec 1) (f : Fin 64) (hf : g f = 0#1) :
    (Finset.univ : Finset (Fin 64)).fold IntOp.andi 1#1 g = 0#1 := by
  rw [← Finset.insert_erase (Finset.mem_univ f), Finset.fold_insert (Finset.notMem_erase f _), hf]
  exact BitVec.zero_and

/-- A reduction of the last axis from a constant is a fold over the input features. -/
theorem reduce_last {α : Type} (g : α → α → α) [Std.Commutative g] [Std.Associative g] (t : S64x64x64.Idx → α) (i : α) (b o : Fin 64) :
    Host.reduce g t (fun _ : S_.Idx => i) Gen.reducesTo_S64x64x64_S64x64_d2 Gen.h_S_ (pair b o)
      = (Finset.univ : Finset (Fin 64)).fold g i fun f => t (ix3 b o f) :=
  (Host.reduce_eq_fold g t _ _ _ _).trans (Shape.ReducesTo.fold_fiber_r3_a2 Gen.reducesTo_S64x64x64_S64x64_d2 (pair b o) g i t)

/-- The reference's result at a batch row and an output. -/
theorem result_apply (e : S64x64x64.Idx → BitVec 32) (b o : Fin 64) :
    result (F := Ideal) x op e (pair b o)
      = Scalar.select (IntOp.cmpi .eq (op (single o)) 1#32)
          ((Finset.univ : Finset (Fin 64)).fold min (⊤ : EReal) fun f => term (F := Ideal) x op e (ix3 b o f))
          ((Finset.univ : Finset (Fin 64)).fold max (⊥ : EReal) fun f => term (F := Ideal) x op e (ix3 b o f)) :=
  congrArg₂ (Scalar.select (IntOp.cmpi .eq (op (single o)) 1#32))
    (reduce_last (FloatOps.minimumf (F := Ideal) (φ := .f32)) _ _ b o)
    (reduce_last (FloatOps.maximumf (F := Ideal) (φ := .f32)) _ _ b o)

/-- No sample is without an edge. -/
theorem noEdges_zero (h : ∀ q, Cert.Pre_as_initialised.fn (F := Ideal) x c op q = 1#1) (b o : Fin 64) :
    noEdges (sampled (F := Ideal) c) (pair b o) = 0#1 := by
  obtain ⟨f, hf⟩ := kind_ne b o
  refine (reduce_last IntOp.andi _ 1#1 b o).trans (all_zero _ f ?_)
  rw [sampled_kind h]
  have hk : kind b o f < 3 := choice_lt _ _ _
  revert hf hk
  generalize kind b o f = k
  intro hf hk
  interval_cases k
  · exact absurd rfl hf
  · rfl
  · rfl

/-- An output's parity, as the reference's operators give it and as its table row does. -/
theorem parity (o : Fin 64) :
    IntOp.cmpi .eq (IntOp.andi (BitVec.ofNat 32 o.val) 1#32) 0#32 = BitVec.ofBool (evenRow o) := by
  revert o
  decide

/-- **Under the precondition the reference's result is the kernel's stored block.** -/
theorem equal (h : ∀ q, Cert.Pre_as_initialised.fn (F := Ideal) x c op q = 1#1) {v : S64x64.Idx → EReal}
    (hv : Holds x c op v) : v = Cert.KernelIdeal.Gen.k0_pay1 (F := Ideal) (table (F := Ideal)) x := by
  obtain ⟨s, e, he, hv⟩ := hv
  have hk (b o f : Fin 64) : e (ix3 b o f) = BitVec.ofNat 32 (kind b o f) := by
    rw [he, sampled_kind h, show pair (ix3 b o f 0) (ix3 b o f 1) = pair b o from rfl, noEdges_zero h,
      show IntOp.andi 0#1 (s (ix3 b o f)) = 0#1 from BitVec.zero_and]
    rfl
  have ht (b o f : Fin 64) :
      term (F := Ideal) x op e (ix3 b o f) = termOf (BitVec.ofNat 32 (kind b o f)) (BitVec.ofBool (evenRow o)) (x (ix2 b f)) := by
    rw [← hk, ← parity, ← FfcPre.operator h o, show x (ix2 b f) = x (pair b f) from
      congrArg x (funext fun a => Fin.ext (by fin_cases a <;> rfl))]
    rfl
  funext q
  obtain ⟨b, o, rfl⟩ : ∃ b o, q = pair b o := ⟨q 0, q 1, funext fun a => Fin.ext (by fin_cases a <;> rfl)⟩
  have hp : IntOp.cmpi .eq (op (single o)) 1#32 = BitVec.ofBool (evenRow o) := (FfcPre.operator h o).trans (parity o)
  have hw (f : Fin 64) : weigh (table (F := Ideal) (ix3 (row o) f (lane b o))) (x (ix2 b f))
      = weigh (coef (evenRow o) (kind b o f)) (x (ix2 b f)) := congrArg (weigh · _) (table_value b o f)
  have hq : ix2 b o = pair b o := funext fun a => Fin.ext (by fin_cases a <;> rfl)
  refine (hv (pair b o)).trans (Eq.trans ?_
    (congrArg (Cert.KernelIdeal.Gen.k0_pay1 (F := Ideal) (table (F := Ideal)) x) hq))
  rw [result_apply, pay_apply, sign_row, Finset.fold_congr fun f _ => hw f, hp]
  simp only [ht]
  have hc (f : Fin 64) : kind b o f < 3 := choice_lt _ _ _
  have h0 (y z : EReal) : Scalar.select (BitVec.ofBool false) y z = z := rfl
  have h1 (y z : EReal) : Scalar.select (BitVec.ofBool true) y z = y := rfl
  cases evenRow o
  · rw [h0, if_neg (by decide), Ideal.mulf_def, mul_neg, mul_one]
    have ho (f : Fin 64) : termOf (BitVec.ofNat 32 (kind b o f)) (BitVec.ofBool false) (x (ix2 b f))
        = -weigh (coef false (kind b o f)) (x (ix2 b f)) := term_odd (hc f) _
    simp only [ho]
    exact neg_least _
  · rw [h1, if_pos rfl, Ideal.mulf_def, mul_one]
    have ho (f : Fin 64) : termOf (BitVec.ofNat 32 (kind b o f)) (BitVec.ofBool true) (x (ix2 b f))
        = weigh (coef true (kind b o f)) (x (ix2 b f)) := term_even (hc f) _
    simp only [ho]
    rfl

end FfcEqual

end
-- ==== Proof.lean ====
/-
  The assembled proof of `Cert.Claim`.

  The frames of the kernel come from its generated modules, that of the reference from its run. The value claim takes
  the kernel's run and the reference's run to one result.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.KernelRun
public import proofs.«01_k».proof.Proof.RefRun
public import proofs.«01_k».proof.Proof.Pre
public import proofs.«01_k».proof.Proof.Equal
public import Idealize.ShloMosaic.Adequacy
public import Idealize.ShloMosaic.Init

@[expose] public section

noncomputable section

namespace Cert.Proof

open Idealize.ShloMosaic Idealize.SL.Sem

/-- The reference runs, changes no argument and leaves every semaphore at zero. -/
theorem reference_frame : Cert.quiescent_ReferenceIdeal (hReferenceIdeal := Cert.ReferenceIdeal.Gen.facts) :=
  fun m ρ _ => θ_run_mono (FfcRef.run m ρ) fun _ h => ⟨fun c => (h.1 c).2, h.2⟩

/-- Under the precondition the kernel and the reference leave one result. -/
theorem values : Cert.algebraic_KernelIdeal_ReferenceIdeal_pre_as_initialised
    (hKernelIdeal := Cert.KernelIdeal.Gen.facts) (hReferenceIdeal := Cert.ReferenceIdeal.Gen.facts)
    (hPre_as_initialised := FfcPre.facts) := by
  intro m ρ m' ρ' hpre hargs
  refine ⟨fun c => Cert.KernelIdeal.Gen.k0_pay1 (F := Ideal) (FfcKernel.table (F := Ideal)) (m (c.tc.loc Cert.KernelIdeal.main_arg0)),
    FfcKernel.run m ρ, θ_run_mono (FfcRef.run m' ρ') fun r h c => ⟨?_, (h.1 c).2⟩⟩
  have hv := (h.1 c).1
  rw [(hargs c).1, (hargs c).2.1, (hargs c).2.2] at hv
  haveI := FfcPre.facts
  exact FfcEqual.equal (fun q => congrFun (hpre c) q) hv

/-- **Every claim of the certificate.** -/
theorem claim : Cert.Claim :=
  ⟨Cert.Kernel.Gen.facts, Cert.KernelIdeal.Gen.facts, Cert.ReferenceIdeal.Gen.facts, FfcPre.facts,
    fun m ρ _ => Cert.Kernel.Gen.frame m ρ, fun m ρ _ => Cert.KernelIdeal.Gen.frame m ρ,
    fun m ρ _ => Cert.KernelIdeal.Gen.frame m ρ, reference_frame, fun m ρ _ => reference_frame m ρ trivial, trivial, values⟩

end Cert.Proof

end
